-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_slope [hPre_finite_slope : Cert.Pre_finite_slope.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_slope.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_slope [hPre_finite_slope : Cert.Pre_finite_slope.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_slope.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_logits [hPre_finite_logits : Cert.Pre_finite_logits.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_logits.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_logits [hPre_finite_logits : Cert.Pre_finite_logits.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_logits.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_slope [hKernel8Ideal : Cert.Kernel8Ideal.Facts] [hPre_finite_slope : Cert.Pre_finite_slope.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_slope m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_slope [hReference8Ideal : Cert.Reference8Ideal.Facts] [hPre_finite_slope : Cert.Pre_finite_slope.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_slope m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel9Ideal_pre_finite_logits [hKernel9Ideal : Cert.Kernel9Ideal.Facts] [hPre_finite_logits : Cert.Pre_finite_logits.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_logits m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Reference9Ideal_pre_finite_logits [hReference9Ideal : Cert.Reference9Ideal.Facts] [hPre_finite_logits : Cert.Pre_finite_logits.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_logits m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "inv_head" .f32 0x3BAAAAAB#32 ((1 / 192 : ℝ) : EReal)

def algebraic_Kernel8Ideal_Reference8Ideal_pre_finite_slope [hKernel8Ideal : Cert.Kernel8Ideal.Facts] [hReference8Ideal : Cert.Reference8Ideal.Facts] [hPre_finite_slope : Cert.Pre_finite_slope.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_slope m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v37)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v37) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite_logits [hKernel9Ideal : Cert.Kernel9Ideal.Facts] [hReference9Ideal : Cert.Reference9Ideal.Facts] [hPre_finite_logits : Cert.Pre_finite_logits.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_logits m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_slope : Cert.Pre_finite_slope.Facts) (hPre_finite_logits : Cert.Pre_finite_logits.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_slope (hKernel8Ideal := hKernel8Ideal) (hPre_finite_slope := hPre_finite_slope)
    ∧ quiescent_Reference8Ideal (hReference8Ideal := hReference8Ideal)
    ∧ quiescent_Reference8Ideal_pre_finite_slope (hReference8Ideal := hReference8Ideal) (hPre_finite_slope := hPre_finite_slope)
    ∧ quiescent_Kernel9 (hKernel9 := hKernel9)
    ∧ quiescent_Kernel9Ideal (hKernel9Ideal := hKernel9Ideal)
    ∧ quiescent_Kernel9Ideal_pre_finite_logits (hKernel9Ideal := hKernel9Ideal) (hPre_finite_logits := hPre_finite_logits)
    ∧ quiescent_Reference9Ideal (hReference9Ideal := hReference9Ideal)
    ∧ quiescent_Reference9Ideal_pre_finite_logits (hReference9Ideal := hReference9Ideal) (hPre_finite_logits := hPre_finite_logits)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_slope (hKernel8Ideal := hKernel8Ideal) (hReference8Ideal := hReference8Ideal) (hPre_finite_slope := hPre_finite_slope)
    ∧ preserves_Kernel9_Kernel9Ideal
    ∧ algebraic_Kernel9Ideal_Reference9Ideal_pre_finite_logits (hKernel9Ideal := hKernel9Ideal) (hReference9Ideal := hReference9Ideal) (hPre_finite_logits := hPre_finite_logits)
-- ==== Pre_finite.lean ====
abbrev S4x2048x8x128 : Shape := ⟨4, ![4, 2048, 8, 128]⟩
abbrev S4x8x2048 : Shape := ⟨3, ![4, 8, 2048]⟩
abbrev S_ : Shape := ⟨0, ![]⟩

class Facts : Prop where
  bcast_S_S4x8x2048 : S_.BroadcastsInDim S4x8x2048 (![] : Fin 0 → Fin S4x8x2048.rank)
  reducesTo_S4x8x2048_S_d0_1_2 : S4x8x2048.ReducesTo [0, 1, 2] S_
  h_S_ : 0 < S_.numel

variable [Facts]

def fn {F : FTy → Type} [FloatOps F] (main_arg0 : FVec F S4x2048x8x128 .f32) (main_arg1 : FVec F S4x2048x8x128 .f32) (main_arg2 : FVec F S4x2048x8x128 .f32) (main_arg3 : FVec F S4x8x2048 .f32) : IVec S_ 1 :=
  let main_v0 : FVec F S4x8x2048 .f32 := Host.absf main_arg3
  let main_cst : FVec F S_ .f32 := constant S_ .f32 0x7F800000#32
  let main_v1 : FVec F S4x8x2048 .f32 := broadcastInDim S4x8x2048 ![] bcast_S_S4x8x2048 main_cst
  let main_v2 : IVec S4x8x2048 1 := cmpf .olt main_v0 main_v1
  let main_c : IVec S_ 1 := constantI S_ 1 1#1
  let main_v3 : IVec S_ 1 := (fun x v => Host.reduce IntOp.andi x v reducesTo_S4x8x2048_S_d0_1_2 h_S_) main_v2 main_c
  main_v3
-- ==== Pre_finite_logits.lean ====
abbrev S8192x768 : Shape := ⟨2, ![8192, 768]⟩
abbrev S8 : Shape := ⟨1, ![8]⟩
abbrev S8192x8 : Shape := ⟨2, ![8192, 8]⟩
abbrev S4x2048x8 : Shape := ⟨3, ![4, 2048, 8]⟩
abbrev S1x1x8 : Shape := ⟨3, ![1, 1, 8]⟩
abbrev S_ : Shape := ⟨0, ![]⟩

class Facts : Prop where
  slices_S8192x768_S8192x8_0_192 : S8192x768.Slices ![0, 192] S8192x8
  shapeCasts_S8192x8_S4x2048x8 : S8192x8.ShapeCasts S4x2048x8
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S_S4x2048x8 : S_.BroadcastsInDim S4x2048x8 (![] : Fin 0 → Fin S4x2048x8.rank)
  reducesTo_S4x2048x8_S_d0_1_2 : S4x2048x8.ReducesTo [0, 1, 2] S_
  h_S_ : 0 < S_.numel

variable [Facts]

def fn {F : FTy → Type} [FloatOps F] (main_arg0 : FVec F S8192x768 .f32) (main_arg1 : FVec F S8 .f32) : IVec S_ 1 :=
  let main_v0 : FVec F S8192x8 .f32 := (extractStridedSlice S8192x8 ![0, 192] · slices_S8192x768_S8192x8_0_192) main_arg0
  let main_v1 : FVec F S4x2048x8 .f32 := shapeCast S4x2048x8 main_v0 shapeCasts_S8192x8_S4x2048x8
  let main_v2 : FVec F S1x1x8 .f32 := broadcastInDim S1x1x8 ![2] bcast_S8_S1x1x8_2 main_arg1
  let main_v3 : FVec F S4x2048x8 .f32 := broadcastInDim S4x2048x8 ![0, 1, 2] bcast_S1x1x8_S4x2048x8_0_1_2 main_v2
  let main_v4 : FVec F S4x2048x8 .f32 := addf main_v1 main_v3
  let main_cst : FVec F S_ .f32 := constant S_ .f32 0xFF800000#32
  let main_v5 : FVec F S4x2048x8 .f32 := broadcastInDim S4x2048x8 ![] bcast_S_S4x2048x8 main_cst
  let main_v6 : IVec S4x2048x8 1 := cmpf .ogt main_v4 main_v5
  let main_c : IVec S_ 1 := constantI S_ 1 1#1
  let main_v7 : IVec S_ 1 := (fun x v => Host.reduce IntOp.andi x v reducesTo_S4x2048x8_S_d0_1_2 h_S_) main_v6 main_c
  main_v7
-- ==== Pre_finite_slope.lean ====
abbrev S4x2048x2048 : Shape := ⟨3, ![4, 2048, 2048]⟩
abbrev S2048x10656 : Shape := ⟨2, ![2048, 10656]⟩
abbrev S192 : Shape := ⟨1, ![192]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S4x2048x2048 .f32) (main_arg1 : FVec F S2048x10656 .f32) (main_arg2 : FVec F S192 .f32) (main_arg3 : FVec F S8 .f32) : IVec S_ 1 :=
  let main_v0 : FVec F S8 .f32 := Host.absf main_arg3
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  main_v3
-- ==== Kernel.lean ====
abbrev S4x2048x8x128 : Shape := ⟨4, ![4, 2048, 8, 128]⟩
abbrev S4x8x2048 : Shape := ⟨3, ![4, 8, 2048]⟩
abbrev S_ : Shape := ⟨0, ![]⟩
abbrev S8192x1024 : Shape := ⟨2, ![8192, 1024]⟩
abbrev S8192x3072 : Shape := ⟨2, ![8192, 3072]⟩
abbrev S4x2048x8 : Shape := ⟨3, ![4, 2048, 8]⟩
abbrev S8192x8 : Shape := ⟨2, ![8192, 8]⟩
abbrev S8192x64 : Shape := ⟨2, ![8192, 64]⟩
abbrev S8192x39 : Shape := ⟨2, ![8192, 39]⟩
abbrev S8192x1 : Shape := ⟨2, ![8192, 1]⟩
abbrev S8192x128 : Shape := ⟨2, ![8192, 128]⟩
abbrev S4x8x1x2048 : Shape := ⟨4, ![4, 8, 1, 2048]⟩
abbrev S512x512 : Shape := ⟨2, ![512, 512]⟩
abbrev S2048x512 : Shape := ⟨2, ![2048, 512]⟩
abbrev S2048x128 : Shape := ⟨2, ![2048, 128]⟩
abbrev S1x4x1x512 : Shape := ⟨4, ![1, 4, 1, 512]⟩
abbrev S4x144x2048 : Shape := ⟨3, ![4, 144, 2048]⟩
abbrev S4x2048x256 : Shape := ⟨3, ![4, 2048, 256]⟩
abbrev S128x128 : Shape := ⟨2, ![128, 128]⟩
abbrev S128x2048 : Shape := ⟨2, ![128, 2048]⟩
abbrev S1x128x2048 : Shape := ⟨3, ![1, 128, 2048]⟩
abbrev S16x2048 : Shape := ⟨2, ![16, 2048]⟩
abbrev S1x16x2048 : Shape := ⟨3, ![1, 16, 2048]⟩
abbrev S1x2048x128 : Shape := ⟨3, ![1, 2048, 128]⟩
abbrev S128x512 : Shape := ⟨2, ![128, 512]⟩
abbrev S1x1x1x512 : Shape := ⟨4, ![1, 1, 1, 512]⟩
abbrev S1x512 : Shape := ⟨2, ![1, 512]⟩
abbrev S512x128 : Shape := ⟨2, ![512, 128]⟩
abbrev S256x512 : Shape := ⟨2, ![256, 512]⟩
abbrev S1x512x256 : Shape := ⟨3, ![1, 512, 256]⟩
abbrev S512x256 : Shape := ⟨2, ![512, 256]⟩
abbrev S512 : Shape := ⟨1, ![512]⟩
abbrev S1x144x512 : Shape := ⟨3, ![1, 144, 512]⟩
abbrev S144x512 : Shape := ⟨2, ![144, 512]⟩

abbrev nBuf : Space → Nat
  | .hbm => 38
  | .vmem => 14
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x8x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x2048x8x128, .f32⟩
  | .hbm, ⟨11, _⟩ => ⟨S4x2048x8x128, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x3072, .f32⟩
  | .hbm, ⟨16, _⟩ => ⟨S8192x3072, .bf16⟩
  | .hbm, ⟨17, _⟩ => ⟨S4x8x2048, .f32⟩
  | .hbm, ⟨18, _⟩ => ⟨S4x8x2048, .f32⟩
  | .hbm, ⟨19, _⟩ => ⟨S4x2048x8, .f32⟩
  | .hbm, ⟨20, _⟩ => ⟨S8192x8, .f32⟩
  | .hbm, ⟨21, _⟩ => ⟨S8192x8, .f32⟩
  | .hbm, ⟨22, _⟩ => ⟨S8192x8, .bf16⟩
  | .hbm, ⟨23, _⟩ => ⟨S8192x8, .f32⟩
  | .hbm, ⟨24, _⟩ => ⟨S8192x8, .f32⟩
  | .hbm, ⟨25, _⟩ => ⟨S8192x8, .bf16⟩
  | .hbm, ⟨26, _⟩ => ⟨S8192x8, .f32⟩
  | .hbm, ⟨27, _⟩ => ⟨S8192x8, .f32⟩
  | .hbm, ⟨28, _⟩ => ⟨S8192x8, .bf16⟩
  | .hbm, ⟨29, _⟩ => ⟨S_, .bf16⟩
  | .hbm, ⟨30, _⟩ => ⟨S8192x64, .bf16⟩
  | .hbm, ⟨31, _⟩ => ⟨S_, .bf16⟩
  | .hbm, ⟨32, _⟩ => ⟨S8192x39, .bf16⟩
  | .hbm, ⟨33, _⟩ => ⟨S_, .bf16⟩
  | .hbm, ⟨34, _⟩ => ⟨S8192x1, .bf16⟩
  | .hbm, ⟨35, _⟩ => ⟨S8192x128, .bf16⟩
  | .hbm, ⟨36, _⟩ => ⟨S4x8x1x2048, .f32⟩
  | .hbm, ⟨37, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x128, .bf16⟩
  | .local _ .vmem, ⟨7, _⟩ => ⟨S2048x128, .bf16⟩
  | .local _ .vmem, ⟨8, _⟩ => ⟨S1x4x1x512, .f32⟩
  | .local _ .vmem, ⟨9, _⟩ => ⟨S1x4x1x512, .f32⟩
  | .local _ .vmem, ⟨10, _⟩ => ⟨S512x512, .bf16⟩
  | .local _ .vmem, ⟨11, _⟩ => ⟨S512x512, .bf16⟩
  | .local _ .vmem, ⟨12, _⟩ => ⟨S4x144x2048, .bf16⟩
  | .local _ .vmem, ⟨13, _⟩ => ⟨S4x2048x256, .bf16⟩
  | _, _ => ⟨S4x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c0_i32_42 : BitVec 32 := 0#32
  let v154 : BitVec 32 := Scalar.maxsi arg2 c0_i32_42
  let c3_i32_43 : BitVec 32 := 3#32
  let v155 : BitVec 32 := Scalar.minsi v154 c3_i32_43
  let c0_i32_44 : BitVec 32 := 0#32
  let v156 : BitVec 1 := Scalar.cmpi .ne v155 c0_i32_44
  v156

def k0_cond3 (i : grid0.Coords) : BitVec 1 :=
  let arg2 : BitVec 32 := BitVec.ofNat 32 (i 2).val
  let c0_i32_42 : BitVec 32 := 0#32
  let v154 : BitVec 32 := Scalar.maxsi arg2 c0_i32_42
  let c3_i32_43 : BitVec 32 := 3#32
  let v155 : BitVec 32 := Scalar.minsi v154 c3_i32_43
  let c1_i32 : BitVec 32 := 1#32
  let v157 : BitVec 32 := Scalar.subi v155 c1_i32
  let c0_i32_45 : BitVec 32 := 0#32
  let v158 : BitVec 1 := Scalar.cmpi .ne v157 c0_i32_45
  v158

def k0_cond4 (i : grid0.Coords) : BitVec 1 :=
  let arg2 : BitVec 32 := BitVec.ofNat 32 (i 2).val
  let c0_i32_42 : BitVec 32 := 0#32
  let v154 : BitVec 32 := Scalar.maxsi arg2 c0_i32_42
  let c3_i32_43 : BitVec 32 := 3#32
  let v155 : BitVec 32 := Scalar.minsi v154 c3_i32_43
  let c1_i32 : BitVec 32 := 1#32
  let v157 : BitVec 32 := Scalar.subi v155 c1_i32
  let c1_i32_46 : BitVec 32 := 1#32
  let v159 : BitVec 32 := Scalar.subi v157 c1_i32_46
  let c0_i32_47 : BitVec 32 := 0#32
  let v160 : BitVec 1 := Scalar.cmpi .ne v159 c0_i32_47
  v160

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x8x128 : Shape := ⟨4, ![4, 2048, 8, 128]⟩
abbrev S4x8x2048 : Shape := ⟨3, ![4, 8, 2048]⟩
abbrev S2048 : Shape := ⟨1, ![2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S1x2048 : Shape := ⟨2, ![1, 2048]⟩
abbrev S2048x1 : Shape := ⟨2, ![2048, 1]⟩
abbrev S2048x2048 : Shape := ⟨2, ![2048, 2048]⟩
abbrev S4x8x128x2048 : Shape := ⟨4, ![4, 8, 128, 2048]⟩
abbrev S8192x1024 : Shape := ⟨2, ![8192, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x8x128, .f32⟩
  | .hbm, ⟨1, _⟩ => ⟨S4x2048x8x128, .f32⟩
  | .hbm, ⟨2, _⟩ => ⟨S4x2048x8x128, .f32⟩
  | .hbm, ⟨3, _⟩ => ⟨S4x8x2048, .f32⟩
  | .hbm, ⟨4, _⟩ => ⟨S2048, .i32⟩
  | .hbm, ⟨5, _⟩ => ⟨S4x8x2048x2048, .f32⟩
  | .hbm, ⟨6, _⟩ => ⟨S_, .f32⟩
  | .hbm, ⟨7, _⟩ => ⟨S4x8x2048x2048, .f32⟩
  | .hbm, ⟨8, _⟩ => ⟨S4x8x2048x2048, .f32⟩
  | .hbm, ⟨9, _⟩ => ⟨S4x8x2048x1, .f32⟩
  | .hbm, ⟨10, _⟩ => ⟨S4x8x2048x2048, .f32⟩
  | .hbm, ⟨11, _⟩ => ⟨S4x8x2048x2048, .f32⟩
  | .hbm, ⟨12, _⟩ => ⟨S4x8x1x2048, .f32⟩
  | .hbm, ⟨13, _⟩ => ⟨S4x8x2048x2048, .f32⟩
  | .hbm, ⟨14, _⟩ => ⟨S4x8x2048x2048, .f32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S_, .f32⟩
  | .hbm, ⟨26, _⟩ => ⟨S4x8x2048, .f32⟩
  | .hbm, ⟨27, _⟩ => ⟨S4x8x2048x1, .f32⟩
  | .hbm, ⟨28, _⟩ => ⟨S4x8x2048x1, .f32⟩
  | .hbm, ⟨29, _⟩ => ⟨S_, .f32⟩
  | .hbm, ⟨30, _⟩ => ⟨S4x8x2048x1, .f32⟩
  | .hbm, ⟨31, _⟩ => ⟨S4x8x2048x1, .i1⟩
  | .hbm, ⟨32, _⟩ => ⟨S_, .f32⟩
  | .hbm, ⟨33, _⟩ => ⟨S_, .f32⟩
  | .hbm, ⟨34, _⟩ => ⟨S4x8x2048x1, .f32⟩
  | .hbm, ⟨35, _⟩ => ⟨S4x8x2048x1, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S_, .f32⟩
  | .hbm, ⟨40, _⟩ => ⟨S_, .f32⟩
  | .hbm, ⟨41, _⟩ => ⟨S4x8x2048x2048, .i1⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S_, .f32⟩
  | .hbm, ⟨48, _⟩ => ⟨S4x8x2048x1, .f32⟩
  | .hbm, ⟨49, _⟩ => ⟨S4x8x2048x1, .f32⟩
  | .hbm, ⟨50, _⟩ => ⟨S4x8x2048x2048, .f32⟩
  | .hbm, ⟨51, _⟩ => ⟨S4x8x2048x2048, .f32⟩
  | .hbm, ⟨52, _⟩ => ⟨S4x8x128x2048, .f32⟩
  | .hbm, ⟨53, _⟩ => ⟨S4x2048x8x128, .f32⟩
  | .hbm, ⟨54, _⟩ => ⟨S8192x1024, .f32⟩
  | .hbm, ⟨55, _⟩ => ⟨S8192x1024, .bf16⟩
  | _, _ => ⟨S4x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2048x1024 : Shape := ⟨3, ![4, 2048, 1024]⟩
abbrev S2048x10656 : Shape := ⟨2, ![2048, 10656]⟩
abbrev S1024x2048 : Shape := ⟨2, ![1024, 2048]⟩
abbrev S10656x2048 : Shape := ⟨2, ![10656, 2048]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S1024x512 : Shape := ⟨2, ![1024, 512]⟩
abbrev S512x512 : Shape := ⟨2, ![512, 512]⟩
abbrev S2048x512 : Shape := ⟨2, ![2048, 512]⟩

abbrev nBuf : Space → Nat
  | .hbm => 14
  | .vmem => 20
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S2048x10656, .f32⟩
  | .hbm, ⟨4, _⟩ => ⟨S1024x2048, .f32⟩
  | .hbm, ⟨5, _⟩ => ⟨S1024x2048, .f32⟩
  | .hbm, ⟨6, _⟩ => ⟨S10656x2048, .f32⟩
  | .hbm, ⟨7, _⟩ => ⟨S8192x2048, .f32⟩
  | .hbm, ⟨8, _⟩ => ⟨S8192x2048, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S512x512, .bf16⟩
  | .local _ .vmem, ⟨15, _⟩ => ⟨S512x512, .bf16⟩
  | .local _ .vmem, ⟨16, _⟩ => ⟨S2048x512, .bf16⟩
  | .local _ .vmem, ⟨17, _⟩ => ⟨S2048x512, .bf16⟩
  | .local _ .vmem, ⟨18, _⟩ => ⟨S1024x512, .bf16⟩
  | .local _ .vmem, ⟨19, _⟩ => ⟨S1024x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg0 : BitVec 32 := BitVec.ofNat 32 (i 0).val
  let c0_i32 : BitVec 32 := 0#32
  let v4 : BitVec 1 := Scalar.cmpi .eq arg0 c0_i32
  let c6560_i32 : BitVec 32 := 6560#32
  let c1_i32 : BitVec 32 := 1#32
  let v2 : BitVec 1 := Scalar.cmpi .eq arg0 c1_i32
  let c7072_i32 : BitVec 32 := 7072#32
  let c2_i32 : BitVec 32 := 2#32
  let v0 : BitVec 1 := Scalar.cmpi .eq arg0 c2_i32
  let c7584_i32 : BitVec 32 := 7584#32
  let c8096_i32 : BitVec 32 := 8096#32
  let v1 : BitVec 32 := Scalar.select v0 c7584_i32 c8096_i32
  let v3 : BitVec 32 := Scalar.select v2 c7072_i32 v1
  let v5 : BitVec 32 := Scalar.select v4 c6560_i32 v3
  v5
def k0_mult2 (i : grid0.Coords) : BitVec 32 :=
  let arg0 : BitVec 32 := BitVec.ofNat 32 (i 0).val
  let c0_i32 : BitVec 32 := 0#32
  let v4 : BitVec 1 := Scalar.cmpi .eq arg0 c0_i32
  let c8608_i32 : BitVec 32 := 8608#32
  let c1_i32 : BitVec 32 := 1#32
  let v2 : BitVec 1 := Scalar.cmpi .eq arg0 c1_i32
  let c9120_i32 : BitVec 32 := 9120#32
  let c2_i32 : BitVec 32 := 2#32
  let v0 : BitVec 1 := Scalar.cmpi .eq arg0 c2_i32
  let c9632_i32 : BitVec 32 := 9632#32
  let c10144_i32 : BitVec 32 := 10144#32
  let v1 : BitVec 32 := Scalar.select v0 c9632_i32 c10144_i32
  let v3 : BitVec 32 := Scalar.select v2 c9120_i32 v1
  let v5 : BitVec 32 := Scalar.select v4 c8608_i32 v3
  v5
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c7584_i32 : BitVec 32 := 7584#32
  let c8096_i32 : BitVec 32 := 8096#32
  let v1 : BitVec 32 := Scalar.select v0 c7584_i32 c8096_i32
  let c1_i32 : BitVec 32 := 1#32
  let v2 : BitVec 1 := Scalar.cmpi .eq arg0 c1_i32
  let c7072_i32 : BitVec 32 := 7072#32
  let v3 : BitVec 32 := Scalar.select v2 c7072_i32 v1
  let c0_i32 : BitVec 32 := 0#32
  let v4 : BitVec 1 := Scalar.cmpi .eq arg0 c0_i32
  let c6560_i32 : BitVec 32 := 6560#32
  let v5 : BitVec 32 := Scalar.select v4 c6560_i32 v3
  let v6 : BitVec 32 := v5
  let c0_i32_0 : BitVec 32 := 0#32
  let c0_i32_1 : BitVec 32 := 0#32
  ![v6.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c9632_i32 : BitVec 32 := 9632#32
  let c10144_i32 : BitVec 32 := 10144#32
  let v1 : BitVec 32 := Scalar.select v0 c9632_i32 c10144_i32
  let c1_i32 : BitVec 32 := 1#32
  let v2 : BitVec 1 := Scalar.cmpi .eq arg0 c1_i32
  let c9120_i32 : BitVec 32 := 9120#32
  let v3 : BitVec 32 := Scalar.select v2 c9120_i32 v1
  let c0_i32 : BitVec 32 := 0#32
  let v4 : BitVec 1 := Scalar.cmpi .eq arg0 c0_i32
  let c8608_i32 : BitVec 32 := 8608#32
  let v5 : BitVec 32 := Scalar.select v4 c8608_i32 v3
  let v6 : BitVec 32 := v5
  let c0_i32_0 : BitVec 32 := 0#32
  let c0_i32_1 : BitVec 32 := 0#32
  ![v6.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x2048x2048 : Shape := ⟨3, ![4, 2048, 2048]⟩
abbrev S4x2048x1024 : Shape := ⟨3, ![4, 2048, 1024]⟩
abbrev S2048x10656 : Shape := ⟨2, ![2048, 10656]⟩
abbrev S1024x2048 : Shape := ⟨2, ![1024, 2048]⟩
abbrev S4x2048x10656 : Shape := ⟨3, ![4, 2048, 10656]⟩
abbrev S_ : Shape := ⟨0, ![]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .f32⟩
  | .hbm, ⟨2, _⟩ => ⟨S4x2048x1024, .f32⟩
  | .hbm, ⟨3, _⟩ => ⟨S2048x10656, .f32⟩
  | .hbm, ⟨4, _⟩ => ⟨S1024x2048, .f32⟩
  | .hbm, ⟨5, _⟩ => ⟨S1024x2048, .f32⟩
  | .hbm, ⟨6, _⟩ => ⟨S4x2048x10656, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S8192x2048, .f32⟩
  | .hbm, ⟨31, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S4x2048x2048 : Shape := ⟨3, ![4, 2048, 2048]⟩
abbrev S2048x5632 : Shape := ⟨2, ![2048, 5632]⟩
abbrev S8192x2048 : Shape := ⟨2, ![8192, 2048]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x2048, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x2048 : Shape := ⟨3, ![4, 2048, 2048]⟩
abbrev S2048x5632 : Shape := ⟨2, ![2048, 5632]⟩
abbrev S4x2048x5632 : Shape := ⟨3, ![4, 2048, 5632]⟩
abbrev S_ : Shape := ⟨0, ![]⟩
abbrev S8192x5632 : Shape := ⟨2, ![8192, 5632]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x5632, .f32⟩
  | .hbm, ⟨2, _⟩ => ⟨S2048x5632, .f32⟩
  | .hbm, ⟨3, _⟩ => ⟨S4x2048x5632, .f32⟩
  | .hbm, ⟨4, _⟩ => ⟨S4x2048x5632, .f32⟩
  | .hbm, ⟨5, _⟩ => ⟨S4x2048x5632, .f32⟩
  | .hbm, ⟨6, _⟩ => ⟨S_, .f32⟩
  | .hbm, ⟨7, _⟩ => ⟨S4x2048x5632, .f32⟩
  | .hbm, ⟨8, _⟩ => ⟨S4x2048x5632, .f32⟩
  | .hbm, ⟨9, _⟩ => ⟨S_, .f32⟩
  | .hbm, ⟨10, _⟩ => ⟨S4x2048x5632, .f32⟩
  | .hbm, ⟨11, _⟩ => ⟨S4x2048x5632, .f32⟩
  | .hbm, ⟨12, _⟩ => ⟨S4x2048x5632, .f32⟩
  | .hbm, ⟨13, _⟩ => ⟨S4x2048x5632, .f32⟩
  | .hbm, ⟨14, _⟩ => ⟨S4x2048x5632, .f32⟩
  | .hbm, ⟨15, _⟩ => ⟨S8192x5632, .f32⟩
  | .hbm, ⟨16, _⟩ => ⟨S8192x5632, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel4.lean ====
abbrev S4x2048x5632 : Shape := ⟨3, ![4, 2048, 5632]⟩
abbrev S5632x2048 : Shape := ⟨2, ![5632, 2048]⟩
abbrev S4x2048x2048 : Shape := ⟨3, ![4, 2048, 2048]⟩
abbrev S8192x5632 : Shape := ⟨2, ![8192, 5632]⟩
abbrev S8192x2048 : Shape := ⟨2, ![8192, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x5632, .f32⟩
  | .hbm, ⟨1, _⟩ => ⟨S5632x2048, .f32⟩
  | .hbm, ⟨2, _⟩ => ⟨S4x2048x2048, .f32⟩
  | .hbm, ⟨3, _⟩ => ⟨S8192x5632, .f32⟩
  | .hbm, ⟨4, _⟩ => ⟨S8192x5632, .bf16⟩
  | .hbm, ⟨5, _⟩ => ⟨S8192x2048, .f32⟩
  | .hbm, ⟨6, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .f32⟩
  | .local _ .vmem, ⟨3, _⟩ => ⟨S5632x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5632x512, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x5632 : Shape := ⟨3, ![4, 2048, 5632]⟩
abbrev S5632x2048 : Shape := ⟨2, ![5632, 2048]⟩
abbrev S4x2048x2048 : Shape := ⟨3, ![4, 2048, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S5632x2048, .f32⟩
  | .hbm, ⟨2, _⟩ => ⟨S4x2048x2048, .f32⟩
  | .hbm, ⟨3, _⟩ => ⟨S4x2048x2048, .f32⟩
  | .hbm, ⟨4, _⟩ => ⟨S4x2048x2048, .f32⟩
  | .hbm, ⟨5, _⟩ => ⟨S8192x2048, .f32⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S2048x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S4x2048x2048 : Shape := ⟨3, ![4, 2048, 2048]⟩
abbrev S2048x10656 : Shape := ⟨2, ![2048, 10656]⟩
abbrev S128 : Shape := ⟨1, ![128]⟩
abbrev S10656x2048 : Shape := ⟨2, ![10656, 2048]⟩
abbrev S1x128 : Shape := ⟨2, ![1, 128]⟩
abbrev S8x128 : Shape := ⟨2, ![8, 128]⟩
abbrev S1024 : Shape := ⟨1, ![1024]⟩
abbrev S_ : Shape := ⟨0, ![]⟩
abbrev S3072 : Shape := ⟨1, ![3072]⟩
abbrev S2048 : Shape := ⟨1, ![2048]⟩
abbrev S8192x2048 : Shape := ⟨2, ![8192, 2048]⟩
abbrev S1x3072 : Shape := ⟨2, ![1, 3072]⟩
abbrev S8192x3072 : Shape := ⟨2, ![8192, 3072]⟩
abbrev S1024x2048 : Shape := ⟨2, ![1024, 2048]⟩
abbrev S1x1024 : Shape := ⟨2, ![1, 1024]⟩
abbrev S1024x1024 : Shape := ⟨2, ![1024, 1024]⟩
abbrev S2048x1024 : Shape := ⟨2, ![2048, 1024]⟩
abbrev S1024x512 : Shape := ⟨2, ![1024, 512]⟩
abbrev S512x1024 : Shape := ⟨2, ![512, 1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 24
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S2048x10656, .f32⟩
  | .hbm, ⟨2, _⟩ => ⟨S128, .f32⟩
  | .hbm, ⟨3, _⟩ => ⟨S128, .f32⟩
  | .hbm, ⟨4, _⟩ => ⟨S10656x2048, .f32⟩
  | .hbm, ⟨5, _⟩ => ⟨S1x128, .f32⟩
  | .hbm, ⟨6, _⟩ => ⟨S8x128, .f32⟩
  | .hbm, ⟨7, _⟩ => ⟨S1024, .f32⟩
  | .hbm, ⟨8, _⟩ => ⟨S1x128, .f32⟩
  | .hbm, ⟨9, _⟩ => ⟨S8x128, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S3072, .f32⟩
  | .hbm, ⟨14, _⟩ => ⟨S_, .f32⟩
  | .hbm, ⟨15, _⟩ => ⟨S2048, .f32⟩
  | .hbm, ⟨16, _⟩ => ⟨S_, .f32⟩
  | .hbm, ⟨17, _⟩ => ⟨S1024, .f32⟩
  | .hbm, ⟨18, _⟩ => ⟨S3072, .f32⟩
  | .hbm, ⟨19, _⟩ => ⟨S8192x2048, .f32⟩
  | .hbm, ⟨20, _⟩ => ⟨S8192x2048, .bf16⟩
  | .hbm, ⟨21, _⟩ => ⟨S1x3072, .f32⟩
  | .hbm, ⟨22, _⟩ => ⟨S1x3072, .f32⟩
  | .hbm, ⟨23, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let arg0 : BitVec 32 := BitVec.ofNat 32 (i 0).val
  let c0_i32 : BitVec 32 := 0#32
  let v2 : BitVec 1 := Scalar.cmpi .eq arg0 c0_i32
  let c0_i32_0 : BitVec 32 := 0#32
  let c1_i32 : BitVec 32 := 1#32
  let v0 : BitVec 1 := Scalar.cmpi .eq arg0 c1_i32
  let c1024_i32 : BitVec 32 := 1024#32
  let c2048_i32 : BitVec 32 := 2048#32
  let v1 : BitVec 32 := Scalar.select v0 c1024_i32 c2048_i32
  let v3 : BitVec 32 := Scalar.select v2 c0_i32_0 v1
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1024_i32 : BitVec 32 := 1024#32
  let c2048_i32 : BitVec 32 := 2048#32
  let v1 : BitVec 32 := Scalar.select v0 c1024_i32 c2048_i32
  let c0_i32 : BitVec 32 := 0#32
  let v2 : BitVec 1 := Scalar.cmpi .eq arg0 c0_i32
  let c0_i32_0 : BitVec 32 := 0#32
  let v3 : BitVec 32 := Scalar.select v2 c0_i32_0 v1
  let v4 : BitVec 32 := v3
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x2048x2048 : Shape := ⟨3, ![4, 2048, 2048]⟩
abbrev S2048x10656 : Shape := ⟨2, ![2048, 10656]⟩
abbrev S128 : Shape := ⟨1, ![128]⟩
abbrev S4x2048x10656 : Shape := ⟨3, ![4, 2048, 10656]⟩
abbrev S4x2048x1024 : Shape := ⟨3, ![4, 2048, 1024]⟩
abbrev S4x2048x8x128 : Shape := ⟨4, ![4, 2048, 8, 128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S8192x1024 : Shape := ⟨2, ![8192, 1024]⟩
abbrev S8192x3072 : Shape := ⟨2, ![8192, 3072]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x10656, .f32⟩
  | .hbm, ⟨2, _⟩ => ⟨S128, .f32⟩
  | .hbm, ⟨3, _⟩ => ⟨S128, .f32⟩
  | .hbm, ⟨4, _⟩ => ⟨S4x2048x10656, .f32⟩
  | .hbm, ⟨5, _⟩ => ⟨S4x2048x1024, .f32⟩
  | .hbm, ⟨6, _⟩ => ⟨S4x2048x8x128, .f32⟩
  | .hbm, ⟨7, _⟩ => ⟨S4x2048x8x128, .f32⟩
  | .hbm, ⟨8, _⟩ => ⟨S_, .f32⟩
  | .hbm, ⟨9, _⟩ => ⟨S4x2048x8, .f32⟩
  | .hbm, ⟨10, _⟩ => ⟨S4x2048x8x1, .f32⟩
  | .hbm, ⟨11, _⟩ => ⟨S_, .f32⟩
  | .hbm, ⟨12, _⟩ => ⟨S4x2048x8x1, .f32⟩
  | .hbm, ⟨13, _⟩ => ⟨S4x2048x8x1, .f32⟩
  | .hbm, ⟨14, _⟩ => ⟨S_, .f32⟩
  | .hbm, ⟨15, _⟩ => ⟨S4x2048x8x1, .f32⟩
  | .hbm, ⟨16, _⟩ => ⟨S4x2048x8x1, .f32⟩
  | .hbm, ⟨17, _⟩ => ⟨S4x2048x8x1, .f32⟩
  | .hbm, ⟨18, _⟩ => ⟨S4x2048x8x128, .f32⟩
  | .hbm, ⟨19, _⟩ => ⟨S4x2048x8x128, .f32⟩
  | .hbm, ⟨20, _⟩ => ⟨S1x1x1x128, .f32⟩
  | .hbm, ⟨21, _⟩ => ⟨S4x2048x8x128, .f32⟩
  | .hbm, ⟨22, _⟩ => ⟨S4x2048x8x128, .f32⟩
  | .hbm, ⟨23, _⟩ => ⟨S4x2048x1024, .f32⟩
  | .hbm, ⟨24, _⟩ => ⟨S4x2048x8x128, .f32⟩
  | .hbm, ⟨25, _⟩ => ⟨S4x2048x8x128, .f32⟩
  | .hbm, ⟨26, _⟩ => ⟨S_, .f32⟩
  | .hbm, ⟨27, _⟩ => ⟨S4x2048x8, .f32⟩
  | .hbm, ⟨28, _⟩ => ⟨S4x2048x8x1, .f32⟩
  | .hbm, ⟨29, _⟩ => ⟨S_, .f32⟩
  | .hbm, ⟨30, _⟩ => ⟨S4x2048x8x1, .f32⟩
  | .hbm, ⟨31, _⟩ => ⟨S4x2048x8x1, .f32⟩
  | .hbm, ⟨32, _⟩ => ⟨S_, .f32⟩
  | .hbm, ⟨33, _⟩ => ⟨S4x2048x8x1, .f32⟩
  | .hbm, ⟨34, _⟩ => ⟨S4x2048x8x1, .f32⟩
  | .hbm, ⟨35, _⟩ => ⟨S4x2048x8x1, .f32⟩
  | .hbm, ⟨36, _⟩ => ⟨S4x2048x8x128, .f32⟩
  | .hbm, ⟨37, _⟩ => ⟨S4x2048x8x128, .f32⟩
  | .hbm, ⟨38, _⟩ => ⟨S1x1x1x128, .f32⟩
  | .hbm, ⟨39, _⟩ => ⟨S4x2048x8x128, .f32⟩
  | .hbm, ⟨40, _⟩ => ⟨S4x2048x8x128, .f32⟩
  | .hbm, ⟨41, _⟩ => ⟨S4x2048x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x3072, .f32⟩
  | .hbm, ⟨46, _⟩ => ⟨S8192x3072, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel7.lean ====
abbrev S4x2048x2048 : Shape := ⟨3, ![4, 2048, 2048]⟩
abbrev S2048 : Shape := ⟨1, ![2048]⟩
abbrev S2048x10656 : Shape := ⟨2, ![2048, 10656]⟩
abbrev S10656x2048 : Shape := ⟨2, ![10656, 2048]⟩
abbrev S192x2048 : Shape := ⟨2, ![192, 2048]⟩
abbrev S8x2048 : Shape := ⟨2, ![8, 2048]⟩
abbrev S24x2048 : Shape := ⟨2, ![24, 2048]⟩
abbrev S_ : Shape := ⟨0, ![]⟩
abbrev S32x2048 : Shape := ⟨2, ![32, 2048]⟩
abbrev S64x2048 : Shape := ⟨2, ![64, 2048]⟩
abbrev S256x2048 : Shape := ⟨2, ![256, 2048]⟩
abbrev S768x2048 : Shape := ⟨2, ![768, 2048]⟩
abbrev S8192x2048 : Shape := ⟨2, ![8192, 2048]⟩
abbrev S1x2048 : Shape := ⟨2, ![1, 2048]⟩
abbrev S8192x768 : Shape := ⟨2, ![8192, 768]⟩
abbrev S512x2048 : Shape := ⟨2, ![512, 2048]⟩
abbrev S512x768 : Shape := ⟨2, ![512, 768]⟩
abbrev S2048x768 : Shape := ⟨2, ![2048, 768]⟩
abbrev S768x512 : Shape := ⟨2, ![768, 512]⟩
abbrev S128x2048 : Shape := ⟨2, ![128, 2048]⟩
abbrev S128 : Shape := ⟨1, ![128]⟩
abbrev S128x1 : Shape := ⟨2, ![128, 1]⟩
abbrev S128x768 : Shape := ⟨2, ![128, 768]⟩

abbrev nBuf : Space → Nat
  | .hbm => 18
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x10656, .f32⟩
  | .hbm, ⟨3, _⟩ => ⟨S10656x2048, .f32⟩
  | .hbm, ⟨4, _⟩ => ⟨S192x2048, .f32⟩
  | .hbm, ⟨5, _⟩ => ⟨S8x2048, .f32⟩
  | .hbm, ⟨6, _⟩ => ⟨S24x2048, .f32⟩
  | .hbm, ⟨7, _⟩ => ⟨S_, .f32⟩
  | .hbm, ⟨8, _⟩ => ⟨S32x2048, .f32⟩
  | .hbm, ⟨9, _⟩ => ⟨S192x2048, .f32⟩
  | .hbm, ⟨10, _⟩ => ⟨S_, .f32⟩
  | .hbm, ⟨11, _⟩ => ⟨S64x2048, .f32⟩
  | .hbm, ⟨12, _⟩ => ⟨S256x2048, .f32⟩
  | .hbm, ⟨13, _⟩ => ⟨S768x2048, .f32⟩
  | .hbm, ⟨14, _⟩ => ⟨S8192x2048, .f32⟩
  | .hbm, ⟨15, _⟩ => ⟨S1x2048, .f32⟩
  | .hbm, ⟨16, _⟩ => ⟨S8192x2048, .bf16⟩
  | .hbm, ⟨17, _⟩ => ⟨S8192x768, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S768x2048, .f32⟩
  | .local _ .vmem, ⟨4, _⟩ => ⟨S512x2048, .bf16⟩
  | .local _ .vmem, ⟨5, _⟩ => ⟨S512x2048, .bf16⟩
  | .local _ .vmem, ⟨6, _⟩ => ⟨S512x768, .f32⟩
  | .local _ .vmem, ⟨7, _⟩ => ⟨S512x768, .f32⟩
  | .local _ .vmem, ⟨8, _⟩ => ⟨S2048x768, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4x2048x2048 : Shape := ⟨3, ![4, 2048, 2048]⟩
abbrev S2048 : Shape := ⟨1, ![2048]⟩
abbrev S2048x10656 : Shape := ⟨2, ![2048, 10656]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x10656 : Shape := ⟨3, ![4, 2048, 10656]⟩
abbrev S8192x10656 : Shape := ⟨2, ![8192, 10656]⟩
abbrev S8192x384 : Shape := ⟨2, ![8192, 384]⟩
abbrev S8192x192 : Shape := ⟨2, ![8192, 192]⟩
abbrev S8192x8 : Shape := ⟨2, ![8192, 8]⟩
abbrev S8192x24 : Shape := ⟨2, ![8192, 24]⟩
abbrev S8192x32 : Shape := ⟨2, ![8192, 32]⟩
abbrev S8192x64 : Shape := ⟨2, ![8192, 64]⟩
abbrev S8192x256 : Shape := ⟨2, ![8192, 256]⟩
abbrev S8192x768 : Shape := ⟨2, ![8192, 768]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x10656, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x10656, .f32⟩
  | .hbm, ⟨20, _⟩ => ⟨S8192x10656, .f32⟩
  | .hbm, ⟨21, _⟩ => ⟨S8192x384, .f32⟩
  | .hbm, ⟨22, _⟩ => ⟨S8192x192, .f32⟩
  | .hbm, ⟨23, _⟩ => ⟨S8192x8, .f32⟩
  | .hbm, ⟨24, _⟩ => ⟨S8192x24, .f32⟩
  | .hbm, ⟨25, _⟩ => ⟨S_, .f32⟩
  | .hbm, ⟨26, _⟩ => ⟨S8192x32, .f32⟩
  | .hbm, ⟨27, _⟩ => ⟨S8192x192, .f32⟩
  | .hbm, ⟨28, _⟩ => ⟨S_, .f32⟩
  | .hbm, ⟨29, _⟩ => ⟨S8192x64, .f32⟩
  | .hbm, ⟨30, _⟩ => ⟨S8192x256, .f32⟩
  | .hbm, ⟨31, _⟩ => ⟨S8192x768, .f32⟩
  | .hbm, ⟨32, _⟩ => ⟨S8192x2048, .f32⟩
  | .hbm, ⟨33, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel8.lean ====
abbrev S4x2048x2048 : Shape := ⟨3, ![4, 2048, 2048]⟩
abbrev S2048x10656 : Shape := ⟨2, ![2048, 10656]⟩
abbrev S192 : Shape := ⟨1, ![192]⟩
abbrev S8 : Shape := ⟨1, ![8]⟩
abbrev S10656x2048 : Shape := ⟨2, ![10656, 2048]⟩
abbrev S_ : Shape := ⟨0, ![]⟩
abbrev S8x1 : Shape := ⟨2, ![8, 1]⟩
abbrev S8x9 : Shape := ⟨2, ![8, 9]⟩
abbrev S8x64 : Shape := ⟨2, ![8, 64]⟩
abbrev S8x192 : Shape := ⟨2, ![8, 192]⟩
abbrev S8x256 : Shape := ⟨2, ![8, 256]⟩
abbrev S2048x1 : Shape := ⟨2, ![2048, 1]⟩
abbrev S2048x128 : Shape := ⟨2, ![2048, 128]⟩
abbrev S8192x2048 : Shape := ⟨2, ![8192, 2048]⟩
abbrev S2048x8192 : Shape := ⟨2, ![2048, 8192]⟩
abbrev S1024x2048 : Shape := ⟨2, ![1024, 2048]⟩
abbrev S768x2048 : Shape := ⟨2, ![768, 2048]⟩
abbrev S1024x128 : Shape := ⟨2, ![1024, 128]⟩
abbrev S1024x1024 : Shape := ⟨2, ![1024, 1024]⟩
abbrev S256x2048 : Shape := ⟨2, ![256, 2048]⟩
abbrev S768x256 : Shape := ⟨2, ![768, 256]⟩
abbrev S64x256 : Shape := ⟨2, ![64, 256]⟩
abbrev S1x256 : Shape := ⟨2, ![1, 256]⟩
abbrev S192x256 : Shape := ⟨2, ![192, 256]⟩
abbrev S256 : Shape := ⟨1, ![256]⟩
abbrev S192x128 : Shape := ⟨2, ![192, 128]⟩
abbrev S64x128 : Shape := ⟨2, ![64, 128]⟩

abbrev nBuf : Space → Nat
  | .hbm => 47
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048x10656, .f32⟩
  | .hbm, ⟨2, _⟩ => ⟨S192, .f32⟩
  | .hbm, ⟨3, _⟩ => ⟨S8, .f32⟩
  | .hbm, ⟨4, _⟩ => ⟨S10656x2048, .f32⟩
  | .hbm, ⟨5, _⟩ => ⟨S8, .bf16⟩
  | .hbm, ⟨6, _⟩ => ⟨S8, .f32⟩
  | .hbm, ⟨7, _⟩ => ⟨S8, .f32⟩
  | .hbm, ⟨8, _⟩ => ⟨S8, .bf16⟩
  | .hbm, ⟨9, _⟩ => ⟨S8, .f32⟩
  | .hbm, ⟨10, _⟩ => ⟨S8, .f32⟩
  | .hbm, ⟨11, _⟩ => ⟨S8, .bf16⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S8, .f32⟩
  | .hbm, ⟨27, _⟩ => ⟨S8x1, .f32⟩
  | .hbm, ⟨28, _⟩ => ⟨S8x1, .f32⟩
  | .hbm, ⟨29, _⟩ => ⟨S8x1, .f32⟩
  | .hbm, ⟨30, _⟩ => ⟨S8x1, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S8x1, .f32⟩
  | .hbm, ⟨35, _⟩ => ⟨S8x1, .f32⟩
  | .hbm, ⟨36, _⟩ => ⟨S8x9, .f32⟩
  | .hbm, ⟨37, _⟩ => ⟨S_, .i32⟩
  | .hbm, ⟨38, _⟩ => ⟨S_, .f32⟩
  | .hbm, ⟨39, _⟩ => ⟨S8x64, .f32⟩
  | .hbm, ⟨40, _⟩ => ⟨S8x192, .f32⟩
  | .hbm, ⟨41, _⟩ => ⟨S8x256, .f32⟩
  | .hbm, ⟨42, _⟩ => ⟨S2048x1, .f32⟩
  | .hbm, ⟨43, _⟩ => ⟨S2048x128, .f32⟩
  | .hbm, ⟨44, _⟩ => ⟨S8192x2048, .f32⟩
  | .hbm, ⟨45, _⟩ => ⟨S8192x2048, .bf16⟩
  | .hbm, ⟨46, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S768x2048, .f32⟩
  | .local _ .vmem, ⟨3, _⟩ => ⟨S768x2048, .f32⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | .local _ .vmem, ⟨8, _⟩ => ⟨S768x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg0 : BitVec 32 := BitVec.ofNat 32 (i 0).val
  let c0_i32 : BitVec 32 := 0#32
  let v0 : BitVec 1 := Scalar.cmpi .eq arg0 c0_i32
  let c3080_i32 : BitVec 32 := 3080#32
  let c3848_i32 : BitVec 32 := 3848#32
  let v1 : BitVec 32 := Scalar.select v0 c3080_i32 c3848_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3080_i32 : BitVec 32 := 3080#32
  let c3848_i32 : BitVec 32 := 3848#32
  let v1 : BitVec 32 := Scalar.select v0 c3080_i32 c3848_i32
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel8Ideal.lean ====
variable {F : FTy → Type} [FloatOps F] [Named F]
def κ : String → Option EReal := fun
  | "inv_head" => some ((1 / 192 : ℝ) : EReal)
  | _ => none
-- ==== Reference8Ideal.lean ====
abbrev S4x2048x2048 : Shape := ⟨3, ![4, 2048, 2048]⟩
abbrev S2048x10656 : Shape := ⟨2, ![2048, 10656]⟩
abbrev S192 : Shape := ⟨1, ![192]⟩
abbrev S8 : Shape := ⟨1, ![8]⟩
abbrev S4x2048x10656 : Shape := ⟨3, ![4, 2048, 10656]⟩
abbrev S4x2048x1536 : Shape := ⟨3, ![4, 2048, 1536]⟩
abbrev S4x2048x8x192 : Shape := ⟨4, ![4, 2048, 8, 192]⟩
abbrev S_ : Shape := ⟨0, ![]⟩
abbrev S4x2048x8 : Shape := ⟨3, ![4, 2048, 8]⟩
abbrev S4x2048x8x1 : Shape := ⟨4, ![4, 2048, 8, 1]⟩
abbrev S1x1x1x192 : Shape := ⟨4, ![1, 1, 1, 192]⟩
abbrev S8x1 : Shape := ⟨2, ![8, 1]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x8x1 : Shape := ⟨3, ![2048, 8, 1]⟩
abbrev S4x2048x8x2 : Shape := ⟨4, ![4, 2048, 8, 2]⟩
abbrev S4x2048x8x57 : Shape := ⟨4, ![4, 2048, 8, 57]⟩
abbrev S4x2048x8x256 : Shape := ⟨4, ![4, 2048, 8, 256]⟩
abbrev S8192x2048 : Shape := ⟨2, ![8192, 2048]⟩
abbrev S2048x8192 : Shape := ⟨2, ![2048, 8192]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x10656, .f32⟩
  | .hbm, ⟨2, _⟩ => ⟨S192, .f32⟩
  | .hbm, ⟨3, _⟩ => ⟨S8, .f32⟩
  | .hbm, ⟨4, _⟩ => ⟨S4x2048x10656, .f32⟩
  | .hbm, ⟨5, _⟩ => ⟨S4x2048x1536, .f32⟩
  | .hbm, ⟨6, _⟩ => ⟨S4x2048x8x192, .f32⟩
  | .hbm, ⟨7, _⟩ => ⟨S4x2048x8x192, .f32⟩
  | .hbm, ⟨8, _⟩ => ⟨S_, .f32⟩
  | .hbm, ⟨9, _⟩ => ⟨S4x2048x8, .f32⟩
  | .hbm, ⟨10, _⟩ => ⟨S4x2048x8x1, .f32⟩
  | .hbm, ⟨11, _⟩ => ⟨S_, .f32⟩
  | .hbm, ⟨12, _⟩ => ⟨S4x2048x8x1, .f32⟩
  | .hbm, ⟨13, _⟩ => ⟨S4x2048x8x1, .f32⟩
  | .hbm, ⟨14, _⟩ => ⟨S_, .f32⟩
  | .hbm, ⟨15, _⟩ => ⟨S4x2048x8x1, .f32⟩
  | .hbm, ⟨16, _⟩ => ⟨S4x2048x8x1, .f32⟩
  | .hbm, ⟨17, _⟩ => ⟨S4x2048x8x1, .f32⟩
  | .hbm, ⟨18, _⟩ => ⟨S4x2048x8x192, .f32⟩
  | .hbm, ⟨19, _⟩ => ⟨S4x2048x8x192, .f32⟩
  | .hbm, ⟨20, _⟩ => ⟨S1x1x1x192, .f32⟩
  | .hbm, ⟨21, _⟩ => ⟨S4x2048x8x192, .f32⟩
  | .hbm, ⟨22, _⟩ => ⟨S4x2048x8x192, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S8x1, .f32⟩
  | .hbm, ⟨27, _⟩ => ⟨S4x2048x8x1, .f32⟩
  | .hbm, ⟨28, _⟩ => ⟨S8x1, .f32⟩
  | .hbm, ⟨29, _⟩ => ⟨S4x2048x8x1, .f32⟩
  | .hbm, ⟨30, _⟩ => ⟨S8, .f32⟩
  | .hbm, ⟨31, _⟩ => ⟨S2048, .f32⟩
  | .hbm, ⟨32, _⟩ => ⟨S2048x1, .f32⟩
  | .hbm, ⟨33, _⟩ => ⟨S1x8, .f32⟩
  | .hbm, ⟨34, _⟩ => ⟨S2048x8, .f32⟩
  | .hbm, ⟨35, _⟩ => ⟨S2048x8, .f32⟩
  | .hbm, ⟨36, _⟩ => ⟨S2048x8, .f32⟩
  | .hbm, ⟨37, _⟩ => ⟨S2048x8x1, .f32⟩
  | .hbm, ⟨38, _⟩ => ⟨S4x2048x8x1, .f32⟩
  | .hbm, ⟨39, _⟩ => ⟨S_, .f32⟩
  | .hbm, ⟨40, _⟩ => ⟨S4x2048x8x2, .f32⟩
  | .hbm, ⟨41, _⟩ => ⟨S_, .f32⟩
  | .hbm, ⟨42, _⟩ => ⟨S4x2048x8x57, .f32⟩
  | .hbm, ⟨43, _⟩ => ⟨S4x2048x8x256, .f32⟩
  | .hbm, ⟨44, _⟩ => ⟨S8192x2048, .f32⟩
  | .hbm, ⟨45, _⟩ => ⟨S2048x8192, .f32⟩
  | .hbm, ⟨46, _⟩ => ⟨S2048x8192, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel9.lean ====
abbrev S8192x768 : Shape := ⟨2, ![8192, 768]⟩
abbrev S8 : Shape := ⟨1, ![8]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S4x8x2048 : Shape := ⟨3, ![4, 8, 2048]⟩
abbrev S2048x128 : Shape := ⟨2, ![2048, 128]⟩
abbrev S1x8x2048 : Shape := ⟨3, ![1, 8, 2048]⟩
abbrev S256x256 : Shape := ⟨2, ![256, 256]⟩
abbrev S256x128 : Shape := ⟨2, ![256, 128]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x768, .f32⟩
  | .hbm, ⟨1, _⟩ => ⟨S8, .f32⟩
  | .hbm, ⟨2, _⟩ => ⟨S_, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S8192x128, .bf16⟩
  | .hbm, ⟨7, _⟩ => ⟨S4x8x2048, .f32⟩
  | .local _ .vmem, ⟨0, _⟩ => ⟨S2048x128, .f32⟩
  | .local _ .vmem, ⟨1, _⟩ => ⟨S2048x128, .f32⟩
  | .local _ .vmem, ⟨2, _⟩ => ⟨S1x128, .f32⟩
  | .local _ .vmem, ⟨3, _⟩ => ⟨S2048x128, .bf16⟩
  | .local _ .vmem, ⟨4, _⟩ => ⟨S2048x128, .bf16⟩
  | .local _ .vmem, ⟨5, _⟩ => ⟨S1x8x2048, .f32⟩
  | .local _ .vmem, ⟨6, _⟩ => ⟨S1x8x2048, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x768 : Shape := ⟨2, ![8192, 768]⟩
abbrev S8 : Shape := ⟨1, ![8]⟩
abbrev S8192x8 : Shape := ⟨2, ![8192, 8]⟩
abbrev S4x2048x8 : Shape := ⟨3, ![4, 2048, 8]⟩
abbrev S1x1x8 : Shape := ⟨3, ![1, 1, 8]⟩
abbrev S_ : Shape := ⟨0, ![]⟩
abbrev S8192x64 : Shape := ⟨2, ![8192, 64]⟩
abbrev S8192x55 : Shape := ⟨2, ![8192, 55]⟩
abbrev S8192x1 : Shape := ⟨2, ![8192, 1]⟩
abbrev S8192x128 : Shape := ⟨2, ![8192, 128]⟩
abbrev S4x8x2048 : Shape := ⟨3, ![4, 8, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8, .f32⟩
  | .hbm, ⟨2, _⟩ => ⟨S8192x8, .f32⟩
  | .hbm, ⟨3, _⟩ => ⟨S4x2048x8, .f32⟩
  | .hbm, ⟨4, _⟩ => ⟨S1x1x8, .f32⟩
  | .hbm, ⟨5, _⟩ => ⟨S4x2048x8, .f32⟩
  | .hbm, ⟨6, _⟩ => ⟨S4x2048x8, .f32⟩
  | .hbm, ⟨7, _⟩ => ⟨S4x2048x8, .f32⟩
  | .hbm, ⟨8, _⟩ => ⟨S_, .f32⟩
  | .hbm, ⟨9, _⟩ => ⟨S4x2048x8, .f32⟩
  | .hbm, ⟨10, _⟩ => ⟨S4x2048x8, .f32⟩
  | .hbm, ⟨11, _⟩ => ⟨S4x2048x8, .f32⟩
  | .hbm, ⟨12, _⟩ => ⟨S4x2048x8, .f32⟩
  | .hbm, ⟨13, _⟩ => ⟨S4x2048x8, .i1⟩
  | .hbm, ⟨14, _⟩ => ⟨S4x2048x8, .f32⟩
  | .hbm, ⟨15, _⟩ => ⟨S4x2048x8, .f32⟩
  | .hbm, ⟨16, _⟩ => ⟨S4x2048x8, .f32⟩
  | .hbm, ⟨17, _⟩ => ⟨S4x2048x8, .f32⟩
  | .hbm, ⟨18, _⟩ => ⟨S4x2048x8, .f32⟩
  | .hbm, ⟨19, _⟩ => ⟨S4x2048x8, .f32⟩
  | .hbm, ⟨20, _⟩ => ⟨S4x2048x8, .f32⟩
  | .hbm, ⟨21, _⟩ => ⟨S4x2048x8, .f32⟩
  | .hbm, ⟨22, _⟩ => ⟨S4x2048x8, .f32⟩
  | .hbm, ⟨23, _⟩ => ⟨S_, .f32⟩
  | .hbm, ⟨24, _⟩ => ⟨S_, .f32⟩
  | .hbm, ⟨25, _⟩ => ⟨S4x2048x8, .f32⟩
  | .hbm, ⟨26, _⟩ => ⟨S_, .f32⟩
  | .hbm, ⟨27, _⟩ => ⟨S4x2048x8, .f32⟩
  | .hbm, ⟨28, _⟩ => ⟨S4x2048x8, .f32⟩
  | .hbm, ⟨29, _⟩ => ⟨S8192x8, .f32⟩
  | .hbm, ⟨30, _⟩ => ⟨S_, .f32⟩
  | .hbm, ⟨31, _⟩ => ⟨S8192x64, .f32⟩
  | .hbm, ⟨32, _⟩ => ⟨S8192x8, .f32⟩
  | .hbm, ⟨33, _⟩ => ⟨S_, .f32⟩
  | .hbm, ⟨34, _⟩ => ⟨S8192x55, .f32⟩
  | .hbm, ⟨35, _⟩ => ⟨S_, .f32⟩
  | .hbm, ⟨36, _⟩ => ⟨S8192x1, .f32⟩
  | .hbm, ⟨37, _⟩ => ⟨S8192x128, .f32⟩
  | .hbm, ⟨38, _⟩ => ⟨S8192x128, .bf16⟩
  | .hbm, ⟨39, _⟩ => ⟨S4x8x2048, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩

abbrev nD : Nat := 1
abbrev τ : Topo := Topo.v7x

variable {F : FTy → Type} [FloatOps F]
-- ==== Proof.Sums.lean ====
/- The mathematics of the decay: the log of a forget gate in its two forms, sums up to a place in one piece and
   in blocks of 256, and the reference's running sum at an index. -/
module
public import Idealize.ShloMosaic.Lib.Pointwise
public import Idealize.ShloMosaic.Lib.StableHlo
public import Idealize.ShloMosaic.Lib.Claim
public import Idealize.ShloMosaic.Lib.Routing.Ops
@[expose] public section
set_option maxRecDepth 16384
noncomputable section
open Idealize.ShloMosaic
namespace Cert.Sums

/-- The log of a forget gate as the kernel writes it. -/
def gate (z : EReal) : EReal := min z 0 - Ideal.log1p (Ideal.exp (0 - max z (-z)))

/-- The log of a forget gate as the reference writes it. -/
def gate' (z : EReal) : EReal := -(max (-z) 0 + Ideal.log1p (Ideal.exp (-max (-z - 0) (-(-z - 0)))))

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem log1p_exp (r : ℝ) : Ideal.log1p (Ideal.exp (r : EReal)) = ((Real.log (1 + Real.exp r) : ℝ) : EReal) := by
  have h : (1 : EReal) + ((Real.exp r : ℝ) : EReal) = ((1 + Real.exp r : ℝ) : EReal) := by push_cast; rfl
  have hp : ¬(1 + Real.exp r ≤ 0) := by have := Real.exp_pos r; linarith
  show Ideal.log (1 + ((Real.exp r : ℝ) : EReal)) = _
  rw [h, Ideal.log_coe, if_neg hp]

theorem log1p_exp_bot : Ideal.log1p (Ideal.exp ⊥) = 0 := by
  show Ideal.log (1 + 0) = 0
  rw [add_zero, ← EReal.coe_one, Ideal.log_coe, if_neg (by norm_num), Real.log_one, EReal.coe_zero]

/-- Off minus infinity the two forms are one real number. -/
theorem gate_real (z : EReal) (h : z ≠ ⊥) : ∃ r : ℝ, gate z = r ∧ gate' z = r := by
  induction z with
  | bot => exact absurd rfl h
  | top =>
    refine ⟨0, ?_, ?_⟩
    · have e : (0 : EReal) - max ⊤ (-⊤) = ⊥ := by simp
      rw [gate, e, log1p_exp_bot]; simp
    · have e : -max (-(⊤ : EReal) - 0) (-(-⊤ - 0)) = ⊥ := by simp
      rw [gate', e, log1p_exp_bot]; simp
  | coe r =>
    refine ⟨min r 0 - Real.log (1 + Real.exp (-max r (-r))), ?_, ?_⟩
    · have e : (0 : EReal) - max (r : EReal) (-(r : EReal)) = ((-max r (-r) : ℝ) : EReal) := by
        rw [← EReal.coe_neg, coe_max, ← EReal.coe_zero, ← EReal.coe_sub, zero_sub]
      rw [gate, e, log1p_exp, ← EReal.coe_zero, coe_min, ← EReal.coe_sub]
    · have e : -max (-(r : EReal) - 0) (-(-(r : EReal) - 0)) = ((-max r (-r) : ℝ) : EReal) := by
        rw [sub_zero, neg_neg, max_comm, ← EReal.coe_neg, coe_max, ← EReal.coe_neg]
      rw [gate', e, log1p_exp, ← EReal.coe_neg, ← EReal.coe_zero, coe_max, ← EReal.coe_add, ← EReal.coe_neg]
      congr 1
      rcases le_total r 0 with h0 | h0
      · rw [max_eq_left (by linarith : (0 : ℝ) ≤ -r), min_eq_left h0]; ring
      · rw [max_eq_right (by linarith : -r ≤ (0 : ℝ)), min_eq_right h0]; ring

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_le (f : ℕ → ℝ) (N a : ℕ) (ha : a < N) : (∑ k ∈ Finset.range N, if k ≤ a then f k else 0) = ∑ k ∈ Finset.range (a + 1), f k := by
  rw [← Finset.sum_filter]
  refine Finset.sum_congr (Finset.ext fun k => ?_) fun _ _ => rfl
  rw [Finset.mem_filter, Finset.mem_range, Finset.mem_range]
  omega

/-- A block's sum up to a place on top of the sum before the block. -/
theorem prefix_sum (f : ℕ → ℝ) (n a : ℕ) (ha : a < 256) :
    (∑ k : Fin 256, if k.val ≤ a then f (n + k.val) else 0) + ∑ i ∈ Finset.range n, f i = ∑ i ∈ Finset.range (n + a + 1), f i := by
  rw [Fin.sum_univ_eq_sum_range (fun k => if k ≤ a then f (n + k) else 0) 256, sum_le (fun k => f (n + k)) 256 a ha, add_assoc n a 1,
    Finset.sum_range_add f n (a + 1), add_comm]

/-- A window of 2048 that ends at a place. -/
theorem window_sum (g : ℕ → ℝ) (t : ℕ) (ht : t < 2048) :
    (∑ j ∈ Finset.range 2048, if 2047 ≤ t + j then g (t + j - 2047) else 0) = ∑ i ∈ Finset.range (t + 1), g i := by
  have e : 2048 = (2047 - t) + (t + 1) := by omega
  rw [e, Finset.sum_range_add, Finset.sum_eq_zero (fun j hj => ?_), zero_add]
  · refine Finset.sum_congr rfl fun j hj => ?_
    rw [Finset.mem_range] at hj
    rw [if_pos (by omega)]
    congr 1
    omega
  · rw [Finset.mem_range] at hj
    rw [if_neg (by omega)]

theorem foldl_add {α : Type} (w : α → EReal) (l : List α) : ∀ v : EReal, l.foldl (fun r n => r + w n) v = v + (l.map w).sum := by
  induction l with
  | nil => intro v; simp
  | cons a l ih => intro v; rw [List.foldl_cons, ih, List.map_cons, List.sum_cons, add_assoc]

abbrev S : Shape := ⟨3, ![4, 2048, 8]⟩
abbrev W : Shape := ⟨3, ![1, 2048, 1]⟩

theorem numel_w : W.numel = 2048 := by decide

theorem symm_w (n : Fin W.numel) : W.rowMajor.symm n = ix3 (0 : Fin 1) (n.cast numel_w) (0 : Fin 1) := by
  rw [Equiv.symm_apply_eq]
  refine Fin.ext ?_
  rw [Shape.rowMajor_val_three]
  simp

/-- The reference's running sum at an index. -/
theorem cumsum {u : Shape} (x : FVec Ideal S .f32) (init : u.Idx → Ideal .f32)
    (h : S.ReduceWindows (![1, 2048, 1] : Fin 3 → Nat) ![1, 1, 1] ![0, 2047, 0] ![0, 0, 0] S) (hu : 0 < u.numel)
    (hinit : init (Shape.Idx.first hu) = (0 : EReal)) (b : Fin 4) (t : Fin 2048) (k : Fin 8) (g : ℕ → ℝ)
    (hg : ∀ i : Fin 2048, x (ix3 b i k) = ((g i.val : ℝ) : EReal)) :
    Host.reduceWindowAdd ![1, 2048, 1] ![1, 1, 1] ![0, 2047, 0] ![0, 0, 0] x init h hu (ix3 b t k)
      = ((∑ i ∈ Finset.range (t.val + 1), g i : ℝ) : EReal) := by
  have ht := t.isLt
  have hb := b.isLt
  have hk := k.isLt
  unfold Host.reduceWindowAdd
  rw [hinit]
  show Ideal.hostReduceWindowAdd ![1, 2048, 1] ![1, 1, 1] ![0, 2047, 0] ![0, 0, 0] h x 0 (ix3 b t k) = _
  unfold Ideal.hostReduceWindowAdd
  refine (foldl_add (α := Fin W.numel) _ _ _).trans ?_
  rw [zero_add, ← window_sum g t.val ht, ← coe_sum, ← Fin.sum_univ_eq_sum_range (fun j => (((if 2047 ≤ t.val + j then g (t.val + j - 2047) else 0 : ℝ)) : EReal)) 2048]
  rw [← List.sum_ofFn, List.ofFn_eq_map]
  refine (congrArg List.sum (List.map_congr_left (g := fun n : Fin W.numel => (((if 2047 ≤ t.val + n.val then g (t.val + n.val - 2047) else 0 : ℝ)) : EReal)) fun n _ => ?_)).trans ?_
  · have hw0 : (W.rowMajor.symm n 0).val = 0 := by rw [symm_w]; rfl
    have hw1 : (W.rowMajor.symm n 1).val = n.val := by rw [symm_w]; rfl
    have hw2 : (W.rowMajor.symm n 2).val = 0 := by rw [symm_w]; rfl
    have hn : n.val < 2048 := (n.cast numel_w).isLt
    dsimp only
    split
    · next hin =>
      have h0 := hin 1
      change 2047 ≤ t.val * 1 + (W.rowMajor.symm n 1).val ∧ t.val * 1 + (W.rowMajor.symm n 1).val - 2047 < 2048 at h0
      rw [hw1] at h0
      rw [if_pos (by omega)]
      refine (congrArg x (funext fun a => Fin.ext ?_)).trans (hg ⟨t.val + n.val - 2047, by omega⟩)
      match a with
      | ⟨0, _⟩ =>
        show b.val * 1 + (W.rowMajor.symm n 0).val - 0 = b.val
        rw [hw0]; omega
      | ⟨1, _⟩ =>
        show t.val * 1 + (W.rowMajor.symm n 1).val - 2047 = t.val + n.val - 2047
        rw [hw1, Nat.mul_one]
      | ⟨2, _⟩ =>
        show k.val * 1 + (W.rowMajor.symm n 2).val - 0 = k.val
        rw [hw2]; omega
    · next hin =>
      rw [if_neg fun hle => hin fun a => by
        match a with
        | ⟨0, _⟩ =>
          show 0 ≤ b.val * 1 + (W.rowMajor.symm n 0).val ∧ b.val * 1 + (W.rowMajor.symm n 0).val - 0 < 4
          rw [hw0]; omega
        | ⟨1, _⟩ =>
          show 2047 ≤ t.val * 1 + (W.rowMajor.symm n 1).val ∧ t.val * 1 + (W.rowMajor.symm n 1).val - 2047 < 2048
          rw [hw1]; omega
        | ⟨2, _⟩ =>
          show 0 ≤ k.val * 1 + (W.rowMajor.symm n 2).val ∧ k.val * 1 + (W.rowMajor.symm n 2).val - 0 < 8
          rw [hw2]; omega]
      simp
  · rw [Routing.map_finRange_val _ (fun j => (((if 2047 ≤ t.val + j then g (t.val + j - 2047) else 0 : ℝ)) : EReal)),
      Routing.map_finRange_val _ (fun j => (((if 2047 ≤ t.val + j then g (t.val + j - 2047) else 0 : ℝ)) : EReal)), numel_w]

end Cert.Sums
end
-- ==== Proof.Decay.lean ====
/- The decay: what each grid point writes, and the two result arrays against the reference's. -/
module
public import proofs.«01_k».proof.Proof.Gen.Kernel9Ideal.Value
public import proofs.«01_k».proof.Proof.Gen.Reference9Ideal.Run
public import proofs.«01_k».proof.Proof.Sums
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.KernelVsHost
public import Idealize.ShloMosaic.Lib.StableHlo.RunRead
@[expose] public section
set_option maxRecDepth 16384
noncomputable section
open Idealize.ShloMosaic Idealize.ShloMosaic.TcCoe Idealize.SL.Sem
namespace Cert.Kernel9Ideal.Decay
open Cert.Kernel9Ideal Cert.Kernel9Ideal.Gen

variable (m : (ℓ : Loc nD τ sig) → Buf (Elt Ideal) ℓ) (c : Dev nD)

abbrev A0 : FVec Ideal S8192x768 .f32 := m ((c : Thread nD τ).loc main_arg0)
abbrev A1 : FVec Ideal S8 .f32 := m ((c : Thread nD τ).loc main_arg1)

/-- A block's sums on top of the sums before it; the last row; the two forms a block is written in. -/
def step (Z : Vec Ideal S256x128 .f32) (B : Vec Ideal S1x128 .f32) (C : FVec Ideal S1x128 .f32) : FVec Ideal S256x128 .f32 := k0_pay22 k0_pay3 C Z B
def last (v : FVec Ideal S256x128 .f32) : FVec Ideal S1x128 .f32 := extractStridedSlice S1x128 ![255, 0] v slices_S256x128_o255_0_S1x128
def col (v : FVec Ideal S256x128 .f32) : FVec Ideal S256x128 .bf16 :=
  k0_pay25 (iota .tc S256x128 32 [1] iota_S256x128_d1_w32) k0_pay4 v (subf (broadcast S256x128 (Scalar.ofBits (F := Ideal) .f32 0x00000000#32)) v)
def row (v : FVec Ideal S256x128 .f32) : FVec Ideal S1x8x256 .f32 := k0_pay21 v

variable (X : Vec Ideal S2048x128 .f32) (B : Vec Ideal S1x128 .f32)

/-- The sums of the eight blocks. -/
def s0 : FVec Ideal S256x128 .f32 := step (View.ld X r0_0) (View.ld B r0_1) k0_pay5
def s1 : FVec Ideal S256x128 .f32 := step (View.ld X r0_3) (View.ld B r0_1) (last (s0 X B))
def s2 : FVec Ideal S256x128 .f32 := step (View.ld X r0_5) (View.ld B r0_1) (last (s1 X B))
def s3 : FVec Ideal S256x128 .f32 := step (View.ld X r0_7) (View.ld B r0_1) (last (s2 X B))
def s4 : FVec Ideal S256x128 .f32 := step (View.ld X r0_9) (View.ld B r0_1) (last (s3 X B))
def s5 : FVec Ideal S256x128 .f32 := step (View.ld X r0_11) (View.ld B r0_1) (last (s4 X B))
def s6 : FVec Ideal S256x128 .f32 := step (View.ld X r0_13) (View.ld B r0_1) (last (s5 X B))
def s7 : FVec Ideal S256x128 .f32 := step (View.ld X r0_15) (View.ld B r0_1) (last (s6 X B))

theorem e0 : k0_pay93 X B = last (s0 X B) := rfl
theorem e1 : k0_pay94 X B = s1 X B := by rw [k0_pay94, e0]; rfl
theorem e1' : k0_pay95 X B = last (s1 X B) := by rw [k0_pay95, e0]; rfl
theorem e2 : k0_pay98 X B = last (s2 X B) := by rw [k0_pay98, e1']; rfl
theorem e3 : k0_pay99 X B = s3 X B := by rw [k0_pay99, e2]; rfl
theorem e3' : k0_pay100 X B = last (s3 X B) := by rw [k0_pay100, e2]; rfl
theorem e4 : k0_pay103 X B = last (s4 X B) := by rw [k0_pay103, e3']; rfl
theorem e5 : k0_pay104 X B = s5 X B := by rw [k0_pay104, e4]; rfl
theorem e5' : k0_pay105 X B = last (s5 X B) := by rw [k0_pay105, e4]; rfl
theorem e6 : k0_pay108 X B = last (s6 X B) := by rw [k0_pay108, e5']; rfl
theorem e7 : k0_pay109 X B = s7 X B := by rw [k0_pay109, e6]; rfl

theorem out2 : out0_2 X B = View.canon [⟨r0_15, col (s7 X B)⟩, ⟨r0_13, col (s6 X B)⟩, ⟨r0_11, col (s5 X B)⟩, ⟨r0_9, col (s4 X B)⟩,
    ⟨r0_7, col (s3 X B)⟩, ⟨r0_5, col (s2 X B)⟩, ⟨r0_3, col (s1 X B)⟩, ⟨r0_0, col (s0 X B)⟩] := by
  rw [out0_2, e7, e6, e5, e5', e4, e3, e3', e2, e1, e1', e0]; rfl

theorem out3 : out0_3 X B = View.canon [⟨r0_16, row (s7 X B)⟩, ⟨r0_14, row (s6 X B)⟩, ⟨r0_12, row (s5 X B)⟩, ⟨r0_10, row (s4 X B)⟩,
    ⟨r0_8, row (s3 X B)⟩, ⟨r0_6, row (s2 X B)⟩, ⟨r0_4, row (s1 X B)⟩, ⟨r0_2, row (s0 X B)⟩] := by
  rw [out0_3, e7, e5, e5', e3, e3', e1, e1']; rfl

/-- The base-2 factor log2(e) as rounded to f32. -/
theorem kappa_real : ∃ r : ℝ, Ideal.ofBits .f32 0x3FB8AA3B#32 = (r : EReal) := by
  refine ⟨12102203 / 8388608, ?_⟩
  have e : ((12102203 / 8388608 : ℝ)) = 12102203 * (2 ^ 23)⁻¹ := by norm_num
  rw [e, EReal.coe_mul]
  simp [Ideal.ofBits, Ideal.ieee]

def κ : ℝ := kappa_real.choose
theorem kappa : Ideal.ofBits .f32 1069066811#32 = ((κ : ℝ) : EReal) := kappa_real.choose_spec

theorem sge : ∀ a x : Fin 256, IntOp.cmpi .sge (BitVec.ofNat 32 a.val) (BitVec.ofNat 32 x.val) = if x.val ≤ a.val then 1#1 else 0#1 := by
  decide +kernel

theorem pick (p : Prop) [Decidable p] (a b : EReal) : Scalar.select (if p then 1#1 else 0#1) a b = if p then a else b := by
  split <;> rfl

theorem step_at (Z : Vec Ideal S256x128 .f32) (B : Vec Ideal S1x128 .f32) (C : FVec Ideal S1x128 .f32) (a : Fin 256) (l : Fin 128) (f : Fin 256 → ℝ)
    (hf : ∀ x : Fin 256, Sums.gate (Z (ix2 x l) + B (ix2 0 l)) = (f x : EReal)) :
    step Z B C (ix2 a l) = ((∑ x : Fin 256, if x.val ≤ a.val then f x * κ else 0 : ℝ) : EReal) + C (ix2 0 l) := by
  have hf' : ∀ x : Fin 256, (min (Z (ix2 x l) + B (ix2 0 l)) 0
      - Ideal.log1p (Ideal.exp (0 - FloatOps.absf (F := Ideal) (φ := .f32) (Z (ix2 x l) + B (ix2 0 l))))) = (f x : EReal) := hf
  have hz : ∀ x : Fin 256, ((if x.val ≤ a.val then ((0 : ℝ) : EReal) else 0)) = 0 := fun x => by split <;> rfl
  have hs : ∀ x : Fin 256, (if x.val ≤ a.val then ((f x * κ : ℝ) : EReal) else 0) = ((if x.val ≤ a.val then f x * κ else 0 : ℝ) : EReal) := fun x => by split <;> rfl
  open_payloads
  pointwise [step, k0_pay22, k0_pay3]
  simp only [hf', kappa, ← EReal.coe_mul, ← EReal.coe_sub, sub_self, sge, pick, hz, hs, Finset.sum_const_zero, add_zero]
  rw [Sums.coe_sum]

/-- The group of eight lanes a lane is in, counted from lane 64. -/
def lane (l : Fin 128) : BitVec 32 :=
  Scalar.select
    (IntOp.andi
      (IntOp.cmpi CmpIPredicate.ne
        (IntOp.subi (BitVec.setWidth 32 (IntOp.cmpi CmpIPredicate.sgt (IntOp.subi (BitVec.ofNat 32 l.val) 64#32) 0#32))
          (BitVec.setWidth 32 (IntOp.cmpi CmpIPredicate.slt (IntOp.subi (BitVec.ofNat 32 l.val) 64#32) 0#32)))
        (Scalar.subi (Scalar.extui (Scalar.cmpi CmpIPredicate.sgt 8#32 0#32))
          (Scalar.extui (Scalar.cmpi CmpIPredicate.slt 8#32 0#32))))
      (IntOp.cmpi CmpIPredicate.ne (IntOp.remsi ArithUnit.vector (IntOp.subi (BitVec.ofNat 32 l.val) 64#32) 8#32) 0#32))
    (IntOp.subi (IntOp.divsi ArithUnit.vector (IntOp.subi (BitVec.ofNat 32 l.val) 64#32) 8#32) 1#32)
    (IntOp.divsi ArithUnit.vector (IntOp.subi (BitVec.ofNat 32 l.val) 64#32) 8#32)

theorem lane_at (a : Fin 256) (l : Fin 128) : k0_pay4 (ix2 a l) = lane l := by
  pointwise [k0_pay4, lane]

theorem lanes : ∀ l : Fin 128, IntOp.cmpi .eq (lane l) 0#32 = (if 64 ≤ l.val ∧ l.val < 72 then 1#1 else 0#1)
    ∧ IntOp.cmpi .eq (lane l) 1#32 = (if 72 ≤ l.val ∧ l.val < 80 then 1#1 else 0#1)
    ∧ IntOp.cmpi .eq (lane l) 2#32 = (if 80 ≤ l.val ∧ l.val < 88 then 1#1 else 0#1)
    ∧ IntOp.cmpi .eq (BitVec.ofNat 32 l.val) 127#32 = (if l.val = 127 then 1#1 else 0#1) := by
  decide +kernel

theorem gone (x : EReal) (h : ∃ r : ℝ, x = (r : EReal)) : 0 - x - (0 - x) = 0 := by
  obtain ⟨r, rfl⟩ := h
  rw [← EReal.coe_zero, ← EReal.coe_sub, ← EReal.coe_sub, sub_self]

theorem col_at (v : FVec Ideal S256x128 .f32) (a : Fin 256) (l : Fin 128) (hv : ∀ k : Fin 128, 64 ≤ k.val → k.val < 72 → ∃ r : ℝ, v (ix2 a k) = (r : EReal)) :
    col v (ix2 a l) = if 64 ≤ l.val ∧ l.val < 72 then -v (ix2 a l) else if l.val = 127 then 1 else 0 := by
  obtain ⟨h0, h1, h2, h3⟩ := lanes l
  have hl := l.isLt
  pointwise [col, k0_pay25]
  rw [lane_at, h0, h1, h2, h3, pick, pick, pick, pick]
  by_cases c0 : 64 ≤ l.val ∧ l.val < 72
  · rw [if_pos c0, if_pos c0, zero_sub]
  · rw [if_neg c0, if_neg c0]
    by_cases c1 : 72 ≤ l.val ∧ l.val < 80
    · rw [if_pos c1, gone _ (hv _ (by dsimp only; omega) (by dsimp only; omega)), if_neg (by omega)]
    · rw [if_neg c1]
      by_cases c2 : 80 ≤ l.val ∧ l.val < 88
      · rw [if_pos c2, gone _ (hv _ (by dsimp only; omega) (by dsimp only; omega)), if_neg (by omega), sub_zero]
      · rw [if_neg c2]

theorem row_at (v : FVec Ideal S256x128 .f32) (b : Fin 1) (h : Fin 8) (a : Fin 256) : row v (ix3 b h a) = v (ix2 a ⟨64 + h.val, by omega⟩) := by
  pointwise [row, k0_pay21]

theorem last_at (v : FVec Ideal S256x128 .f32) (b : Fin 1) (l : Fin 128) : last v (ix2 b l) = v (ix2 ⟨255, by omega⟩ l) := by
  pointwise [last]

section Blocks
variable (l : Fin 128) (g : ℕ → ℝ) (hg : ∀ i : Fin 2048, Sums.gate (X (ix2 i l) + B (ix2 0 l)) = (g i.val : EReal))
include hg

/-- A block's sums from its rows and the sums before it. -/
theorem blk_step (Z : Vec Ideal S256x128 .f32) (B' : Vec Ideal S1x128 .f32) (C : FVec Ideal S1x128 .f32) (n : ℕ) (hn : n + 256 ≤ 2048)
    (hZ : ∀ x : Fin 256, Z (ix2 x l) = X (ix2 ⟨n + x.val, by omega⟩ l)) (hB : B' (ix2 0 l) = B (ix2 0 l))
    (hC : C (ix2 0 l) = ((∑ i ∈ Finset.range n, g i * κ : ℝ) : EReal)) (a : Fin 256) :
    step Z B' C (ix2 a l) = ((∑ i ∈ Finset.range (n + a.val + 1), g i * κ : ℝ) : EReal) := by
  rw [step_at Z B' C a l (fun x => g (n + x.val)) (fun x => by rw [hZ x, hB]; exact hg _), hC, ← EReal.coe_add,
    Sums.prefix_sum (fun i => g i * κ) n a.val a.isLt]

theorem carry (v : FVec Ideal S256x128 .f32) (n : ℕ) (hv : ∀ a : Fin 256, v (ix2 a l) = ((∑ i ∈ Finset.range (n + a.val + 1), g i * κ : ℝ) : EReal)) :
    last v (ix2 0 l) = ((∑ i ∈ Finset.range (n + 256), g i * κ : ℝ) : EReal) := (last_at v 0 l).trans (hv _)

theorem s0_at (a : Fin 256) : s0 X B (ix2 a l) = ((∑ i ∈ Finset.range (0 + a.val + 1), g i * κ : ℝ) : EReal) :=
  blk_step X B l g hg _ _ _ 0 (by omega) (fun x => by pointwise [r0_0]) (by pointwise [r0_1]) (by pointwise [k0_pay5]; simp) a
theorem s1_at (a : Fin 256) : s1 X B (ix2 a l) = ((∑ i ∈ Finset.range (256 + a.val + 1), g i * κ : ℝ) : EReal) :=
  blk_step X B l g hg _ _ _ 256 (by omega) (fun x => by pointwise [r0_3]) (by pointwise [r0_1]) (carry X B l g hg _ 0 (s0_at X B l g hg)) a
theorem s2_at (a : Fin 256) : s2 X B (ix2 a l) = ((∑ i ∈ Finset.range (512 + a.val + 1), g i * κ : ℝ) : EReal) :=
  blk_step X B l g hg _ _ _ 512 (by omega) (fun x => by pointwise [r0_5]) (by pointwise [r0_1]) (carry X B l g hg _ 256 (s1_at X B l g hg)) a
theorem s3_at (a : Fin 256) : s3 X B (ix2 a l) = ((∑ i ∈ Finset.range (768 + a.val + 1), g i * κ : ℝ) : EReal) :=
  blk_step X B l g hg _ _ _ 768 (by omega) (fun x => by pointwise [r0_7]) (by pointwise [r0_1]) (carry X B l g hg _ 512 (s2_at X B l g hg)) a
theorem s4_at (a : Fin 256) : s4 X B (ix2 a l) = ((∑ i ∈ Finset.range (1024 + a.val + 1), g i * κ : ℝ) : EReal) :=
  blk_step X B l g hg _ _ _ 1024 (by omega) (fun x => by pointwise [r0_9]) (by pointwise [r0_1]) (carry X B l g hg _ 768 (s3_at X B l g hg)) a
theorem s5_at (a : Fin 256) : s5 X B (ix2 a l) = ((∑ i ∈ Finset.range (1280 + a.val + 1), g i * κ : ℝ) : EReal) :=
  blk_step X B l g hg _ _ _ 1280 (by omega) (fun x => by pointwise [r0_11]) (by pointwise [r0_1]) (carry X B l g hg _ 1024 (s4_at X B l g hg)) a
theorem s6_at (a : Fin 256) : s6 X B (ix2 a l) = ((∑ i ∈ Finset.range (1536 + a.val + 1), g i * κ : ℝ) : EReal) :=
  blk_step X B l g hg _ _ _ 1536 (by omega) (fun x => by pointwise [r0_13]) (by pointwise [r0_1]) (carry X B l g hg _ 1280 (s5_at X B l g hg)) a
theorem s7_at (a : Fin 256) : s7 X B (ix2 a l) = ((∑ i ∈ Finset.range (1792 + a.val + 1), g i * κ : ℝ) : EReal) :=
  blk_step X B l g hg _ _ _ 1792 (by omega) (fun x => by pointwise [r0_15]) (by pointwise [r0_1]) (carry X B l g hg _ 1536 (s6_at X B l g hg)) a
end Blocks

section Out
variable (g : Fin 128 → ℕ → ℝ)

/-- The key columns' form of a row of sums. -/
def keys (r : ℕ) (l : Fin 128) : EReal :=
  if 64 ≤ l.val ∧ l.val < 72 then -((∑ i ∈ Finset.range (r + 1), g l i * κ : ℝ) : EReal) else if l.val = 127 then 1 else 0

theorem col_piece (v : FVec Ideal S256x128 .f32) (n : ℕ)
    (hv : ∀ l : Fin 128, 64 ≤ l.val → l.val < 72 → ∀ a : Fin 256, v (ix2 a l) = ((∑ i ∈ Finset.range (n + a.val + 1), g l i * κ : ℝ) : EReal))
    (r : Fin 2048) (l : Fin 128) (x0 : Fin 256) (x1 : Fin 128) (h0 : r.val = n + x0.val) (h1 : l.val = x1.val) : col v (ix2 x0 x1) = keys g r.val l := by
  obtain rfl : l = x1 := Fin.ext h1
  rw [col_at v x0 l fun k hk hk' => ⟨_, hv k hk hk' x0⟩, keys, h0]
  by_cases c : 64 ≤ l.val ∧ l.val < 72
  · rw [if_pos c, if_pos c, hv l c.1 c.2]
  · rw [if_neg c, if_neg c]

theorem row_piece (v : FVec Ideal S256x128 .f32) (n : ℕ)
    (hv : ∀ l : Fin 128, 64 ≤ l.val → l.val < 72 → ∀ a : Fin 256, v (ix2 a l) = ((∑ i ∈ Finset.range (n + a.val + 1), g l i * κ : ℝ) : EReal))
    (k : Fin 8) (r : Fin 2048) (x0 : Fin 1) (x1 : Fin 8) (x2 : Fin 256) (h1 : k.val = x1.val) (h2 : r.val = n + x2.val) :
    row v (ix3 x0 x1 x2) = ((∑ i ∈ Finset.range (r.val + 1), g ⟨64 + k.val, by omega⟩ i * κ : ℝ) : EReal) := by
  obtain rfl : k = x1 := Fin.ext h1
  rw [row_at, hv _ (by dsimp only; omega) (by dsimp only; omega), h2]

variable (hg : ∀ l : Fin 128, 64 ≤ l.val → l.val < 72 → ∀ i : Fin 2048, Sums.gate (X (ix2 i l) + B (ix2 0 l)) = (g l i.val : EReal))
include hg

/-- A grid point's two blocks. -/
theorem out2_at (y : S2048x128.Idx) : out0_2 X B y = keys g (y 0).val (y 1) := by
  rw [out2]
  canon_tiles x h
  all_goals idx_vars x
  · exact col_piece g _ 1792 (fun l hl hl' => s7_at X B l (g l) (hg l hl hl')) (y 0) (y 1) x0 x1 (by omega) (by omega)
  · exact col_piece g _ 1536 (fun l hl hl' => s6_at X B l (g l) (hg l hl hl')) (y 0) (y 1) x0 x1 (by omega) (by omega)
  · exact col_piece g _ 1280 (fun l hl hl' => s5_at X B l (g l) (hg l hl hl')) (y 0) (y 1) x0 x1 (by omega) (by omega)
  · exact col_piece g _ 1024 (fun l hl hl' => s4_at X B l (g l) (hg l hl hl')) (y 0) (y 1) x0 x1 (by omega) (by omega)
  · exact col_piece g _ 768 (fun l hl hl' => s3_at X B l (g l) (hg l hl hl')) (y 0) (y 1) x0 x1 (by omega) (by omega)
  · exact col_piece g _ 512 (fun l hl hl' => s2_at X B l (g l) (hg l hl hl')) (y 0) (y 1) x0 x1 (by omega) (by omega)
  · exact col_piece g _ 256 (fun l hl hl' => s1_at X B l (g l) (hg l hl hl')) (y 0) (y 1) x0 x1 (by omega) (by omega)
  · exact col_piece g _ 0 (fun l hl hl' => s0_at X B l (g l) (hg l hl hl')) (y 0) (y 1) x0 x1 (by omega) (by omega)

theorem out3_at (y : S1x8x2048.Idx) : out0_3 X B y
    = ((∑ i ∈ Finset.range ((y 2).val + 1), g ⟨64 + (y 1).val, by have := (y 1).isLt; change _ < 8 at this; omega⟩ i * κ : ℝ) : EReal) := by
  rw [out3]
  canon_tiles x h
  all_goals idx_vars x
  · exact row_piece g _ 1792 (fun l hl hl' => s7_at X B l (g l) (hg l hl hl')) (y 1) (y 2) x0 x1 x2 (by omega) (by omega)
  · exact row_piece g _ 1536 (fun l hl hl' => s6_at X B l (g l) (hg l hl hl')) (y 1) (y 2) x0 x1 x2 (by omega) (by omega)
  · exact row_piece g _ 1280 (fun l hl hl' => s5_at X B l (g l) (hg l hl hl')) (y 1) (y 2) x0 x1 x2 (by omega) (by omega)
  · exact row_piece g _ 1024 (fun l hl hl' => s4_at X B l (g l) (hg l hl hl')) (y 1) (y 2) x0 x1 x2 (by omega) (by omega)
  · exact row_piece g _ 768 (fun l hl hl' => s3_at X B l (g l) (hg l hl hl')) (y 1) (y 2) x0 x1 x2 (by omega) (by omega)
  · exact row_piece g _ 512 (fun l hl hl' => s2_at X B l (g l) (hg l hl hl')) (y 1) (y 2) x0 x1 x2 (by omega) (by omega)
  · exact row_piece g _ 256 (fun l hl hl' => s1_at X B l (g l) (hg l hl hl')) (y 1) (y 2) x0 x1 x2 (by omega) (by omega)
  · exact row_piece g _ 0 (fun l hl hl' => s0_at X B l (g l) (hg l hl hl')) (y 1) (y 2) x0 x1 x2 (by omega) (by omega)
end Out

/-! ## The two result arrays -/

/-- The forget logit of a batch entry, a place and a head. -/
def logit (P : FVec Ideal S8192x768 .f32) (b : FVec Ideal S8 .f32) (n : Fin 4) (i : Fin 2048) (k : Fin 8) : EReal :=
  P (ix2 ⟨n * 2048 + i, by omega⟩ ⟨192 + k, by omega⟩) + b (ix1 k)

/-- The log of its gate, a real number where the logit is not minus infinity. -/
def lg (P : FVec Ideal S8192x768 .f32) (b : FVec Ideal S8 .f32) (n : Fin 4) (k : Fin 8) (i : ℕ) : ℝ :=
  if h : i < 2048 then (Sums.gate (logit P b n ⟨i, h⟩ k)).toReal else 0

theorem lg_eq (P : FVec Ideal S8192x768 .f32) (b : FVec Ideal S8 .f32) (n : Fin 4) (i : Fin 2048) (k : Fin 8) (h : logit P b n i k ≠ ⊥) :
    Sums.gate (logit P b n i k) = (lg P b n k i.val : EReal) ∧ Sums.gate' (logit P b n i k) = (lg P b n k i.val : EReal) := by
  obtain ⟨r, h1, h2⟩ := Sums.gate_real _ h
  have e : lg P b n k i.val = r := by rw [lg, dif_pos i.isLt, h1, EReal.toReal_coe]
  rw [e]
  exact ⟨h1, h2⟩

/-- The decay in base 2: the sum of the logs up to a place. -/
def dec (P : FVec Ideal S8192x768 .f32) (b : FVec Ideal S8 .f32) (n : Fin 4) (k : Fin 8) (i : ℕ) : ℝ := ∑ j ∈ Finset.range (i + 1), lg P b n k j * κ

/-- The key columns at a row and a lane. -/
def keyAt (P : FVec Ideal S8192x768 .f32) (b : FVec Ideal S8 .f32) (x : Fin 8192) (l : Fin 128) : EReal :=
  if h : 64 ≤ l.val ∧ l.val < 72 then -((dec P b ⟨x.val / 2048, by omega⟩ ⟨l.val - 64, by omega⟩ (x.val % 2048) : ℝ) : EReal)
  else if l.val = 127 then 1 else 0

/-- The two results: the key columns, and the decay with the heads before the places. -/
def KEYS (P : FVec Ideal S8192x768 .f32) (b : FVec Ideal S8 .f32) : FVec Ideal S8192x128 .bf16 := fun y => keyAt P b (y 0) (y 1)
def DEC (P : FVec Ideal S8192x768 .f32) (b : FVec Ideal S8 .f32) : FVec Ideal S4x8x2048 .f32 := fun y =>
  ((dec P b (y 0) (y 1) (y 2).val : ℝ) : EReal)

/-- The bias among 128 lanes. -/
def PAD (b : FVec Ideal S8 .f32) : FVec Ideal S128 .f32 :=
  pad S128 ![64] ![56] ![0] b (sitofp .f32 (constantI S_ 32 0#32)) pads_S8_S128_64560 h_S_

theorem V_b : V m c main_v1 = shapeCast S1x128 (PAD (A1 m c)) shapeCasts_S128_S1x128 := by
  unfold_abbrev_sides
  after_reads_simp
  rfl

theorem pad_at (b : FVec Ideal S8 .f32) (k : Fin 8) (l : Fin 128) (h : l.val = 64 + k.val) : PAD b (ix1 l) = b (ix1 k) := by
  refine pad_apply_of_inside _ _ _ b _ pads_S8_S128_64560 h_S_ (ix1 l) (ix1 k) ?_
  intro a
  fin_cases a
  simp [h]

theorem idx : ∀ t : Fin cfg0.N,
    win0_0.index t = ![t.val, 1] ∧ win0_1.index t = ![0, 0] ∧ win0_2.index t = ![t.val, 0] ∧ win0_3.index t = ![t.val, 0, 0] :=
  (by decide +kernel : ∀ t : Fin grid0.N, _)

theorem lt4 (t : Fin cfg0.N) : t.val < 4 := t.isLt

theorem iblk0 (t : Fin cfg0.N) (a : Fin 2048) (l : Fin 128) :
    iblk m c 0 t (ix2 a l) = A0 m c (ix2 ⟨2048 * t.val + a.val, by have := lt4 t; omega⟩ ⟨128 + l.val, by omega⟩) := by
  refine Eq.trans (b := V m c main_arg0 (ix2 ⟨2048 * t.val + a.val, by have := lt4 t; omega⟩ ⟨128 + l.val, by omega⟩)) ?_ (by rw [V_main_arg0])
  blk_ext [iblk, idx t]

theorem iblk1 (t : Fin cfg0.N) (l : Fin 128) : iblk m c 1 t (ix2 0 l) = PAD (A1 m c) (ix1 l) := by
  refine Eq.trans (b := V m c main_v1 (ix2 0 l)) ?_ (by rw [V_b]; pointwise [])
  blk_ext [iblk, idx t]

section Arrays
variable (hz : ∀ n i k, logit (A0 m c) (A1 m c) n i k ≠ ⊥)
include hz

/-- The logs of a grid point's lanes. -/
def logs (t : Fin cfg0.N) (l : Fin 128) (i : ℕ) : ℝ :=
  if h : 64 ≤ l.val ∧ l.val < 72 then lg (A0 m c) (A1 m c) ⟨t.val, lt4 t⟩ ⟨l.val - 64, by omega⟩ i else 0

theorem logs_eq (t : Fin cfg0.N) (l : Fin 128) (h1 : 64 ≤ l.val) (h2 : l.val < 72) (i : Fin 2048) :
    Sums.gate (HAdd.hAdd (α := EReal) (β := EReal) (iblk m c 0 t (ix2 i l)) (iblk m c 1 t (ix2 0 l))) = (logs m c t l i.val : EReal) := by
  rw [iblk0, iblk1, pad_at _ ⟨l.val - 64, by omega⟩ l (by dsimp only; omega), logs, dif_pos ⟨h1, h2⟩,
    ← (lg_eq _ _ _ i _ (hz ⟨t.val, lt4 t⟩ i ⟨l.val - 64, by omega⟩)).1, logit]
  congr 4
  all_goals
    refine Fin.ext ?_
    dsimp only
    omega

theorem written0 (t : Fin cfg0.N) (a : Fin 2048) (l : Fin 128) (x : Fin 8192) (hx : x.val = 2048 * t.val + a.val) :
    out0_2 (iblk m c 0 t) (iblk m c 1 t) (ix2 a l) = KEYS (A0 m c) (A1 m c) (ix2 x l) := by
  have ht := lt4 t
  rw [out2_at _ _ (logs m c t) (logs_eq m c hz t)]
  change keys _ a.val l = keyAt _ _ x l
  rw [keys, keyAt]
  by_cases h : 64 ≤ l.val ∧ l.val < 72
  · rw [if_pos h, dif_pos h]
    have e0 : (⟨x.val / 2048, by omega⟩ : Fin 4) = ⟨t.val, ht⟩ := Fin.ext (by dsimp only; omega)
    have e1 : x.val % 2048 = a.val := by omega
    rw [e0, e1, dec]
    simp only [logs, dif_pos h]
  · rw [if_neg h, dif_neg h]

theorem written1 (t : Fin cfg0.N) (b : Fin 1) (k : Fin 8) (a : Fin 2048) (n : Fin 4) (hn : n.val = t.val) :
    out0_3 (iblk m c 0 t) (iblk m c 1 t) (ix3 b k a) = DEC (A0 m c) (A1 m c) (ix3 n k a) := by
  rw [out3_at _ _ (logs m c t) (logs_eq m c hz t)]
  obtain rfl : n = ⟨t.val, lt4 t⟩ := Fin.ext hn
  change ((∑ i ∈ Finset.range (a.val + 1), logs m c t ⟨64 + k.val, _⟩ i * κ : ℝ) : EReal) = ((dec _ _ ⟨t.val, lt4 t⟩ k a.val : ℝ) : EReal)
  rw [dec]
  have h : 64 ≤ 64 + k.val ∧ 64 + k.val < 72 := by omega
  have e : (⟨64 + k.val - 64, by omega⟩ : Fin 8) = k := Fin.ext (by dsimp only; omega)
  simp only [logs, dif_pos h, e]

theorem final0 : (dats m 0 c).arrAt 2 cfg0.N = KEYS (A0 m c) (A1 m c) := by
  refine (dats m 0 c).arrAt_eq_of_covers 2 (KEYS (A0 m c) (A1 m c)) (by decide +kernel) fun t hf y => ?_
  blk_simp
  rw [after0_2]
  idx_vars y
  refine (written0 m c hz t y0 y1 ⟨2048 * t.val + y0.val, by have := lt4 t; omega⟩ rfl).trans ?_
  blk_ext [idx t]

theorem final1 : (dats m 0 c).arrAt 3 cfg0.N = DEC (A0 m c) (A1 m c) := by
  refine (dats m 0 c).arrAt_eq_of_covers 3 (DEC (A0 m c) (A1 m c)) (by decide +kernel) fun t hf y => ?_
  blk_simp
  rw [after0_3]
  idx_vars y
  refine (written1 m c hz t y0 y1 y2 ⟨t.val, lt4 t⟩ rfl).trans ?_
  blk_ext [idx t]
end Arrays

end Cert.Kernel9Ideal.Decay
end
-- ==== Proof.Rows.lean ====
/- The decay's reference: the two results as it computes them. -/
module
public import proofs.«01_k».proof.Proof.Decay
@[expose] public section
set_option maxRecDepth 16384
noncomputable section
open Idealize.ShloMosaic Idealize.ShloMosaic.TcCoe Idealize.SL.Sem
namespace Cert.Reference9Ideal.Refer
open Cert.Reference9Ideal Cert.Reference9Ideal.Gen
open Cert.Kernel9Ideal.Decay (logit lg lg_eq dec κ kappa KEYS DEC)

/-- The forget logits, negated. -/
def NL (P : FVec Ideal S8192x768 .f32) (b : FVec Ideal S8 .f32) : FVec Ideal S4x2048x8 .f32 :=
  Host.negf (addf (shapeCast S4x2048x8 (extractStridedSlice S8192x8 ![0, 192] P slices_S8192x768_S8192x8_0_192) shapeCasts_S8192x8_S4x2048x8) (broadcastInDim S4x2048x8 ![0, 1, 2] bcast_S1x1x8_S4x2048x8_0_1_2 (broadcastInDim S1x1x8 ![2] bcast_S8_S1x1x8_2 b)))

def Z : FVec Ideal S4x2048x8 .f32 := broadcastInDim S4x2048x8 ![] bcast_S_S4x2048x8 (constant S_ .f32 0x00000000#32)

/-- The logs of the gates. -/
def LS (N : FVec Ideal S4x2048x8 .f32) : FVec Ideal S4x2048x8 .f32 :=
  Host.negf (select (cmpf .une (subf N Z) (subf N Z)) (addf N Z) (addf (maximumf N Z) (Host.log1p (Host.exp (Host.negf (Host.absf (subf N Z)))))))

/-- Their running sum, in base 2. -/
def CS (L : FVec Ideal S4x2048x8 .f32) : FVec Ideal S4x2048x8 .f32 :=
  mulf (Host.reduceWindowAdd ![1, 2048, 1] ![1, 1, 1] ![0, 2047, 0] ![0, 0, 0] L (broadcastInDim S_ ![] bcast_S_S_ (constant S_ .f32 0x00000000#32)) reduceWindows_S4x2048x8_S4x2048x8_w1s1p0_0_w2048s1p2047_0_w1s1p0_0 h_S_) (broadcastInDim S4x2048x8 ![] bcast_S_S4x2048x8 (constant S_ .f32 0x3FB8AA3B#32))

theorem nl_at (P : FVec Ideal S8192x768 .f32) (b : FVec Ideal S8 .f32) (n : Fin 4) (i : Fin 2048) (k : Fin 8) : NL P b (ix3 n i k) = -logit P b n i k := by
  rw [logit]
  pointwise [NL]

theorem ls_at (N : FVec Ideal S4x2048x8 .f32) (n : Fin 4) (i : Fin 2048) (k : Fin 8) (z : EReal) (h : N (ix3 n i k) = -z) :
    LS N (ix3 n i k) = Cert.Sums.gate' z := by
  pointwise [LS, Z, h]
  rw [if_neg (not_not_intro rfl), Cert.Sums.gate', sub_zero]
  rfl

theorem cs_at (P : FVec Ideal S8192x768 .f32) (b : FVec Ideal S8 .f32) (hz : ∀ n i k, logit P b n i k ≠ ⊥) (n : Fin 4) (t : Fin 2048) (k : Fin 8) :
    CS (LS (NL P b)) (ix3 n t k) = ((dec P b n k t.val : ℝ) : EReal) := by
  have e := Cert.Sums.cumsum (LS (NL P b)) (broadcastInDim S_ ![] bcast_S_S_ (constant S_ .f32 0x00000000#32)) reduceWindows_S4x2048x8_S4x2048x8_w1s1p0_0_w2048s1p2047_0_w1s1p0_0 h_S_
    (by pointwise []) n t k (lg P b n k) (fun i => (ls_at _ n i k _ (nl_at P b n i k)).trans (lg_eq P b n i k (hz n i k)).2)
  have e' : CS (LS (NL P b)) (ix3 n t k) = ((∑ i ∈ Finset.range (t.val + 1), lg P b n k i : ℝ) : EReal) * Ideal.ofBits .f32 1069066811#32 := by
    rw [← e]
    rfl
  rw [e', kappa, ← EReal.coe_mul, dec, Finset.sum_mul]

def COLS (C : FVec Ideal S4x2048x8 .f32) : FVec Ideal S8192x128 .bf16 :=
  truncf .bf16 (concatenate S8192x128 1 [⟨S8192x64, broadcastInDim S8192x64 ![] bcast_S_S8192x64 (constant S_ .f32 0x00000000#32)⟩, ⟨S8192x8, Host.negf (shapeCast S8192x8 C shapeCasts_S4x2048x8_S8192x8)⟩, ⟨S8192x55, broadcastInDim S8192x55 ![] bcast_S_S8192x55 (constant S_ .f32 0x00000000#32)⟩, ⟨S8192x1, broadcastInDim S8192x1 ![] bcast_S_S8192x1 (constant S_ .f32 0x3F800000#32)⟩] concatenates_S8192x64_S8192x8_S8192x55_S8192x1_S8192x128_d1) bitsLt_bf16_f32

theorem ref0 (P : FVec Ideal S8192x768 .f32) (b : FVec Ideal S8 .f32) (hz : ∀ n i k, logit P b n i k ≠ ⊥) : COLS (CS (LS (NL P b))) = KEYS P b := by
  funext y
  have hc := cs_at P b hz
  generalize CS (LS (NL P b)) = C at hc
  idx_vars y
  change _ = Cert.Kernel9Ideal.Decay.keyAt P b y0 y1
  rw [Cert.Kernel9Ideal.Decay.keyAt]
  pointwise [COLS]
  have hl := y1.isLt
  by_cases h1 : y1.val < 64
  · rw [dif_pos h1, dif_neg (by omega), if_neg (by omega)]
  · rw [dif_neg h1]
    by_cases h2 : y1.val - 64 < 8
    · rw [dif_pos h2, dif_pos (by omega), hc]
    · rw [dif_neg h2]
      by_cases h3 : y1.val - 64 - 8 < 55
      · rw [dif_pos h3, dif_neg (by omega), if_neg (by omega)]
      · rw [dif_neg h3, dif_neg (by omega), if_pos (by omega)]

theorem ref1 (P : FVec Ideal S8192x768 .f32) (b : FVec Ideal S8 .f32) (hz : ∀ n i k, logit P b n i k ≠ ⊥) :
    transpose S4x8x2048 [0, 2, 1] (CS (LS (NL P b))) transposes_S4x2048x8_S4x8x2048_0_2_1 = DEC P b := by
  funext y
  have hc := cs_at P b hz
  generalize CS (LS (NL P b)) = C at hc
  idx_vars y
  refine Eq.trans ?_ (hc y0 y2 y1)
  pointwise []

end Cert.Reference9Ideal.Refer
end
-- ==== Proof.Finite.lean ====
/- The preconditions, read back: every cumulative decay is a real number, and every slope; no forget logit is minus infinity. -/
module
public import proofs.«01_k».proof.Defs
public import Idealize.ShloMosaic.Lib.ReduceAll
public import Idealize.ShloMosaic.Lib.Pointwise
@[expose] public section
noncomputable section
open Idealize.ShloMosaic
namespace Cert.Pre_finite

theorem facts : Cert.Pre_finite.Facts where
  bcast_S_S4x8x2048 := by decide
  reducesTo_S4x8x2048_S_d0_1_2 := by decide
  h_S_ := by decide

theorem real_of_abs_lt {x : EReal} (h : max x (-x) < ⊤) : ∃ a : ℝ, x = a := by
  induction x with
  | bot => exact absurd h (by simp)
  | top => exact absurd h (by simp)
  | coe a => exact ⟨a, rfl⟩

theorem ofBits_pos_inf : Ideal.ofBits .f32 0x7F800000#32 = ⊤ := by simp [Ideal.ofBits, Ideal.ieee]

theorem elem_at (C : FVec Ideal S4x8x2048 .f32) (h : S_.BroadcastsInDim S4x8x2048 (![] : Fin 0 → Fin S4x8x2048.rank)) (x : S4x8x2048.Idx) :
    cmpf .olt (Host.absf C) (broadcastInDim S4x8x2048 ![] h (constant (F := Ideal) S_ .f32 0x7F800000#32)) x
      = BitVec.ofBool (decide (max (C x) (-C x) < ⊤)) := by
  idx_vars x
  pointwise [ofBits_pos_inf]
  rfl

theorem finite_of (Q K W : FVec Ideal S4x2048x8x128 .f32) (C : FVec Ideal S4x8x2048 .f32) (facts : Cert.Pre_finite.Facts)
    (h : Cert.Pre_finite.fn (F := Ideal) Q K W C = fun _ => 1#1) (x : S4x8x2048.Idx) : ∃ a : ℝ, C x = a := by
  have e := congrFun h (Shape.Idx.first (s := S_) facts.h_S_)
  unfold Cert.Pre_finite.fn at e
  have : Subsingleton S_.Idx := ⟨fun a b => funext fun i => i.elim0⟩
  have hx := Host.reduce_andi_all _ _ _ _ _ e x
  rw [elem_at] at hx
  refine real_of_abs_lt ?_
  by_contra hc
  rw [decide_eq_false hc] at hx
  exact absurd hx (by decide)

end Cert.Pre_finite

namespace Cert.Pre_finite_slope

theorem facts : Cert.Pre_finite_slope.Facts where
  bcast_S_S8 := by decide
  reducesTo_S8_S_d0 := by decide
  h_S_ := by decide

theorem elem_at (s : FVec Ideal S8 .f32) (h : S_.BroadcastsInDim S8 (![] : Fin 0 → Fin S8.rank)) (x : S8.Idx) :
    cmpf .olt (Host.absf s) (broadcastInDim S8 ![] h (constant (F := Ideal) S_ .f32 0x7F800000#32)) x
      = BitVec.ofBool (decide (max (s x) (-s x) < ⊤)) := by
  idx_vars x
  pointwise [Cert.Pre_finite.ofBits_pos_inf]
  rfl

theorem finite_of (A : FVec Ideal S4x2048x2048 .f32) (W : FVec Ideal S2048x10656 .f32) (G : FVec Ideal S192 .f32) (s : FVec Ideal S8 .f32) (facts : Cert.Pre_finite_slope.Facts)
    (h : Cert.Pre_finite_slope.fn (F := Ideal) A W G s = fun _ => 1#1) (x : S8.Idx) : ∃ a : ℝ, s x = a := by
  have e := congrFun h (Shape.Idx.first (s := S_) facts.h_S_)
  unfold Cert.Pre_finite_slope.fn at e
  have : Subsingleton S_.Idx := ⟨fun a b => funext fun i => i.elim0⟩
  have hx := Host.reduce_andi_all _ _ _ _ _ e x
  rw [elem_at] at hx
  refine Cert.Pre_finite.real_of_abs_lt ?_
  by_contra hc
  rw [decide_eq_false hc] at hx
  exact absurd hx (by decide)

end Cert.Pre_finite_slope

namespace Cert.Pre_finite_logits

theorem facts : Cert.Pre_finite_logits.Facts where
  slices_S8192x768_S8192x8_0_192 := by decide
  shapeCasts_S8192x8_S4x2048x8 := by decide
  bcast_S8_S1x1x8_2 := by decide
  bcast_S1x1x8_S4x2048x8_0_1_2 := by decide
  bcast_S_S4x2048x8 := by decide
  reducesTo_S4x2048x8_S_d0_1_2 := by decide
  h_S_ := by decide

theorem ofBits_neg_inf : Ideal.ofBits .f32 0xFF800000#32 = ⊥ := by simp [Ideal.ofBits, Ideal.ieee]

theorem elem_at [f : Cert.Pre_finite_logits.Facts] (P : FVec Ideal S8192x768 .f32) (b : FVec Ideal S8 .f32) (n : Fin 4) (i : Fin 2048) (k : Fin 8) :
    cmpf .ogt (addf (shapeCast S4x2048x8 (extractStridedSlice S8192x8 ![0, 192] P f.slices_S8192x768_S8192x8_0_192) f.shapeCasts_S8192x8_S4x2048x8)
        (broadcastInDim S4x2048x8 ![0, 1, 2] f.bcast_S1x1x8_S4x2048x8_0_1_2 (broadcastInDim S1x1x8 ![2] f.bcast_S8_S1x1x8_2 b)))
      (broadcastInDim S4x2048x8 ![] f.bcast_S_S4x2048x8 (constant (F := Ideal) S_ .f32 0xFF800000#32)) (ix3 n i k)
      = BitVec.ofBool (decide (⊥ < P (ix2 ⟨n * 2048 + i, by omega⟩ ⟨192 + k, by omega⟩) + b (ix1 k))) := by
  pointwise [ofBits_neg_inf]

theorem finite_of (P : FVec Ideal S8192x768 .f32) (b : FVec Ideal S8 .f32) (f : Cert.Pre_finite_logits.Facts)
    (h : Cert.Pre_finite_logits.fn (F := Ideal) P b = fun _ => 1#1) (n : Fin 4) (i : Fin 2048) (k : Fin 8) :
    P (ix2 ⟨n * 2048 + i, by omega⟩ ⟨192 + k, by omega⟩) + b (ix1 k) ≠ (⊥ : EReal) := by
  have e := congrFun h (Shape.Idx.first (s := S_) f.h_S_)
  unfold Cert.Pre_finite_logits.fn at e
  have : Subsingleton S_.Idx := ⟨fun a b => funext fun i => i.elim0⟩
  have hx := Host.reduce_andi_all _ _ _ _ _ e (ix3 n i k)
  rw [elem_at] at hx
  intro hc
  rw [hc, decide_eq_false (lt_irrefl _)] at hx
  exact absurd hx (by decide)

end Cert.Pre_finite_logits
end
-- ==== Proof.Softmax.lean ====
/- The mathematics of a softmax read tile by tile, on the extended reals.

   A row of scores arrives in tiles. The kernel carries a running maximum, a running weighted sum
   and a running sum of weights, each weight the power of two of (score − running maximum); when the
   maximum moves, the sums are rescaled. `acc_scan` says that, whatever the scores and values are
   (infinities included), after any list of tiles the weighted sum IS the sum over those tiles of
   value · 2^(score − maximum). `normalise` (in Proof.Row) compares the quotient with the reference's masked softmax,
   which exponentiates to base e and replaces a maximum that is not finite by zero. -/
module

public import Idealize.ShloMosaic.PureOps.Ideal
public import Idealize.ShloMosaic.PureOps.Ideal.Laws

@[expose] public section

noncomputable section

namespace Cert.Softmax

open Idealize.ShloMosaic

/-- The weight of a score `s` under the maximum `m`: `2 ^ (s - m)`. -/
def wt (s m : EReal) : EReal := Ideal.exp2 (s - m)

theorem exp2_nonneg (x : EReal) : 0 ≤ Ideal.exp2 x := by
  induction x with
  | bot => simp
  | top => simp
  | coe r => rw [Ideal.exp2_coe]; exact_mod_cast (Real.rpow_pos_of_pos (by norm_num) r).le

theorem exp2_add_coe (a b : ℝ) : Ideal.exp2 ((a : EReal) + b) = Ideal.exp2 a * Ideal.exp2 b := by
  rw [← EReal.coe_add, Ideal.exp2_coe, Ideal.exp2_coe, Ideal.exp2_coe, ← EReal.coe_mul]
  congr 1
  exact Real.rpow_add (by norm_num) a b

theorem wt_nonneg (s m : EReal) : 0 ≤ wt s m := exp2_nonneg _

theorem sub_top' (s : EReal) : s - ⊤ = ⊥ := by
  rw [sub_eq_add_neg, EReal.neg_top, EReal.add_bot]

theorem wt_top (s : EReal) : wt s ⊤ = 0 := by
  rw [wt, sub_top', Ideal.exp2_bot]

theorem wt_bot (m : EReal) : wt ⊥ m = 0 := by
  rw [wt, sub_eq_add_neg, EReal.bot_add, Ideal.exp2_bot]

theorem wt_coe (a m : ℝ) : wt a m = ((Real.rpow 2 (a - m) : ℝ) : EReal) := by
  rw [wt, ← EReal.coe_sub, Ideal.exp2_coe]

/-- Raising the maximum from `m` to `m'` rescales a weight by `wt m m'`. -/
theorem wt_rescale {s m m' : EReal} (h : s ≤ m) (h' : m ≤ m') : wt m m' * wt s m = wt s m' := by
  induction m' with
  | top => rw [wt_top, wt_top, zero_mul]
  | bot =>
    obtain rfl : m = ⊥ := le_bot_iff.mp h'
    rw [wt_bot, zero_mul, le_bot_iff.mp h, wt_bot]
  | coe c =>
    induction m with
    | top => exact absurd h' (by simp)
    | bot => rw [wt_bot, zero_mul, le_bot_iff.mp h, wt_bot]
    | coe b =>
      induction s with
      | top => exact absurd h (by simp)
      | bot => rw [wt_bot, wt_bot, mul_zero]
      | coe a =>
        rw [wt_coe, wt_coe, wt_coe, ← EReal.coe_mul]
        congr 1
        change (2 : ℝ) ^ (b - c) * (2 : ℝ) ^ (a - b) = (2 : ℝ) ^ (a - c)
        rw [← Real.rpow_add (by norm_num)]
        congr 1; ring

/-- A rescaling factor is a nonnegative real, when the maximum only grows. -/
theorem wt_ne_top {m m' : EReal} (h : m ≤ m') : wt m m' ≠ ⊤ := by
  induction m' with
  | top => rw [wt_top]; simp
  | bot => rw [le_bot_iff.mp h, wt_bot]; simp
  | coe c =>
    induction m with
    | top => exact absurd h (by simp)
    | bot => rw [wt_bot]; simp
    | coe b => rw [wt_coe]; exact EReal.coe_ne_top _

/-- Multiplication by a nonnegative real factor goes through a finite sum of extended reals. -/
theorem mul_sum {ι : Type*} (t : Finset ι) (f : ι → EReal) {c : EReal} (h0 : 0 ≤ c) (h1 : c ≠ ⊤) :
    c * ∑ i ∈ t, f i = ∑ i ∈ t, c * f i := by
  classical
  induction t using Finset.induction_on with
  | empty => simp
  | insert a t ha ih =>
    rw [Finset.sum_insert ha, Finset.sum_insert ha, EReal.left_distrib_of_nonneg_of_ne_top h0 h1, ih]

theorem sum_mul {ι : Type*} (t : Finset ι) (f : ι → EReal) {c : EReal} (h0 : 0 ≤ c) (h1 : c ≠ ⊤) :
    (∑ i ∈ t, f i) * c = ∑ i ∈ t, f i * c := by
  rw [mul_comm, mul_sum t f h0 h1]
  exact Finset.sum_congr rfl fun i _ => mul_comm _ _

section Scan

variable {ι : Type*} {J : ℕ}

/-- The greatest score of one tile. -/
def tmax (s : Fin J → EReal) : EReal := Finset.univ.fold max ⊥ s

theorem le_tmax (s : Fin J → EReal) (j : Fin J) : s j ≤ tmax s :=
  Finset.le_fold_max (s j) |>.mpr (.inr ⟨j, Finset.mem_univ j, le_rfl⟩)

theorem tmax_le {s : Fin J → EReal} {b : EReal} (h : ∀ j, s j ≤ b) : tmax s ≤ b :=
  Finset.fold_max_le b |>.mpr ⟨bot_le, fun j _ => h j⟩

/-- The running maximum after the tiles of a list (the last one first). -/
def rmax (s : ι → Fin J → EReal) : List ι → EReal
  | [] => ⊥
  | [i] => tmax (s i)
  | i :: l => max (rmax s l) (tmax (s i))

/-- The running weighted sum after the tiles of a list (the last one first). -/
def racc (s v : ι → Fin J → EReal) : List ι → EReal
  | [] => 0
  | [i] => ∑ j, v i j * wt (s i j) (tmax (s i))
  | i :: k :: l =>
    wt (rmax s (k :: l)) (rmax s (i :: k :: l)) * racc s v (k :: l)
      + ∑ j, v i j * wt (s i j) (rmax s (i :: k :: l))

theorem rmax_cons (s : ι → Fin J → EReal) (i : ι) (l : List ι) :
    rmax s (i :: l) = max (rmax s l) (tmax (s i)) := by
  cases l with
  | nil => simp [rmax]
  | cons k l => rfl

theorem le_rmax (s : ι → Fin J → EReal) {l : List ι} {i : ι} (h : i ∈ l) (j : Fin J) : s i j ≤ rmax s l := by
  induction l with
  | nil => exact absurd h (by simp)
  | cons k l ih =>
    rw [rmax_cons]
    rcases List.mem_cons.mp h with rfl | h
    · exact (le_tmax _ j).trans (le_max_right _ _)
    · exact (ih h).trans (le_max_left _ _)

theorem rmax_le (s : ι → Fin J → EReal) {l : List ι} {b : EReal} (h : ∀ i ∈ l, ∀ j, s i j ≤ b) : rmax s l ≤ b := by
  induction l with
  | nil => exact bot_le
  | cons k l ih =>
    rw [rmax_cons]
    exact max_le (ih fun i hi => h i (List.mem_cons_of_mem _ hi)) (tmax_le (h k List.mem_cons_self))

/-- Rescaling a whole sum of weighted values. -/
theorem sum_rescale (s v : Fin J → EReal) {m m' : EReal} (h : ∀ j, s j ≤ m) (h' : m ≤ m') :
    wt m m' * ∑ j, v j * wt (s j) m = ∑ j, v j * wt (s j) m' := by
  rw [mul_sum _ _ (wt_nonneg _ _) (wt_ne_top h')]
  exact Finset.sum_congr rfl fun j _ => by rw [mul_left_comm, wt_rescale (h j) h']

theorem list_sum_rescale (s v : ι → Fin J → EReal) {m m' : EReal} (l : List ι)
    (h : ∀ i ∈ l, ∀ j, s i j ≤ m) (h' : m ≤ m') :
    wt m m' * (l.map fun i => ∑ j, v i j * wt (s i j) m).sum = (l.map fun i => ∑ j, v i j * wt (s i j) m').sum := by
  induction l with
  | nil => simp
  | cons k l ih =>
    rw [List.map_cons, List.sum_cons, List.map_cons, List.sum_cons,
      EReal.left_distrib_of_nonneg_of_ne_top (wt_nonneg _ _) (wt_ne_top h'),
      sum_rescale _ _ (h k List.mem_cons_self) h', ih fun i hi => h i (List.mem_cons_of_mem _ hi)]

/-- After any list of tiles the running sum is the sum over those tiles of value · 2^(score − maximum). -/
theorem acc_scan (s v : ι → Fin J → EReal) (l : List ι) :
    racc s v l = (l.map fun i => ∑ j, v i j * wt (s i j) (rmax s l)).sum := by
  induction l with
  | nil => rfl
  | cons i l ih =>
    cases l with
    | nil => simp [racc, rmax]
    | cons k l =>
      rw [racc, ih, list_sum_rescale s v (k :: l) (fun i hi j => le_rmax s hi j)
        (by rw [rmax_cons s i]; exact le_max_left _ _), List.map_cons (l := k :: l), List.sum_cons, add_comm]

end Scan

/-! ### The quotient -/

section Normalise

variable {κ : Type*} [Fintype κ]

/-- The factor between a natural and a base-two exponent: `1 / log 2`. -/
def L : EReal := (((Real.log 2)⁻¹ : ℝ) : EReal)

theorem log_two_pos : 0 < Real.log 2 := Real.log_pos (by norm_num)

theorem L_nonneg : 0 ≤ L := by
  rw [L]; exact_mod_cast (inv_pos.mpr log_two_pos).le

theorem L_ne_top : L ≠ ⊤ := EReal.coe_ne_top _

theorem top_mul_L : ⊤ * L = ⊤ := EReal.top_mul_coe_of_pos (inv_pos.mpr log_two_pos)
theorem bot_mul_L : ⊥ * L = ⊥ := EReal.bot_mul_coe_of_pos (inv_pos.mpr log_two_pos)

theorem mul_L_mono {a b : EReal} (h : a ≤ b) : a * L ≤ b * L := mul_le_mul_of_nonneg_right h L_nonneg

theorem rpow_two_mul (r : ℝ) : Real.rpow 2 (r * (Real.log 2)⁻¹) = Real.exp r := by
  change (2 : ℝ) ^ (r * (Real.log 2)⁻¹) = _
  rw [Real.rpow_def_of_pos (by norm_num)]
  congr 1
  field_simp [log_two_pos.ne']

/-- The weight in base two of the scaled scores is the exponential of the difference, under a real maximum. -/
theorem wt_mul_L (a : EReal) (m : ℝ) (h : a ≤ m) : wt (a * L) (m * L) = Ideal.exp (a - m) := by
  induction a with
  | top => exact absurd h (by simp)
  | bot => rw [bot_mul_L, wt_bot, sub_eq_add_neg, EReal.bot_add, Ideal.exp_bot]
  | coe a =>
    rw [L, ← EReal.coe_mul, ← EReal.coe_mul, wt_coe, ← EReal.coe_sub, Ideal.exp_coe, ← sub_mul, rpow_two_mul]

/-! The reference's masked softmax of one query, read off one feature of the values. -/

/-- The scores of query `i` with the later keys masked. -/
def ms {N : ℕ} (s : Fin N → EReal) (i : ℕ) (j : Fin N) : EReal := if j.val ≤ i then s j else ⊥

/-- A maximum that is not finite is replaced by zero. -/
def fin0 (m : EReal) : EReal := if max m (-m) < ⊤ then m else 0

/-- The exponential of a score under the maximum. -/
def ex {N : ℕ} (s : Fin N → EReal) (i : ℕ) (j : Fin N) : EReal :=
  if j.val ≤ i then Ideal.exp (ms s i j - fin0 (tmax (ms s i))) else 0

/-- The floor of a denominator. -/
def eps : EReal := Ideal.ofBits .f32 0x0DA24260#32

def attn {N : ℕ} (s v : Fin N → EReal) (i : ℕ) : EReal :=
  ∑ j, v j * Ideal.div (ex s i j) (max (∑ k, ex s i k) eps)

end Normalise

end Cert.Softmax

end
-- ==== Proof.Tile.lean ====
module
public import proofs.«01_k».proof.Proof.Gen.KernelIdeal.Value
public import proofs.«01_k».proof.Proof.Softmax
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.KernelIdeal.Tile
open Cert.KernelIdeal Cert.KernelIdeal.Gen Cert.Softmax

/-- One tile of keys: its scores (key by query) and its value rows. -/
abbrev KTile := FVec Ideal S512x512 .f32 × Vec Ideal S1x144x512 .bf16

/-- The scores of query `r` against the keys of a tile. -/
def row (r : Fin 512) (p : KTile) (j : Fin 512) : EReal := p.1 (ix2 j r)

/-- Value row `d` of a tile. -/
def vrow (d : Fin 144) (p : KTile) (j : Fin 512) : EReal := p.2 (ix3 0 d j)

/-- The running maximum and the running weighted sums after the tiles of a list, the last one first. -/
def st : List KTile → FVec Ideal S1x512 .f32 × FVec Ideal S144x512 .f32
  | [] => (fun _ => ⊥, fun _ => 0)
  | [p] => (k0_pay148 p.1, k0_pay152 p.1 p.2)
  | p :: k :: l => (maximumf (st (k :: l)).1 (k0_pay148 p.1), k0_pay156 p.1 (st (k :: l)).1 (st (k :: l)).2 p.2)

theorem ofBits_neg_inf : Ideal.ofBits .f32 0xFF800000#32 = ⊥ := by simp [Ideal.ofBits, Ideal.ieee]

theorem mask_bot : Named.named (F := Ideal) κ "mask" (φ := .f32) 0xF149F2CA#32 = (⊥ : EReal) :=
  IdealRules.named_const.ideal_named_scalar _ _ _ _ rfl

theorem pay148_at (T : FVec Ideal S512x512 .f32) (r : Fin 512) :
    k0_pay148 T (ix2 0 r) = tmax fun j => T (ix2 j r) := by
  pointwise [k0_pay148, ofBits_neg_inf]
  rfl

theorem pay152_at (T : FVec Ideal S512x512 .f32) (v : Vec Ideal S1x144x512 .bf16) (d : Fin 144) (r : Fin 512) :
    k0_pay152 T v (ix2 d r) = ∑ j, v (ix3 0 d j) * wt (T (ix2 j r)) (tmax fun j => T (ix2 j r)) := by
  pointwise [k0_pay152, pay148_at]
  rfl

theorem pay156_at (T : FVec Ideal S512x512 .f32) (mx : FVec Ideal S1x512 .f32) (a : FVec Ideal S144x512 .f32)
    (v : Vec Ideal S1x144x512 .bf16) (d : Fin 144) (r : Fin 512) :
    k0_pay156 T mx a v (ix2 d r) =
      wt (mx (ix2 0 r)) (max (mx (ix2 0 r)) (tmax fun j => T (ix2 j r))) * a (ix2 d r)
        + ∑ j, v (ix3 0 d j) * wt (T (ix2 j r)) (max (mx (ix2 0 r)) (tmax fun j => T (ix2 j r))) := by
  pointwise [k0_pay156, ofBits_neg_inf]
  rfl

theorem pay162_at (a : FVec Ideal S144x512 .f32) (r : Fin 512) (d : Fin 128) :
    k0_pay162 a (ix2 r d) = a (ix2 ⟨d, by omega⟩ r) * Ideal.div 1 (max (a (ix2 128 r)) (Ideal.ofBits .f32 0x0DA24260#32)) := by
  pointwise [k0_pay162]

/-- A plain score tile, key `j` against query `r`. -/
theorem pay139_at (q : FVec Ideal S256x512 .bf16) (a : Vec Ideal S1x512x256 .bf16) (j r : Fin 512) :
    k0_pay139 q a (ix2 j r) = ∑ l, a (ix3 0 j l) * q (ix2 l r) := by
  pointwise [k0_pay139]

/-- The diagonal score tile: the keys after the query are masked. -/
theorem pay138_at (q : FVec Ideal S256x512 .bf16) (a : Vec Ideal S1x512x256 .bf16) (j r : Fin 512) :
    k0_pay138 q (iota .tc S512x512 32 [0] iota_S512x512_d0_w32) (iota .tc S512x512 32 [1] iota_S512x512_d1_w32) a (ix2 j r)
      = if j.val ≤ r.val then ∑ l, a (ix3 0 j l) * q (ix2 l r) else ⊥ := by
  pointwise [k0_pay138, mask_bot]
  simp (disch := word_cmp_side) only [hlo_ix, decide_eq_true_eq]

theorem pay181_lo (v4 : Vec Ideal S1x1x1x512 .f32) (v34 : Vec Ideal S512x128 .bf16) (l : Fin 128) (r : Fin 512) :
    k0_pay181 v4 v34 (ix2 ⟨l, by omega⟩ r) = v34 (ix2 r l) := by
  pointwise [k0_pay181]

/-- The extra query rows: `1` three times, then the three pieces of the decay `x`, then zeros. -/
def qx (l : ℕ) (x : EReal) : EReal :=
  (if l = 3 then x else if l = 4 then x - x else if l = 5 then x - x - (x - x) else 0) + if l < 3 then 1 else 0

theorem pay181_hi (v4 : Vec Ideal S1x1x1x512 .f32) (v34 : Vec Ideal S512x128 .bf16) (l : Fin 128) (r : Fin 512) :
    k0_pay181 v4 v34 (ix2 ⟨128 + l, by omega⟩ r) = qx l (v4 (ix4 0 0 0 r)) := by
  pointwise [k0_pay181, qx]
  simp (disch := word_cmp_side) only [hlo_ix, decide_eq_true_eq]

/-- The running maximum of a query is the maximum over its tiles. -/
theorem st_max (l : List KTile) (r : Fin 512) : (st l).1 (ix2 0 r) = rmax (row r) l := by
  induction l with
  | nil => simp only [st, rmax]
  | cons p l ih =>
    cases l with
    | nil =>
      simp only [st, rmax, pay148_at]
      rfl
    | cons k l =>
      rw [rmax_cons, ← ih, ← show k0_pay148 p.1 (ix2 0 r) = tmax (row r p) from pay148_at p.1 r]
      rfl

/-- The running sums are the rescaled sums over the tiles. -/
theorem st_acc (l : List KTile) (d : Fin 144) (r : Fin 512) : (st l).2 (ix2 d r) = racc (row r) (vrow d) l := by
  induction l with
  | nil => rfl
  | cons p l ih =>
    cases l with
    | nil =>
      simp only [st, racc, pay152_at]
      rfl
    | cons k l =>
      refine (pay156_at p.1 (st (k :: l)).1 (st (k :: l)).2 p.2 d r).trans ?_
      rw [ih, st_max]
      rfl

/-- What a head writes: the weighted sum times the inverse of the sum of the weights. -/
theorem out_at (l : List KTile) (r : Fin 512) (d : Fin 128) :
    k0_pay162 (st l).2 (ix2 r d)
      = racc (row r) (vrow ⟨d, by omega⟩) l * Ideal.div 1 (max (racc (row r) (vrow 128) l) (Ideal.ofBits .f32 0x0DA24260#32)) := by
  rw [pay162_at, st_acc, st_acc]

/-! ### The tiles of a head, from the staged blocks -/

theorem inb_key (h i : Fin 4) : ∀ a, (![h.val, 512 * i.val, 0] : Fin 3 → ℕ) a + (![1, 512, 256] : Fin 3 → ℕ) a ≤ S4x2048x256.size a := by
  revert h i; decide
theorem inb_val (h i : Fin 4) : ∀ a, (![h.val, 0, 512 * i.val] : Fin 3 → ℕ) a + (![1, 144, 512] : Fin 3 → ℕ) a ≤ S4x144x2048.size a := by
  revert h i; decide
theorem inb_q (h : Fin 4) : ∀ a, (![0, 128 * h.val] : Fin 2 → ℕ) a + (![512, 128] : Fin 2 → ℕ) a ≤ S512x512.size a := by
  revert h; decide
theorem inb_c (h : Fin 4) : ∀ a, (![0, h.val, 0, 0] : Fin 4 → ℕ) a + (![1, 1, 1, 512] : Fin 4 → ℕ) a ≤ S1x4x1x512.size a := by
  revert h; decide

/-- Rows `512 i …` of head `h`'s extended keys. -/
def keyBlk (A : S4x2048x256.Idx → EReal) (h i : Fin 4) : Vec Ideal S1x512x256 .bf16 :=
  View.ld (Val := Elt Ideal) (e' := .bf16) A (Rect.unit ![h.val, 512 * i.val, 0] ![1, 512, 256] (inb_key h i))

/-- Columns `512 i …` of head `h`'s extended values. -/
def valBlk (V : S4x144x2048.Idx → EReal) (h i : Fin 4) : Vec Ideal S1x144x512 .bf16 :=
  View.ld (Val := Elt Ideal) (e' := .bf16) V (Rect.unit ![h.val, 0, 512 * i.val] ![1, 144, 512] (inb_val h i))

/-- Head `h`'s extended queries: the queries transposed, then the decay's pieces. -/
def qt (X4 : S1x4x1x512.Idx → EReal) (X0 : S512x512.Idx → EReal) (h : Fin 4) : FVec Ideal S256x512 .bf16 :=
  k0_pay181 (View.ld (Val := Elt Ideal) (e' := .f32) X4 (Rect.unit ![0, h.val, 0, 0] ![1, 1, 1, 512] (inb_c h)))
    (View.ld (Val := Elt Ideal) (e' := .bf16) X0 (Rect.unit ![0, 128 * h.val] ![512, 128] (inb_q h)))

theorem keyBlk_at (A : S4x2048x256.Idx → EReal) (h i : Fin 4) (j : Fin 512) (l : Fin 256) :
    keyBlk A h i (ix3 0 j l) = A (ix3 h ⟨512 * i + j, by omega⟩ l) := by
  pointwise [keyBlk]

theorem valBlk_at (V : S4x144x2048.Idx → EReal) (h i : Fin 4) (d : Fin 144) (j : Fin 512) :
    valBlk V h i (ix3 0 d j) = V (ix3 h d ⟨512 * i + j, by omega⟩) := by
  pointwise [valBlk]

theorem qt_lo (X4 : S1x4x1x512.Idx → EReal) (X0 : S512x512.Idx → EReal) (h : Fin 4) (l : Fin 128) (r : Fin 512) :
    qt X4 X0 h (ix2 ⟨l, by omega⟩ r) = X0 (ix2 r ⟨128 * h + l, by omega⟩) := by
  rw [qt, pay181_lo]
  pointwise []

theorem qt_hi (X4 : S1x4x1x512.Idx → EReal) (X0 : S512x512.Idx → EReal) (h : Fin 4) (l : Fin 128) (r : Fin 512) :
    qt X4 X0 h (ix2 ⟨128 + l, by omega⟩ r) = qx l (X4 (ix4 0 h 0 r)) := by
  rw [qt, pay181_hi]
  refine congrArg (qx l) ?_
  pointwise []

/-- An earlier tile of keys: every key counts. -/
def plain (X4 : S1x4x1x512.Idx → EReal) (X0 : S512x512.Idx → EReal) (A : S4x2048x256.Idx → EReal) (V : S4x144x2048.Idx → EReal)
    (h i : Fin 4) : KTile :=
  (k0_pay139 (qt X4 X0 h) (keyBlk A h i), valBlk V h i)

/-- The query tile's own keys: the later ones are masked. -/
def diag (X4 : S1x4x1x512.Idx → EReal) (X0 : S512x512.Idx → EReal) (A : S4x2048x256.Idx → EReal) (V : S4x144x2048.Idx → EReal)
    (h i : Fin 4) : KTile :=
  (k0_pay138 (qt X4 X0 h) (iota .tc S512x512 32 [0] iota_S512x512_d0_w32) (iota .tc S512x512 32 [1] iota_S512x512_d1_w32) (keyBlk A h i),
    valBlk V h i)

/-- The tiles query tile `n` reads, in the reverse of the order they are read in. -/
def tiles (X4 : S1x4x1x512.Idx → EReal) (X0 : S512x512.Idx → EReal) (A : S4x2048x256.Idx → EReal) (V : S4x144x2048.Idx → EReal)
    (h : Fin 4) : Fin 4 → List KTile
  | 0 => [diag X4 X0 A V h 0]
  | 1 => [plain X4 X0 A V h 0, diag X4 X0 A V h 1]
  | 2 => [plain X4 X0 A V h 0, plain X4 X0 A V h 1, diag X4 X0 A V h 2]
  | 3 => [plain X4 X0 A V h 0, plain X4 X0 A V h 1, plain X4 X0 A V h 2, diag X4 X0 A V h 3]

/-- What head `h` of query tile `n` writes at query `r`, feature `d`. -/
def headOut (X4 : S1x4x1x512.Idx → EReal) (X0 : S512x512.Idx → EReal) (A : S4x2048x256.Idx → EReal) (V : S4x144x2048.Idx → EReal)
    (n h : Fin 4) (r : Fin 512) (d : Fin 128) : EReal :=
  k0_pay162 (st (tiles X4 X0 A V h n)).2 (ix2 r d)

/-- The output block from its heads: column `128 h + d` holds feature `d` of head `h`. -/
def byHead (f : Fin 4 → Fin 512 → Fin 128 → EReal) (y : S512x512.Idx) : EReal :=
  f ⟨(y 1 : Fin 512).val / 128, by have : (y 1 : Fin 512).val < 512 := (y 1 : Fin 512).isLt; omega⟩ (y 0) ⟨(y 1 : Fin 512).val % 128, Nat.mod_lt _ (by omega)⟩

theorem byHead_piece (f : Fin 4 → Fin 512 → Fin 128 → EReal) (y : S512x512.Idx) (h : Fin 4) (r : Fin 512) (d : Fin 128)
    (e0 : (y 0 : Fin 512).val = r.val) (e1 : (y 1 : Fin 512).val = 128 * h.val + d.val) : f h r d = byHead f y := by
  unfold byHead
  have h1 : (⟨(y 1 : Fin 512).val / 128, by have : (y 1 : Fin 512).val < 512 := (y 1 : Fin 512).isLt; omega⟩ : Fin 4) = h :=
    Fin.ext (by change (y 1 : Fin 512).val / 128 = h.val; omega)
  have h2 : (⟨(y 1 : Fin 512).val % 128, Nat.mod_lt _ (by omega)⟩ : Fin 128) = d :=
    Fin.ext (by change (y 1 : Fin 512).val % 128 = d.val; omega)
  have h3 : (y 0 : Fin 512) = r := Fin.ext e0
  rw [h1, h2, h3]

end Cert.KernelIdeal.Tile
end
-- ==== Proof.Points.lean ====
/- What each grid point leaves, in terms of the tiles its heads read.

   Four kinds of point (the position of the query tile) run the four branches of the switch. The
   first one also fills the two scratch arrays, which the other three only read. -/
module
public import proofs.«01_k».proof.Proof.Tile
public import Idealize.ShloMosaic.Lib.Pipeline.ReadBack
@[expose] public section
set_option maxRecDepth 1000000
noncomputable section
open Idealize.ShloMosaic Idealize.ShloMosaic.TcCoe Idealize.SL.Sem
open Idealize.ShloMosaic.Pipeline (Dat)
namespace Cert.KernelIdeal.Points
open Cert.KernelIdeal Cert.KernelIdeal.Gen Cert.KernelIdeal.Tile
variable (m : (ℓ : Loc nD τ sig) → Buf (Elt Ideal) ℓ)

/-- The first query tile: the scratch arrays it reads are the ones it leaves. -/
theorem out_A (c : Dev nD) (t : Fin cfg0.N) (ht : t.val % 4 = 0) (A : S4x2048x256.Idx → EReal) (V : S4x144x2048.Idx → EReal)
    (hV : (outsAt0 m c t.val t.isLt).2.1 = V) (hA : (outsAt0 m c t.val t.isLt).2.2 = A) (y : S512x512.Idx) :
    (outsAt0 m c t.val t.isLt).1 y = byHead (headOut (iblk m c 4 t) (iblk m c 0 t) A V 0) y := by
  rw [outsAt0_A m c t ht (by omega)] at hA hV ⊢
  frame_out at hA hV ⊢
  simp only [View.readCov_eq_canon', hA, hV]
  generalize iblk m c 4 t = X4
  generalize iblk m c 0 t = X0
  canon_tiles x h
  all_goals idx_vars x
  · refine (congrFun (g := k0_pay162 (st (tiles X4 X0 A V 3 0)).2) ?_ (ix2 x0 x1)).trans (byHead_piece (headOut X4 X0 A V 0) y 3 x0 x1 h0 h1)
    rfl
  · refine (congrFun (g := k0_pay162 (st (tiles X4 X0 A V 2 0)).2) ?_ (ix2 x0 x1)).trans (byHead_piece (headOut X4 X0 A V 0) y 2 x0 x1 h0 h1)
    rfl
  · refine (congrFun (g := k0_pay162 (st (tiles X4 X0 A V 1 0)).2) ?_ (ix2 x0 x1)).trans (byHead_piece (headOut X4 X0 A V 0) y 1 x0 x1 h0 h1)
    rfl
  · refine (congrFun (g := k0_pay162 (st (tiles X4 X0 A V 0 0)).2) ?_ (ix2 x0 x1)).trans (byHead_piece (headOut X4 X0 A V 0) y 0 x0 x1 h0 (by omega))
    rfl

set_option maxHeartbeats 1600000 in
/-- The second query tile. -/
theorem out_B (c : Dev nD) (t : Fin cfg0.N) (ht : t.val % 4 = 1) (A : S4x2048x256.Idx → EReal) (V : S4x144x2048.Idx → EReal)
    (hAV : (outsAt0 m c (t.val - 1) (Nat.lt_of_le_of_lt (Nat.sub_le _ _) t.isLt)).2 = (V, A)) (y : S512x512.Idx) :
    (outsAt0 m c t.val t.isLt).1 y = byHead (headOut (iblk m c 4 t) (iblk m c 0 t) A V 1) y := by
  rw [outsAt0_B m c t (by omega) (by omega) (by omega)]
  frame_out
  simp only [read_unread_whole, hAV]
  generalize iblk m c 4 t = X4
  generalize iblk m c 0 t = X0
  canon_tiles x h
  all_goals idx_vars x
  · refine (congrFun (g := k0_pay162 (st (tiles X4 X0 A V 3 1)).2) ?_ (ix2 x0 x1)).trans (byHead_piece (headOut X4 X0 A V 1) y 3 x0 x1 h0 h1)
    rfl
  · refine (congrFun (g := k0_pay162 (st (tiles X4 X0 A V 2 1)).2) ?_ (ix2 x0 x1)).trans (byHead_piece (headOut X4 X0 A V 1) y 2 x0 x1 h0 h1)
    rfl
  · refine (congrFun (g := k0_pay162 (st (tiles X4 X0 A V 1 1)).2) ?_ (ix2 x0 x1)).trans (byHead_piece (headOut X4 X0 A V 1) y 1 x0 x1 h0 h1)
    rfl
  · refine (congrFun (g := k0_pay162 (st (tiles X4 X0 A V 0 1)).2) ?_ (ix2 x0 x1)).trans (byHead_piece (headOut X4 X0 A V 1) y 0 x0 x1 h0 (by omega))
    rfl

set_option maxHeartbeats 1600000 in
/-- The third query tile. -/
theorem out_C (c : Dev nD) (t : Fin cfg0.N) (ht : t.val % 4 = 2) (A : S4x2048x256.Idx → EReal) (V : S4x144x2048.Idx → EReal)
    (hAV : (outsAt0 m c (t.val - 1) (Nat.lt_of_le_of_lt (Nat.sub_le _ _) t.isLt)).2 = (V, A)) (y : S512x512.Idx) :
    (outsAt0 m c t.val t.isLt).1 y = byHead (headOut (iblk m c 4 t) (iblk m c 0 t) A V 2) y := by
  rw [outsAt0_C m c t (by omega) (by omega) (by omega) (by omega)]
  frame_out
  simp only [read_unread_whole, hAV]
  generalize iblk m c 4 t = X4
  generalize iblk m c 0 t = X0
  canon_tiles x h
  all_goals idx_vars x
  · refine (congrFun (g := k0_pay162 (st (tiles X4 X0 A V 3 2)).2) ?_ (ix2 x0 x1)).trans (byHead_piece (headOut X4 X0 A V 2) y 3 x0 x1 h0 h1)
    rfl
  · refine (congrFun (g := k0_pay162 (st (tiles X4 X0 A V 2 2)).2) ?_ (ix2 x0 x1)).trans (byHead_piece (headOut X4 X0 A V 2) y 2 x0 x1 h0 h1)
    rfl
  · refine (congrFun (g := k0_pay162 (st (tiles X4 X0 A V 1 2)).2) ?_ (ix2 x0 x1)).trans (byHead_piece (headOut X4 X0 A V 2) y 1 x0 x1 h0 h1)
    rfl
  · refine (congrFun (g := k0_pay162 (st (tiles X4 X0 A V 0 2)).2) ?_ (ix2 x0 x1)).trans (byHead_piece (headOut X4 X0 A V 2) y 0 x0 x1 h0 (by omega))
    rfl

set_option maxHeartbeats 1600000 in
/-- The fourth query tile. -/
theorem out_D (c : Dev nD) (t : Fin cfg0.N) (ht : t.val % 4 = 3) (A : S4x2048x256.Idx → EReal) (V : S4x144x2048.Idx → EReal)
    (hAV : (outsAt0 m c (t.val - 1) (Nat.lt_of_le_of_lt (Nat.sub_le _ _) t.isLt)).2 = (V, A)) (y : S512x512.Idx) :
    (outsAt0 m c t.val t.isLt).1 y = byHead (headOut (iblk m c 4 t) (iblk m c 0 t) A V 3) y := by
  rw [outsAt0_D m c t (by omega) (by omega) (by omega) (by omega)]
  frame_out
  simp only [read_unread_whole, hAV]
  generalize iblk m c 4 t = X4
  generalize iblk m c 0 t = X0
  canon_tiles x h
  all_goals idx_vars x
  · refine (congrFun (g := k0_pay162 (st (tiles X4 X0 A V 3 3)).2) ?_ (ix2 x0 x1)).trans (byHead_piece (headOut X4 X0 A V 3) y 3 x0 x1 h0 h1)
    rfl
  · refine (congrFun (g := k0_pay162 (st (tiles X4 X0 A V 2 3)).2) ?_ (ix2 x0 x1)).trans (byHead_piece (headOut X4 X0 A V 3) y 2 x0 x1 h0 h1)
    rfl
  · refine (congrFun (g := k0_pay162 (st (tiles X4 X0 A V 1 3)).2) ?_ (ix2 x0 x1)).trans (byHead_piece (headOut X4 X0 A V 3) y 1 x0 x1 h0 h1)
    rfl
  · refine (congrFun (g := k0_pay162 (st (tiles X4 X0 A V 0 3)).2) ?_ (ix2 x0 x1)).trans (byHead_piece (headOut X4 X0 A V 3) y 0 x0 x1 h0 (by omega))
    rfl

/-- The other query tiles leave the scratch arrays as they find them. -/
theorem keep (c : Dev nD) (t : Fin cfg0.N) (ht : ¬t.val % 4 = 0) :
    (outsAt0 m c t.val t.isLt).2 = (outsAt0 m c (t.val - 1) (Nat.lt_of_le_of_lt (Nat.sub_le _ _) t.isLt)).2 := by
  by_cases h1 : t.val % 4 = 1
  · rw [outsAt0_B m c t ht (by omega) (by omega)]
    rfl
  · by_cases h2 : t.val % 4 = 2
    · rw [outsAt0_C m c t ht (by omega) h1 (by omega)]
      rfl
    · rw [outsAt0_D m c t ht (by omega) h1 h2]
      rfl

end Cert.KernelIdeal.Points
end
-- ==== Proof.Scratch.lean ====
/- The two scratch arrays the first query tile of a (batch, head group) fills: the keys with three
   extra columns of decay and three of ones, and the values transposed with rows of ones. -/
module
public import proofs.«01_k».proof.Proof.Points
@[expose] public section
set_option maxRecDepth 16384
noncomputable section
open Idealize.ShloMosaic Idealize.ShloMosaic.TcCoe Idealize.SL.Sem
open Idealize.ShloMosaic.Pipeline (Dat)
namespace Cert.KernelIdeal.Points
open Cert.KernelIdeal Cert.KernelIdeal.Gen Cert.KernelIdeal.Tile
variable (m : (ℓ : Loc nD τ sig) → Buf (Elt Ideal) ℓ)

/-- The picking matrix reads, for each extra column `l`, at most one column of the decay block:
    `a + 8 l` for the three pieces, the ones for the next three. -/
theorem pick_sum (w : Fin 128 → EReal) (a : ℕ) (ha : a < 72) (b : BitVec 32) (hb : b = BitVec.ofNat 32 a) (l : Fin 128) :
    ∑ x : Fin 128, Scalar.select
        (IntOp.ori
          (IntOp.andi (IntOp.cmpi CmpIPredicate.slt (BitVec.ofNat 32 ↑l) 3#32)
            (IntOp.cmpi CmpIPredicate.eq (BitVec.ofNat 32 ↑x)
              (IntOp.addi b (IntOp.muli (BitVec.ofNat 32 ↑l) 8#32))))
          (IntOp.andi
            (IntOp.andi (IntOp.cmpi CmpIPredicate.sge (BitVec.ofNat 32 ↑l) 3#32)
              (IntOp.cmpi CmpIPredicate.slt (BitVec.ofNat 32 ↑l) 6#32))
            (IntOp.cmpi CmpIPredicate.eq (BitVec.ofNat 32 ↑x) 127#32)))
        (w x) 0
      = if h : l.val < 3 then w ⟨a + l * 8, by omega⟩ else if l.val < 6 then w 127 else 0 := by
  have e : IntOp.addi b (IntOp.muli (BitVec.ofNat 32 ↑l) 8#32) = BitVec.ofNat 32 (a + l * 8) := by
    rw [hb, BitVec.ofNat_add, BitVec.ofNat_mul]
    rfl
  rw [e]
  simp (disch := word_cmp_side) only [hlo_ix, decide_eq_true_eq]
  split
  next h =>
    rw [Finset.sum_eq_single (⟨a + l * 8, by omega⟩ : Fin 128)]
    · rw [if_pos (.inl ⟨h, rfl⟩)]
    · intro x _ hx
      refine if_neg fun hh => ?_
      rcases hh with hh | hh
      · exact hx (Fin.ext hh.2)
      · omega
    · exact fun hx => absurd (Finset.mem_univ _) hx
  next h =>
    split
    next h' =>
      rw [Finset.sum_eq_single (127 : Fin 128)]
      · rw [if_pos (.inr ⟨⟨by omega, h'⟩, rfl⟩)]
      · intro x _ hx
        refine if_neg fun hh => ?_
        rcases hh with hh | hh
        · omega
        · exact hx (Fin.ext hh.2)
      · exact fun hx => absurd (Finset.mem_univ _) hx
    next h' => exact Finset.sum_eq_zero fun x _ => if_neg (by omega)

/-- The decay column of head `h` of head group `g`. -/
theorem base_word (g : ℕ) (hg : g < 2) (h : Fin 4) :
    Scalar.addi (Scalar.addi (64#32) (Scalar.muli (BitVec.ofNat 32 g) 4#32)) (BitVec.ofNat 32 h.val) = BitVec.ofNat 32 (64 + 4 * g + h) := by
  interval_cases g <;> revert h <;> decide

/-- The extended values: value features, then ones. -/
def VAL (X2 : S2048x512.Idx → EReal) (h : Fin 4) (d : Fin 144) (j : Fin 2048) : EReal :=
  if hd : d.val < 128 then X2 (ix2 j ⟨128 * h + d, by omega⟩) else 1

/-- The extended keys: key features, then three columns of decay, three of ones, zeros. -/
def KEY (X1 : S2048x512.Idx → EReal) (X3 : S2048x128.Idx → EReal) (g : Fin 2) (h : Fin 4) (j : Fin 2048) (l : Fin 256) : EReal :=
  if hl : l.val < 128 then X1 (ix2 j ⟨128 * h + l, by omega⟩)
  else if hl' : l.val - 128 < 3 then X3 (ix2 j ⟨64 + 4 * g + h + (l - 128) * 8, by omega⟩)
  else if l.val - 128 < 6 then X3 (ix2 j 127) else 0

theorem VAL_one (X2 : S2048x512.Idx → EReal) (a : Fin 4) (b : Fin 144) (e : Fin 2048) (hb : 128 ≤ b.val) : 1 = VAL X2 a b e := by
  rw [VAL, dif_neg (by omega)]

theorem VAL_lo (X2 : S2048x512.Idx → EReal) (a : Fin 4) (b : Fin 144) (e : Fin 2048) (d : Fin 128) (j : Fin 2048) (k : Fin 512)
    (hk : k.val = 128 * a.val + b.val) (hb : b.val = d.val) (he : e.val = j.val) : X2 (ix2 j k) = VAL X2 a b e := by
  obtain rfl : e = j := Fin.ext he
  rw [VAL, dif_pos (by omega)]
  exact congrArg (fun z : Fin 512 => X2 (ix2 e z)) (Fin.ext hk)

theorem KEY_lo (X1 : S2048x512.Idx → EReal) (X3 : S2048x128.Idx → EReal) (g : Fin 2) (a : Fin 4) (e : Fin 2048) (b : Fin 256)
    (j : Fin 2048) (d : Fin 128) (k : Fin 512)
    (hk : k.val = 128 * a.val + b.val) (he : e.val = j.val) (hb : b.val = d.val) : X1 (ix2 j k) = KEY X1 X3 g a e b := by
  obtain rfl : e = j := Fin.ext he
  rw [KEY, dif_pos (by omega)]
  exact congrArg (fun z : Fin 512 => X1 (ix2 e z)) (Fin.ext hk)

theorem KEY_hi (X1 : S2048x512.Idx → EReal) (X3 : S2048x128.Idx → EReal) (w : BitVec 32) (g : Fin 2) (h : Fin 4)
    (hw : w = BitVec.ofNat 32 (64 + 4 * g + h)) (a : Fin 4) (e : Fin 2048) (b : Fin 256)
    (j : Fin 2048) (l : Fin 128) (ha : a.val = h.val) (he : e.val = j.val) (hb : b.val = 128 + l.val) :
    ∑ x : Fin 128, Scalar.select
        (IntOp.ori
          (IntOp.andi (IntOp.cmpi CmpIPredicate.slt (BitVec.ofNat 32 ↑l) 3#32)
            (IntOp.cmpi CmpIPredicate.eq (BitVec.ofNat 32 ↑x)
              (IntOp.addi w (IntOp.muli (BitVec.ofNat 32 ↑l) 8#32))))
          (IntOp.andi
            (IntOp.andi (IntOp.cmpi CmpIPredicate.sge (BitVec.ofNat 32 ↑l) 3#32)
              (IntOp.cmpi CmpIPredicate.slt (BitVec.ofNat 32 ↑l) 6#32))
            (IntOp.cmpi CmpIPredicate.eq (BitVec.ofNat 32 ↑x) 127#32)))
        (X3 (ix2 j x)) 0 = KEY X1 X3 g a e b := by
  obtain rfl : e = j := Fin.ext he
  obtain rfl : a = h := Fin.ext ha
  have hl : b.val - 128 = l.val := by omega
  refine (pick_sum (fun x => X3 (ix2 e x)) (64 + 4 * g + a) (by omega) w hw l).trans ?_
  rw [KEY, dif_neg (show ¬ b.val < 128 by omega)]
  simp only [hl]

theorem vals_A (c : Dev nD) (t : Fin cfg0.N) (ht : t.val % 4 = 0) (y : S4x144x2048.Idx) :
    (outsAt0 m c t.val t.isLt).2.1 y = VAL (iblk m c 2 t) (y 0) (y 1) (y 2) := by
  rw [outsAt0_A m c t ht (by omega)]
  frame_out
  canon_tiles x h using (View.cover_of_tiledBy _ ![1, 16, 2048] (by sl_kernel_rfl) y)
  all_goals idx_vars x; open_payloads; pointwise []
  · exact VAL_one _ (y 0) (y 1) (y 2) (by rw [h1]; omega)
  · exact VAL_lo _ (y 0) (y 1) (y 2) x1 x2 _ (by rw [h0, h1]; change 384 + x1.val = _; omega) h1 h2
  · exact VAL_one _ (y 0) (y 1) (y 2) (by rw [h1]; omega)
  · exact VAL_lo _ (y 0) (y 1) (y 2) x1 x2 _ (by rw [h0, h1]; change 256 + x1.val = _; omega) h1 h2
  · exact VAL_one _ (y 0) (y 1) (y 2) (by rw [h1]; omega)
  · exact VAL_lo _ (y 0) (y 1) (y 2) x1 x2 _ (by rw [h0, h1]; change 128 + x1.val = _; omega) h1 h2
  · exact VAL_one _ (y 0) (y 1) (y 2) (by rw [h1]; omega)
  · exact VAL_lo _ (y 0) (y 1) (y 2) x1 x2 _ (by rw [h0, h1]; change x1.val = _; omega) h1 h2

theorem keys_A (c : Dev nD) (t : Fin cfg0.N) (ht : t.val % 4 = 0) (y : S4x2048x256.Idx) :
    (outsAt0 m c t.val t.isLt).2.2 y = KEY (iblk m c 1 t) (iblk m c 3 t) (grid0.coords t 1) (y 0) (y 1) (y 2) := by
  rw [outsAt0_A m c t ht (by omega)]
  frame_out
  canon_tiles x h
  all_goals idx_vars x; open_payloads; pointwise []
  · exact KEY_hi _ _ _ (grid0.coords t 1) 3 (base_word _ (grid0.coords t 1).isLt 3) (y 0) (y 1) (y 2) x1 x2 (by rw [h0]; change _ = 3; omega) h1 h2
  · exact KEY_lo _ _ _ (y 0) (y 1) (y 2) x1 x2 _ (by rw [h0, h2]; change 384 + x2.val = _; omega) h1 h2
  · exact KEY_hi _ _ _ (grid0.coords t 1) 2 (base_word _ (grid0.coords t 1).isLt 2) (y 0) (y 1) (y 2) x1 x2 (by rw [h0]; change _ = 2; omega) h1 h2
  · exact KEY_lo _ _ _ (y 0) (y 1) (y 2) x1 x2 _ (by rw [h0, h2]; change 256 + x2.val = _; omega) h1 h2
  · exact KEY_hi _ _ _ (grid0.coords t 1) 1 (base_word _ (grid0.coords t 1).isLt 1) (y 0) (y 1) (y 2) x1 x2 (by rw [h0]; change _ = 1; omega) h1 h2
  · exact KEY_lo _ _ _ (y 0) (y 1) (y 2) x1 x2 _ (by rw [h0, h2]; change 128 + x2.val = _; omega) h1 h2
  · exact KEY_hi _ _ _ (grid0.coords t 1) 0 (base_word _ (grid0.coords t 1).isLt 0) (y 0) (y 1) (y 2) x1 x2 (by rw [h0]; change _ = 0; omega) h1 h2
  · exact KEY_lo _ _ _ (y 0) (y 1) (y 2) x1 x2 _ (by rw [h0, h2]; change x2.val = _; omega) h1 h2

end Cert.KernelIdeal.Points
end
-- ==== Proof.Entry.lean ====
/- The arrays the attention call is given, read at an index: queries scaled by the softmax factor and by
   `1 / log 2`, keys, values, and the decay in base two, by key (negated, in three pieces) and by query. -/
module
public import proofs.«01_k».proof.Proof.Gen.KernelIdeal.Value
public import proofs.«01_k».proof.Proof.Softmax
public import Idealize.ShloMosaic.Lib.Pipeline.ValueKit
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.KernelIdeal.Entry
open Cert.KernelIdeal Cert.KernelIdeal.Gen Cert.Softmax
variable (m : (ℓ : Loc nD τ sig) → Buf (Elt Ideal) ℓ)

/-- The host's `1 / log 2`. -/
def LOG2E : FVec Ideal S_ .f32 := Host.divf (constant S_ .f32 0x3F800000#32) (Host.log (constant S_ .f32 0x40000000#32))

/-- Queries, keys and values side by side. -/
def P1 (Q K W : FVec Ideal S4x2048x8x128 .f32) : FVec Ideal S8192x3072 .bf16 :=
  truncf .bf16 (concatenate S8192x3072 1 [⟨S8192x1024, shapeCast S8192x1024 (mulf Q (broadcastInDim S4x2048x8x128 ![] bcast_S_S4x2048x8x128 (mulf (constant S_ .f32 0x3DB504F3#32) LOG2E))) shapeCasts_S4x2048x8x128_S8192x1024⟩, ⟨S8192x1024, shapeCast S8192x1024 K shapeCasts_S4x2048x8x128_S8192x1024⟩, ⟨S8192x1024, shapeCast S8192x1024 W shapeCasts_S4x2048x8x128_S8192x1024⟩] concatenates_S8192x1024_S8192x1024_S8192x1024_S8192x3072_d1) bitsLt_bf16_f32

/-- The decay in base two. -/
def C2 (C : FVec Ideal S4x8x2048 .f32) : FVec Ideal S4x8x2048 .f32 := mulf C (broadcastInDim S4x8x2048 ![] bcast_S_S4x8x2048 LOG2E)

def CR (C : FVec Ideal S4x8x2048 .f32) : FVec Ideal S4x8x1x2048 .f32 := shapeCast S4x8x1x2048 (C2 C) shapeCasts_S4x8x2048_S4x8x1x2048

/-- The negated decay, a row for each position. -/
def NC (C : FVec Ideal S4x8x2048 .f32) : FVec Ideal S8192x8 .f32 :=
  Host.negf (shapeCast S8192x8 (transpose S4x2048x8 [0, 2, 1] (C2 C) transposes_S4x8x2048_S4x2048x8_0_2_1) shapeCasts_S4x2048x8_S8192x8)

def HI (X : FVec Ideal S8192x8 .f32) : FVec Ideal S8192x8 .bf16 := truncf .bf16 X bitsLt_bf16_f32
def R1 (X : FVec Ideal S8192x8 .f32) : FVec Ideal S8192x8 .f32 := subf X (extf .f32 (HI X) bitsLt_bf16_f32)

def CC (X : FVec Ideal S8192x8 .f32) : FVec Ideal S8192x128 .bf16 :=
  concatenate S8192x128 1 [⟨S8192x64, broadcastInDim S8192x64 ![] bcast_S_S8192x64 (constant (F := Ideal) S_ .bf16 0x0000#16)⟩, ⟨S8192x8, HI X⟩, ⟨S8192x8, HI (R1 X)⟩, ⟨S8192x8, HI (R1 (R1 X))⟩, ⟨S8192x39, broadcastInDim S8192x39 ![] bcast_S_S8192x39 (constant (F := Ideal) S_ .bf16 0x0000#16)⟩, ⟨S8192x1, broadcastInDim S8192x1 ![] bcast_S_S8192x1 (constant (F := Ideal) S_ .bf16 0x3F80#16)⟩] concatenates_S8192x64_S8192x8_S8192x8_S8192x8_S8192x39_S8192x1_S8192x128_d1

theorem V_p1 (c : Dev nD) : V m c main_v9 = P1 (m ((c : Thread nD τ).loc main_arg0)) (m ((c : Thread nD τ).loc main_arg1)) (m ((c : Thread nD τ).loc main_arg2)) := by
  unfold_abbrev_sides
  after_reads_simp
  rfl
theorem V_cr (c : Dev nD) : V m c main_v26 = CR (m ((c : Thread nD τ).loc main_arg3)) := by
  unfold_abbrev_sides
  after_reads_simp
  rfl
theorem V_cc (c : Dev nD) : V m c main_v25 = CC (NC (m ((c : Thread nD τ).loc main_arg3))) := by
  unfold_abbrev_sides
  after_reads_simp
  rfl

theorem ofBits_two : Ideal.ofBits .f32 0x40000000#32 = ((2 : ℝ) : EReal) := by
  simp [Ideal.ofBits, Ideal.ieee]
  norm_num
  rw [← EReal.coe_mul]
  norm_num

theorem log2e (i : S_.Idx) : LOG2E i = L := by
  pointwise [LOG2E]
  rw [ofBits_two, Ideal.log_coe, if_neg (by norm_num), Ideal.div_coe log_two_pos.ne', one_mul, L, one_div]

variable (Q K W : FVec Ideal S4x2048x8x128 .f32) (C : FVec Ideal S4x8x2048 .f32) (X : FVec Ideal S8192x8 .f32)

theorem p1_q (b : Fin 4) (i : Fin 2048) (h : Fin 8) (l : Fin 128) :
    P1 Q K W (ix2 ⟨2048 * b + i, by omega⟩ ⟨128 * h + l, by omega⟩) = Q (ix4 b i h l) * (Ideal.ofBits .f32 0x3DB504F3#32 * L) := by
  pointwise [P1, log2e]
  rw [dif_pos (by omega)]

theorem p1_k (b : Fin 4) (i : Fin 2048) (h : Fin 8) (l : Fin 128) :
    P1 Q K W (ix2 ⟨2048 * b + i, by omega⟩ ⟨1024 + 128 * h + l, by omega⟩) = K (ix4 b i h l) := by
  pointwise [P1]
  rw [dif_neg (by omega), dif_pos (by omega)]
  exact congrArg₂ (fun a d => K (ix4 b i a d)) (Fin.ext (by dsimp only; omega)) (Fin.ext (by dsimp only; omega))

theorem p1_v (b : Fin 4) (i : Fin 2048) (h : Fin 8) (l : Fin 128) :
    P1 Q K W (ix2 ⟨2048 * b + i, by omega⟩ ⟨2048 + 128 * h + l, by omega⟩) = W (ix4 b i h l) := by
  pointwise [P1]
  rw [dif_neg (by omega), dif_neg (by omega)]
  exact congrArg₂ (fun a d => W (ix4 b i a d)) (Fin.ext (by dsimp only; omega)) (Fin.ext (by dsimp only; omega))

theorem c2_at (i : S4x8x2048.Idx) : C2 C i = C i * L := by
  pointwise [C2, log2e]

theorem cr_at (b : Fin 4) (h : Fin 8) (j : Fin 2048) : CR C (ix4 b h 0 j) = C (ix3 b h j) * L := by
  pointwise [CR, c2_at]

theorem nc_at (b : Fin 4) (i : Fin 2048) (h : Fin 8) : NC C (ix2 ⟨2048 * b + i, by omega⟩ h) = -(C (ix3 b h i) * L) := by
  pointwise [NC, c2_at]

theorem hi_at (i : S8192x8.Idx) : HI X i = X i := by
  pointwise [HI]
theorem r1_at (i : S8192x8.Idx) : R1 X i = X i - X i := by
  pointwise [R1, hi_at]

theorem cc_hi (x : Fin 8192) (h : Fin 8) : CC X (ix2 x ⟨64 + h, by omega⟩) = X (ix2 x h) := by
  pointwise [CC, hi_at]
theorem cc_mid (x : Fin 8192) (h : Fin 8) : CC X (ix2 x ⟨72 + h, by omega⟩) = X (ix2 x h) - X (ix2 x h) := by
  have e : (⟨72 + h.val - 64 - 8, by omega⟩ : Fin 8) = h := Fin.ext (by dsimp only; omega)
  pointwise [CC, hi_at, r1_at]
  rw [dif_neg (by omega), dif_neg (by omega), dif_pos (by omega), e]
theorem cc_lo (x : Fin 8192) (h : Fin 8) : CC X (ix2 x ⟨80 + h, by omega⟩) = X (ix2 x h) - X (ix2 x h) - (X (ix2 x h) - X (ix2 x h)) := by
  have e : (⟨80 + h.val - 64 - 8 - 8, by omega⟩ : Fin 8) = h := Fin.ext (by dsimp only; omega)
  pointwise [CC, hi_at, r1_at]
  rw [dif_neg (by omega), dif_neg (by omega), dif_neg (by omega), dif_pos (by omega), e]
theorem cc_one (x : Fin 8192) : CC X (ix2 x 127) = 1 := by
  pointwise [CC]

end Cert.KernelIdeal.Entry
end
-- ==== Proof.Row.lean ====
/- One row of the attention: its tiles put end to end, and the quotient.

   `racc_list` gathers the tiles a query reads (the keys that come after it count as `⊥`) into one sum
   over all keys under the maximum of all scores. `normalise` compares the quotient of two such sums with
   the reference's masked softmax, which exponentiates to base e and replaces a maximum that is not finite
   by zero. No score or value need be finite. -/
module
public import proofs.«01_k».proof.Proof.Softmax
public import Idealize.ShloMosaic.Lib.Pointwise.Sums
@[expose] public section
noncomputable section
namespace Cert.Softmax
open Idealize.ShloMosaic

/-- A maximum over a tile is one of its scores, or `⊥`. -/
theorem tmax_attained {N : ℕ} (s : Fin N → EReal) : tmax s = ⊥ ∨ ∃ j, tmax s = s j := by
  have H : ∀ t : Finset (Fin N), t.fold max ⊥ s = ⊥ ∨ ∃ j, t.fold max ⊥ s = s j := by
    intro t
    induction t using Finset.induction_on with
    | empty => exact .inl rfl
    | insert a t ha ih =>
      rw [Finset.fold_insert ha]
      rcases max_choice (s a) (t.fold max ⊥ s) with h | h
      · exact .inr ⟨a, h⟩
      · rw [h]; exact ih
  exact H _

theorem tmax_mul_L {N : ℕ} (s : Fin N → EReal) : tmax (fun j => s j * L) = tmax s * L := by
  apply le_antisymm
  · exact tmax_le fun j => mul_L_mono (le_tmax s j)
  · rcases tmax_attained s with h | ⟨j, h⟩
    · rw [h, bot_mul_L]; exact bot_le
    · rw [h]; exact le_tmax (fun j => s j * L) j

/-! ### The tiles put end to end -/

/-- The first `n + 1` of four, in the reverse of the order they are read in. -/
def upto {ι : Type*} (T : Fin 4 → ι) : Fin 4 → List ι
  | 0 => [T 0]
  | 1 => [T 0, T 1]
  | 2 => [T 0, T 1, T 2]
  | 3 => [T 0, T 1, T 2, T 3]

theorem mem_upto {ι : Type*} (T : Fin 4 → ι) (n : Fin 4) {x : ι} (h : x ∈ upto T n) : ∃ i, i ≤ n ∧ x = T i := by
  fin_cases n <;> simp only [upto, List.mem_cons, List.not_mem_nil, or_false, Fin.reduceFinMk, Fin.mk_one, Fin.zero_eta] at h <;>
    rcases h with rfl | rfl | rfl | rfl <;> exact ⟨_, by decide, rfl⟩

theorem upto_mem {ι : Type*} (T : Fin 4 → ι) {i n : Fin 4} (h : i ≤ n) : T i ∈ upto T n := by
  fin_cases n <;> fin_cases i <;> first | (exfalso; revert h; decide) | simp [upto]

theorem sum_upto {ι : Type*} (T : Fin 4 → ι) (n : Fin 4) (f : ι → EReal) :
    ((upto T n).map f).sum = ∑ i : Fin 4, if i ≤ n then f (T i) else 0 := by
  rw [Fin.sum_univ_four]
  fin_cases n <;> simp [upto, add_assoc]

variable {ι : Type*}

theorem rmax_list (s : ι → Fin 512 → EReal) (T : Fin 4 → ι) (n : Fin 4) (A : Fin 2048 → EReal)
    (hs : ∀ i j, i ≤ n → s (T i) j = A ⟨i.val * 512 + j.val, by omega⟩)
    (hb : ∀ i j, ¬i ≤ n → A ⟨(i : Fin 4).val * 512 + (j : Fin 512).val, by omega⟩ = ⊥) : rmax s (upto T n) = tmax A := by
  apply le_antisymm
  · refine rmax_le _ fun x hx j => ?_
    obtain ⟨i, hi, rfl⟩ := mem_upto T n hx
    rw [hs i j hi]; exact le_tmax _ _
  · refine tmax_le fun j => ?_
    have e : j = ⟨(⟨j.val / 512, by omega⟩ : Fin 4).val * 512 + (⟨j.val % 512, by omega⟩ : Fin 512).val, by
        change j.val / 512 * 512 + j.val % 512 < 2048; omega⟩ :=
      Fin.ext (by change j.val = j.val / 512 * 512 + j.val % 512; omega)
    rw [e]
    by_cases h : (⟨j.val / 512, by omega⟩ : Fin 4) ≤ n
    · rw [← hs _ _ h]; exact le_rmax s (upto_mem T h) _
    · rw [hb _ _ h]; exact bot_le

/-- The tiles a query reads gather the sum over all keys, those it does not read having score `⊥`. -/
theorem racc_list (s v : ι → Fin 512 → EReal) (T : Fin 4 → ι) (n : Fin 4) (A B : Fin 2048 → EReal)
    (hs : ∀ i j, i ≤ n → s (T i) j = A ⟨i.val * 512 + j.val, by omega⟩)
    (hb : ∀ i j, ¬i ≤ n → A ⟨(i : Fin 4).val * 512 + (j : Fin 512).val, by omega⟩ = ⊥)
    (hv : ∀ i j, i ≤ n → v (T i) j = B ⟨i.val * 512 + j.val, by omega⟩) :
    racc s v (upto T n) = ∑ j, B j * wt (A j) (tmax A) := by
  rw [acc_scan, rmax_list s T n A hs hb, sum_upto, Fin.sum_univ_tiles (N := 2048) 4 512 (by norm_num)]
  refine Finset.sum_congr rfl fun i _ => ?_
  by_cases h : i ≤ n
  · rw [if_pos h]
    exact Finset.sum_congr rfl fun j _ => by rw [hs i j h, hv i j h]
  · rw [if_neg h]
    exact (Finset.sum_eq_zero fun j _ => by rw [hb i j h, wt_bot, mul_zero]).symm

/-! ### The quotient -/

theorem eps_pos : ∃ e : ℝ, 0 < e ∧ eps = e := by
  refine ⟨_, ?_, by simp only [eps, Ideal.ofBits, Ideal.ieee]; rfl⟩
  norm_num
  split_ifs with h
  · exact absurd h (by decide)
  · positivity

theorem exp_nonneg (x : EReal) : 0 ≤ Ideal.exp x := by
  induction x with
  | bot => exact le_rfl
  | top => exact le_top
  | coe r => rw [Ideal.exp_coe]; exact_mod_cast (Real.exp_pos r).le

theorem ex_nonneg {N : ℕ} (s : Fin N → EReal) (i : ℕ) (j : Fin N) : 0 ≤ ex s i j := by
  unfold ex; split_ifs
  · exact exp_nonneg _
  · exact le_rfl

theorem exp_real {a : EReal} {m : ℝ} (h : a ≤ m) : ∃ r : ℝ, 0 ≤ r ∧ Ideal.exp (a - m) = r := by
  induction a with
  | top => exact absurd h (by simp)
  | bot => exact ⟨0, le_rfl, by rw [sub_eq_add_neg, EReal.bot_add, Ideal.exp_bot]; rfl⟩
  | coe a => exact ⟨_, (Real.exp_pos _).le, by rw [← EReal.coe_sub, Ideal.exp_coe]⟩

theorem sum_real {κ : Type*} (t : Finset κ) (f : κ → EReal) (h : ∀ k, ∃ r : ℝ, 0 ≤ r ∧ f k = r) :
    ∃ r : ℝ, 0 ≤ r ∧ ∑ k ∈ t, f k = r := by
  classical
  induction t using Finset.induction_on with
  | empty => exact ⟨0, le_rfl, rfl⟩
  | insert a t ha ih =>
    obtain ⟨r, hr, e⟩ := ih
    obtain ⟨q, hq, e'⟩ := h a
    exact ⟨q + r, add_nonneg hq hr, by rw [Finset.sum_insert ha, e, e', EReal.coe_add]⟩

/-- The weighted sum in base two over the sum of the weights is the masked softmax in base e. -/
theorem normalise {N : ℕ} (s v : Fin N → EReal) (i : ℕ) :
    (∑ j, v j * wt (ms s i j * L) (tmax fun k => ms s i k * L))
      * Ideal.div 1 (max (∑ j, 1 * wt (ms s i j * L) (tmax fun k => ms s i k * L)) eps) = attn s v i := by
  obtain ⟨e, he, hE⟩ := eps_pos
  rw [tmax_mul_L, attn, hE]
  rcases hM : tmax (ms s i) with _ | M
  · -- no key has a score: every weight is zero
    have hb : ∀ j, ms s i j = ⊥ := fun j => le_bot_iff.mp ((le_tmax (ms s i) j).trans hM.le)
    have hx : ∀ j, ex s i j = 0 := fun j => by
      unfold ex
      rw [hb j, sub_eq_add_neg, EReal.bot_add, Ideal.exp_bot, ite_self]
    have h0 : (e : EReal) ≠ 0 := by exact_mod_cast he.ne'
    have hd : max (0 : EReal) (e : EReal) = e := max_eq_right (by exact_mod_cast he.le)
    simp only [hx, hb, bot_mul_L, wt_bot, mul_zero, Finset.sum_const_zero, zero_mul, hd, Ideal.div, if_neg h0]
  rcases M with _ | m
  · -- some score is infinite: the denominators are infinite
    change tmax (ms s i) = ⊤ at hM
    obtain ⟨j, hj⟩ : ∃ j, ms s i j = ⊤ := by
      rcases tmax_attained (ms s i) with h | ⟨j, h⟩
      · rw [hM] at h; exact absurd h (by simp)
      · exact ⟨j, h.symm.trans hM⟩
    have hle : j.val ≤ i := by
      by_contra h
      rw [ms, if_neg h] at hj; exact absurd hj (by simp)
    have hf : fin0 (tmax (ms s i)) = 0 := by rw [hM, fin0]; simp
    have hx : ex s i j = ⊤ := by
      rw [ex, if_pos hle, hj, hf, sub_zero, Ideal.exp_top]
    have hs : ∑ k, ex s i k = ⊤ :=
      top_le_iff.mp (hx.symm.le.trans (Finset.single_le_sum (fun k _ => ex_nonneg s i k) (Finset.mem_univ j)))
    have hd : ∀ x, Ideal.div x ⊤ = 0 := fun x => by
      rw [Ideal.div, if_neg (by simp), EReal.inv_top, mul_zero]
    have hT : ((some (none : WithTop ℝ) : WithBot (WithTop ℝ)) : EReal) = (⊤ : EReal) := rfl
    rw [hs, max_eq_left le_top, hT, top_mul_L]
    simp only [hd, wt_top, mul_zero, Finset.sum_const_zero, zero_mul]
  · -- a real maximum
    change tmax (ms s i) = (m : EReal) at hM
    have hle : ∀ j, ms s i j ≤ m := fun j => (le_tmax (ms s i) j).trans hM.le
    have hf : fin0 (tmax (ms s i)) = (m : EReal) := by
      rw [hM, fin0, if_pos]
      exact max_lt (EReal.coe_lt_top m) (by rw [← EReal.coe_neg]; exact EReal.coe_lt_top _)
    have hw : ∀ j, wt (ms s i j * L) ((m : EReal) * L) = ex s i j := fun j => by
      rw [wt_mul_L _ _ (hle j), ex, hf]
      by_cases h : j.val ≤ i
      · rw [if_pos h]
      · rw [if_neg h, ms, if_neg h, sub_eq_add_neg, EReal.bot_add, Ideal.exp_bot]
    have hr : ∀ j, ∃ r : ℝ, 0 ≤ r ∧ ex s i j = r := fun j => by
      obtain ⟨r, h, h'⟩ := exp_real (hle j)
      exact ⟨r, h, by rw [← hw, wt_mul_L _ _ (hle j), h']⟩
    obtain ⟨d, hd0, hd⟩ := sum_real Finset.univ (ex s i) hr
    have hT : ((some (some m : WithTop ℝ) : WithBot (WithTop ℝ)) : EReal) = (m : EReal) := rfl
    have hD : max (d : EReal) (e : EReal) = ((max d e : ℝ) : EReal) := (EReal.coe_strictMono.monotone.map_max).symm
    have hp : 0 < max d e := lt_max_of_lt_right he
    rw [hT]
    simp only [hw, one_mul, hd, hD, Ideal.div_coe hp.ne']
    rw [sum_mul]
    · exact Finset.sum_congr rfl fun j _ => mul_assoc _ _ _
    · exact_mod_cast (one_div_pos.mpr hp).le
    · exact EReal.coe_ne_top _

end Cert.Softmax
end
-- ==== Proof.Refer.lean ====
/- The reference's result, read at an index: each feature of each query of each head is the masked
   softmax `Softmax.attn` of that query's scores over that feature of the values. -/
module
public import proofs.«01_k».proof.Proof.Gen.ReferenceIdeal.Run
public import proofs.«01_k».proof.Proof.Softmax
public import Idealize.ShloMosaic.Lib.Pointwise
public import Idealize.ShloMosaic.Lib.WordCmp
public import Idealize.ShloMosaic.Lib.Pipeline.ValueKit
@[expose] public section
set_option maxRecDepth 16384
noncomputable section
open Idealize.ShloMosaic Idealize.ShloMosaic.TcCoe Idealize.SL.Sem
namespace Cert.ReferenceIdeal.Refer
open Cert.ReferenceIdeal Cert.ReferenceIdeal.Gen Cert.Softmax
variable (m : (ℓ : Loc nD τ sig) → Buf (Elt Ideal) ℓ)

/-! The stages of the reference, as it states them. -/

def MASK : IVec S2048x2048 1 :=
  cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

def SC (Q : FVec Ideal S4x2048x8x128 .f32) (K : FVec Ideal S4x2048x8x128 .f32) (C : FVec Ideal S4x8x2048 .f32) : FVec Ideal S4x8x2048x2048 .f32 :=
  select (broadcastInDim S4x8x2048x2048 ![2, 3] bcast_S2048x2048_S4x8x2048x2048_2_3 MASK) (subf (addf (mulf (Host.dotGeneral dot_S4x2048x8x128_S4x2048x8x128_S4x8x2048x2048_3_3_1_1_02_02 none Q K) (broadcastInDim S4x8x2048x2048 ![] bcast_S_S4x8x2048x2048 (constant S_ .f32 0x3DB504F3#32))) (broadcastInDim S4x8x2048x2048 ![0, 1, 2, 3] bcast_S4x8x2048x1_S4x8x2048x2048_0_1_2_3 (broadcastInDim S4x8x2048x1 ![0, 1, 2] bcast_S4x8x2048_S4x8x2048x1_0_1_2 C))) (broadcastInDim S4x8x2048x2048 ![0, 1, 2, 3] bcast_S4x8x1x2048_S4x8x2048x2048_0_1_2_3 (broadcastInDim S4x8x1x2048 ![0, 1, 3] bcast_S4x8x2048_S4x8x1x2048_0_1_3 C))) (broadcastInDim S4x8x2048x2048 ![] bcast_S_S4x8x2048x2048 (id (constant S_ .f32 0xFF800000#32)))

def MX (Q : FVec Ideal S4x2048x8x128 .f32) (K : FVec Ideal S4x2048x8x128 .f32) (C : FVec Ideal S4x8x2048 .f32) : FVec Ideal S4x8x2048 .f32 :=
  Host.reduce FloatOps.maximumf (SC Q K C) (constant S_ .f32 0xFF800000#32) reducesTo_S4x8x2048x2048_S4x8x2048_d3 h_S_

def MF (M : FVec Ideal S4x8x2048 .f32) : FVec Ideal S4x8x2048x1 .f32 :=
  select (cmpf .olt (Host.absf (broadcastInDim S4x8x2048x1 ![0, 1, 2] bcast_S4x8x2048_S4x8x2048x1_0_1_2 M)) (broadcastInDim S4x8x2048x1 ![] bcast_S_S4x8x2048x1 (constant S_ .f32 0x7F800000#32))) (broadcastInDim S4x8x2048x1 ![0, 1, 2] bcast_S4x8x2048_S4x8x2048x1_0_1_2 M) (broadcastInDim S4x8x2048x1 ![] bcast_S_S4x8x2048x1 (id (constant S_ .f32 0x00000000#32)))

def EX (S : FVec Ideal S4x8x2048x2048 .f32) (M : FVec Ideal S4x8x2048x1 .f32) : FVec Ideal S4x8x2048x2048 .f32 :=
  select (broadcastInDim S4x8x2048x2048 ![2, 3] bcast_S2048x2048_S4x8x2048x2048_2_3 MASK) (Host.exp (subf S (broadcastInDim S4x8x2048x2048 ![0, 1, 2, 3] bcast_S4x8x2048x1_S4x8x2048x2048_0_1_2_3 M))) (broadcastInDim S4x8x2048x2048 ![] bcast_S_S4x8x2048x2048 (id (constant S_ .f32 0x00000000#32)))

def E (Q : FVec Ideal S4x2048x8x128 .f32) (K : FVec Ideal S4x2048x8x128 .f32) (C : FVec Ideal S4x8x2048 .f32) : FVec Ideal S4x8x2048x2048 .f32 :=
  EX (SC Q K C) (MF (MX Q K C))

def DEN (X : FVec Ideal S4x8x2048x2048 .f32) : FVec Ideal S4x8x2048 .f32 :=
  Host.reduceAdd X (constant S_ .f32 0x00000000#32) reducesTo_S4x8x2048x2048_S4x8x2048_d3 h_S_

def FIN (V : FVec Ideal S4x2048x8x128 .f32) (X : FVec Ideal S4x8x2048x2048 .f32) (D : FVec Ideal S4x8x2048 .f32) : FVec Ideal S8192x1024 .bf16 :=
  truncf .bf16 (shapeCast S8192x1024 (transpose S4x2048x8x128 [0, 3, 1, 2] (Host.dotGeneral dot_S4x2048x8x128_S4x8x2048x2048_S4x8x128x2048_1_3_3_2_02_01 none V (Host.divf X (broadcastInDim S4x8x2048x2048 ![0, 1, 2, 3] bcast_S4x8x2048x1_S4x8x2048x2048_0_1_2_3 (maximumf (broadcastInDim S4x8x2048x1 ![0, 1, 2] bcast_S4x8x2048_S4x8x2048x1_0_1_2 D) (broadcastInDim S4x8x2048x1 ![] bcast_S_S4x8x2048x1 (constant S_ .f32 0x0DA24260#32)))))) transposes_S4x8x128x2048_S4x2048x8x128_0_3_1_2) shapeCasts_S4x2048x8x128_S8192x1024) bitsLt_bf16_f32

def OUT (Q : FVec Ideal S4x2048x8x128 .f32) (K : FVec Ideal S4x2048x8x128 .f32) (V : FVec Ideal S4x2048x8x128 .f32) (C : FVec Ideal S4x8x2048 .f32) : FVec Ideal S8192x1024 .bf16 :=
  FIN V (E Q K C) (DEN (E Q K C))

theorem res_eq (c : Dev nD) : Value.res_main_v35 m c
    = OUT (m ((c : Thread nD τ).loc main_arg0)) (m ((c : Thread nD τ).loc main_arg1)) (m ((c : Thread nD τ).loc main_arg2)) (m ((c : Thread nD τ).loc main_arg3)) :=
  rfl

/-- The score of key `j` for query `i` of head `h`. -/
def score (Q K : S4x2048x8x128.Idx → EReal) (C : S4x8x2048.Idx → EReal) (b : Fin 4) (h : Fin 8) (i j : Fin 2048) : EReal :=
  (∑ d, Q (ix4 b i h d) * K (ix4 b j h d)) * Ideal.ofBits .f32 0x3DB504F3#32 + C (ix3 b h i) - C (ix3 b h j)

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

theorem mask_at (i j : Fin 2048) : MASK (ix2 i j) = BitVec.ofBool (decide (j.val ≤ i.val)) := by
  pointwise [MASK]
  simp (disch := word_cmp_side) only [hlo_ix]

theorem sc_at (Q : FVec Ideal S4x2048x8x128 .f32) (K : FVec Ideal S4x2048x8x128 .f32) (C : FVec Ideal S4x8x2048 .f32)
    (b : Fin 4) (h : Fin 8) (i j : Fin 2048) : SC Q K C (ix4 b h i j) = ms (score Q K C b h i) i j := by
  pointwise [SC, mask_at, ms, score, id, ofBits_neg_inf]

theorem mx_at (Q : FVec Ideal S4x2048x8x128 .f32) (K : FVec Ideal S4x2048x8x128 .f32) (C : FVec Ideal S4x8x2048 .f32)
    (b : Fin 4) (h : Fin 8) (i : Fin 2048) : MX Q K C (ix3 b h i) = tmax (ms (score Q K C b h i) i) := by
  pointwise [MX, sc_at, ofBits_neg_inf]
  rfl

theorem fin0_at (M : FVec Ideal S4x8x2048 .f32) (b : Fin 4) (h : Fin 8) (i : Fin 2048) :
    MF M (ix4 b h i 0) = fin0 (M (ix3 b h i)) := by
  rw [MF, id_eq]
  pointwise [ofBits_pos_inf, Ideal.absf_def]
  rfl

theorem mf_at (Q : FVec Ideal S4x2048x8x128 .f32) (K : FVec Ideal S4x2048x8x128 .f32) (C : FVec Ideal S4x8x2048 .f32)
    (b : Fin 4) (h : Fin 8) (i : Fin 2048) : MF (MX Q K C) (ix4 b h i 0) = fin0 (tmax (ms (score Q K C b h i) i)) :=
  (fin0_at (MX Q K C) b h i).trans (congrArg fin0 (mx_at Q K C b h i))

theorem exp_at (S : FVec Ideal S4x8x2048x2048 .f32) (M : FVec Ideal S4x8x2048x1 .f32) (b : Fin 4) (h : Fin 8) (i j : Fin 2048) :
    EX S M (ix4 b h i j) = if j.val ≤ i.val then Ideal.exp (S (ix4 b h i j) - M (ix4 b h i 0)) else 0 := by
  rw [EX, id_eq]
  pointwise [mask_at]

theorem e_at (Q : FVec Ideal S4x2048x8x128 .f32) (K : FVec Ideal S4x2048x8x128 .f32) (C : FVec Ideal S4x8x2048 .f32)
    (b : Fin 4) (h : Fin 8) (i j : Fin 2048) : E Q K C (ix4 b h i j) = ex (score Q K C b h i) i j := by
  rw [E, exp_at, sc_at, mf_at, ex]

theorem sums_at (X : FVec Ideal S4x8x2048x2048 .f32) (b : Fin 4) (h : Fin 8) (i : Fin 2048) :
    DEN X (ix3 b h i) = ∑ j, X (ix4 b h i j) := by
  pointwise [DEN]

theorem quot_at (V : FVec Ideal S4x2048x8x128 .f32) (X : FVec Ideal S4x8x2048x2048 .f32) (D : FVec Ideal S4x8x2048 .f32)
    (x : Fin 8192) (y : Fin 1024) :
    FIN V X D (ix2 x y) = ∑ j, V (ix4 ⟨x / 2048, by omega⟩ j ⟨y / 128, by omega⟩ ⟨y % 128, by omega⟩)
      * Ideal.div (X (ix4 ⟨x / 2048, by omega⟩ ⟨y / 128, by omega⟩ ⟨x % 2048, by omega⟩ j))
          (max (D (ix3 ⟨x / 2048, by omega⟩ ⟨y / 128, by omega⟩ ⟨x % 2048, by omega⟩)) eps) := by
  pointwise [FIN, eps]

theorem out_at (Q : FVec Ideal S4x2048x8x128 .f32) (K : FVec Ideal S4x2048x8x128 .f32) (V : FVec Ideal S4x2048x8x128 .f32) (C : FVec Ideal S4x8x2048 .f32)
    (x : Fin 8192) (y : Fin 1024) :
    OUT Q K V C (ix2 x y) = attn (score Q K C ⟨x / 2048, by omega⟩ ⟨y / 128, by omega⟩ ⟨x % 2048, by omega⟩)
      (fun j => V (ix4 ⟨x / 2048, by omega⟩ j ⟨y / 128, by omega⟩ ⟨y % 128, by omega⟩)) (x % 2048) := by
  rw [OUT, quot_at, sums_at, attn]
  simp only [e_at]

end Cert.ReferenceIdeal.Refer
end
-- ==== Proof.Score.lean ====
/- The scores the kernel's score tiles hold, and what a head of a query tile writes, from the arrays the
   call is given. A score tile is one matrix product over 256 features: the 128 of the head, and 128 more
   of which six carry the decay, `-c_k` against ones and `c_q` against ones. -/
module
public import proofs.«01_k».proof.Proof.Tile
public import proofs.«01_k».proof.Proof.Scratch
public import proofs.«01_k».proof.Proof.Entry
public import proofs.«01_k».proof.Proof.Row
public import proofs.«01_k».proof.Proof.Refer
@[expose] public section
set_option maxRecDepth 16384
noncomputable section
open Idealize.ShloMosaic Idealize.ShloMosaic.TcCoe Idealize.SL.Sem
namespace Cert.KernelIdeal.Score
open Cert.KernelIdeal Cert.KernelIdeal.Gen Cert.Softmax Cert.KernelIdeal.Tile Cert.KernelIdeal.Entry Cert.KernelIdeal.Points
open Cert.ReferenceIdeal.Refer (score)

variable (Q K W : FVec Ideal S4x2048x8x128 .f32) (C : FVec Ideal S4x8x2048 .f32)

/-! The blocks of the grid point of batch `b`, head group `g`, query tile `n`. -/

def QB (b : Fin 4) (g : Fin 2) (n : Fin 4) : S512x512.Idx → EReal := fun y =>
  (fun (r k : Fin 512) => P1 Q K W (ix2 ⟨512 * (4 * b + n) + r, by omega⟩ ⟨512 * g + k, by omega⟩)) (y 0) (y 1)
def KB (b : Fin 4) (g : Fin 2) : S2048x512.Idx → EReal := fun y =>
  (fun (r : Fin 2048) (k : Fin 512) => P1 Q K W (ix2 ⟨2048 * b + r, by omega⟩ ⟨512 * (2 + g) + k, by omega⟩)) (y 0) (y 1)
def VB (b : Fin 4) (g : Fin 2) : S2048x512.Idx → EReal := fun y =>
  (fun (r : Fin 2048) (k : Fin 512) => P1 Q K W (ix2 ⟨2048 * b + r, by omega⟩ ⟨512 * (4 + g) + k, by omega⟩)) (y 0) (y 1)
def CB (b : Fin 4) : S2048x128.Idx → EReal := fun y =>
  (fun (r : Fin 2048) (k : Fin 128) => CC (NC C) (ix2 ⟨2048 * b + r, by omega⟩ k)) (y 0) (y 1)
def RB (b : Fin 4) (g : Fin 2) (n : Fin 4) : S1x4x1x512.Idx → EReal := fun y =>
  (fun (h : Fin 4) (r : Fin 512) => CR C (ix4 b ⟨4 * g + h, by omega⟩ 0 ⟨512 * n + r, by omega⟩)) (y 1) (y 3)

/-- The extended values and keys of the group's four heads. -/
def VS (b : Fin 4) (g : Fin 2) : S4x144x2048.Idx → EReal := fun y => VAL (VB Q K W b g) (y 0) (y 1) (y 2)
def KS (b : Fin 4) (g : Fin 2) : S4x2048x256.Idx → EReal := fun y => KEY (KB Q K W b g) (CB C b) g (y 0) (y 1) (y 2)

theorem QB_at (b : Fin 4) (g : Fin 2) (n : Fin 4) (r k : Fin 512) :
    QB Q K W b g n (ix2 r k) = P1 Q K W (ix2 ⟨512 * (4 * b + n) + r, by omega⟩ ⟨512 * g + k, by omega⟩) := rfl
theorem KB_at (b : Fin 4) (g : Fin 2) (r : Fin 2048) (k : Fin 512) :
    KB Q K W b g (ix2 r k) = P1 Q K W (ix2 ⟨2048 * b + r, by omega⟩ ⟨512 * (2 + g) + k, by omega⟩) := rfl
theorem VB_at (b : Fin 4) (g : Fin 2) (r : Fin 2048) (k : Fin 512) :
    VB Q K W b g (ix2 r k) = P1 Q K W (ix2 ⟨2048 * b + r, by omega⟩ ⟨512 * (4 + g) + k, by omega⟩) := rfl
theorem CB_at (b : Fin 4) (r : Fin 2048) (k : Fin 128) :
    CB C b (ix2 r k) = CC (NC C) (ix2 ⟨2048 * b + r, by omega⟩ k) := rfl

theorem VS_at (b : Fin 4) (g : Fin 2) (h i : Fin 4) (d : Fin 144) (j : Fin 512) :
    valBlk (VS Q K W b g) h i (ix3 0 d j) = VAL (VB Q K W b g) h d ⟨512 * i + j, by omega⟩ :=
  (valBlk_at _ h i d j).trans rfl
theorem KS_at (b : Fin 4) (g : Fin 2) (h i : Fin 4) (j : Fin 512) (l : Fin 256) :
    keyBlk (KS Q K W C b g) h i (ix3 0 j l) = KEY (KB Q K W b g) (CB C b) g h ⟨512 * i + j, by omega⟩ l :=
  (keyBlk_at _ h i j l).trans rfl

theorem sum256 (f : Fin 256 → EReal) :
    ∑ l, f l = ∑ l : Fin 128, f ⟨l, by omega⟩ + ∑ l : Fin 128, f ⟨128 + l, by omega⟩ :=
  Fin.sum_univ_add (a := 128) (b := 128) f

theorem sigma_real : ∃ x : ℝ, 0 ≤ x ∧ Ideal.ofBits .f32 0x3DB504F3#32 = x := by
  refine ⟨_, ?_, by simp only [Ideal.ofBits, Ideal.ieee]; rfl⟩
  norm_num
  split_ifs with h
  · exact absurd h (by decide)
  · positivity

section
variable (b : Fin 4) (g : Fin 2) (h n i : Fin 4) (r j : Fin 512)

theorem q_lo (l : Fin 128) : qt (RB C b g n) (QB Q K W b g n) h (ix2 ⟨l, by omega⟩ r)
    = Q (ix4 b ⟨512 * n + r, by omega⟩ ⟨4 * g + h, by omega⟩ l) * (Ideal.ofBits .f32 0x3DB504F3#32 * L) := by
  rw [qt_lo, QB_at, ← p1_q Q K W]
  exact congrArg₂ (fun x y => P1 Q K W (ix2 x y)) (Fin.ext (by dsimp only; omega)) (Fin.ext (by dsimp only; omega))

theorem q_hi (l : Fin 128) : qt (RB C b g n) (QB Q K W b g n) h (ix2 ⟨128 + l, by omega⟩ r)
    = qx l (C (ix3 b ⟨4 * g + h, by omega⟩ ⟨512 * n + r, by omega⟩) * L) := by
  rw [qt_hi, ← cr_at]
  rfl

theorem k_lo (l : Fin 128) : keyBlk (KS Q K W C b g) h i (ix3 0 j ⟨l, by omega⟩)
    = K (ix4 b ⟨512 * i + j, by omega⟩ ⟨4 * g + h, by omega⟩ l) := by
  rw [KS_at, KEY, dif_pos l.isLt, KB_at, ← p1_k Q K W]
  exact congrArg₂ (fun x y => P1 Q K W (ix2 x y)) rfl (Fin.ext (by change 512 * (2 + g.val) + (128 * h.val + l.val) = 1024 + 128 * (4 * g.val + h.val) + l.val; omega))

/-- The extra key columns: the negated decay, two zeros, three ones, zeros. -/
theorem k_hi (l : Fin 128) (a : ℝ) (ha : C (ix3 b ⟨4 * g + h, by omega⟩ ⟨512 * i + j, by omega⟩) = a) :
    keyBlk (KS Q K W C b g) h i (ix3 0 j ⟨128 + l, by omega⟩)
      = if l.val = 0 then -((a : EReal) * L) else if l.val < 3 then 0 else if l.val < 6 then 1 else 0 := by
  have hx : NC C (ix2 ⟨2048 * b + (512 * i + j), by omega⟩ ⟨4 * g + h, by omega⟩) = -((a : EReal) * L) := by
    rw [nc_at C b ⟨512 * i + j, by omega⟩ ⟨4 * g + h, by omega⟩, ha]
  have hz : -((a : EReal) * L) - -((a : EReal) * L) = 0 := by
    rw [L, ← EReal.coe_mul, ← EReal.coe_neg, ← EReal.coe_sub, sub_self]; rfl
  rw [KS_at, KEY, dif_neg (by dsimp only; omega)]
  by_cases h3 : l.val < 3
  · rw [dif_pos (by dsimp only; omega), CB_at]
    by_cases h0 : l.val = 0
    · rw [if_pos h0, ← hx, ← cc_hi (NC C)]
      exact congrArg (fun y => CC (NC C) (ix2 ⟨2048 * b + (512 * i + j), by omega⟩ y)) (Fin.ext (by dsimp only; omega))
    · rw [if_neg h0, if_pos h3]
      by_cases h1 : l.val = 1
      · rw [← hz, ← hx, ← cc_mid (NC C)]
        exact congrArg (fun y => CC (NC C) (ix2 ⟨2048 * b + (512 * i + j), by omega⟩ y)) (Fin.ext (by dsimp only; omega))
      · refine Eq.trans ?_ (sub_zero (0 : EReal))
        rw [← hz, ← hx, ← cc_lo (NC C)]
        exact congrArg (fun y => CC (NC C) (ix2 ⟨2048 * b + (512 * i + j), by omega⟩ y)) (Fin.ext (by dsimp only; omega))
  · rw [dif_neg (by dsimp only; omega), if_neg (show ¬l.val = 0 by omega), if_neg h3]
    by_cases h6 : l.val < 6
    · rw [if_pos h6, if_pos (by dsimp only; omega), CB_at]
      exact cc_one (NC C) _
    · rw [if_neg h6, if_neg (by dsimp only; omega)]

/-- The product over the 256 extended features is the score, in base two. -/
theorem dot_score (hC : ∀ x, ∃ a : ℝ, C x = a) :
    ∑ l, keyBlk (KS Q K W C b g) h i (ix3 0 j l) * qt (RB C b g n) (QB Q K W b g n) h (ix2 l r)
      = score Q K C b ⟨4 * g + h, by omega⟩ ⟨512 * n + r, by omega⟩ ⟨512 * i + j, by omega⟩ * L := by
  obtain ⟨ck, hk⟩ := hC (ix3 b ⟨4 * g + h, by omega⟩ ⟨512 * i + j, by omega⟩)
  obtain ⟨cq, hq⟩ := hC (ix3 b ⟨4 * g + h, by omega⟩ ⟨512 * n + r, by omega⟩)
  obtain ⟨σ, hσ, eσ⟩ := sigma_real
  have hz : (cq : EReal) * L - (cq : EReal) * L = 0 := by
    rw [L, ← EReal.coe_mul, ← EReal.coe_sub, sub_self]; rfl
  have hhi : ∑ l : Fin 128, keyBlk (KS Q K W C b g) h i (ix3 0 j ⟨128 + l, by omega⟩) * qt (RB C b g n) (QB Q K W b g n) h (ix2 ⟨128 + l, by omega⟩ r)
      = -((ck : EReal) * L) + (cq : EReal) * L := by
    have : ∀ l : Fin 128, keyBlk (KS Q K W C b g) h i (ix3 0 j ⟨128 + l, by omega⟩) * qt (RB C b g n) (QB Q K W b g n) h (ix2 ⟨128 + l, by omega⟩ r)
        = (if l = 0 then -((ck : EReal) * L) else 0) + (if l = 3 then (cq : EReal) * L else 0) := by
      intro l
      rw [k_hi Q K W C b g h i j l ck hk, q_hi, hq, qx, hz]
      have e0 : (l = 0) ↔ l.val = 0 := Fin.ext_iff
      have e3 : (l = 3) ↔ l.val = 3 := Fin.ext_iff
      simp only [e0, e3]
      by_cases h0 : l.val = 0
      · simp [h0]
      · by_cases h3 : l.val = 3
        · simp [h3]
        · by_cases h6 : l.val < 3
          · simp [h0, h3, h6]
          · simp [h0, h3, h6]
    simp only [this, Finset.sum_add_distrib, Finset.sum_ite_eq', Finset.mem_univ, if_true]
  rw [sum256, hhi]
  simp only [k_lo, q_lo]
  rw [score, hk, hq, eσ]
  have hw : (0 : EReal) ≤ (σ : EReal) * L := mul_nonneg (by exact_mod_cast hσ) L_nonneg
  have hw' : (σ : EReal) * L ≠ ⊤ := by rw [L, ← EReal.coe_mul]; exact EReal.coe_ne_top _
  have hs : ∑ l : Fin 128, K (ix4 b ⟨512 * i + j, by omega⟩ ⟨4 * g + h, by omega⟩ l) * (Q (ix4 b ⟨512 * n + r, by omega⟩ ⟨4 * g + h, by omega⟩ l) * ((σ : EReal) * L))
      = (∑ l : Fin 128, Q (ix4 b ⟨512 * n + r, by omega⟩ ⟨4 * g + h, by omega⟩ l) * K (ix4 b ⟨512 * i + j, by omega⟩ ⟨4 * g + h, by omega⟩ l)) * ((σ : EReal) * L) := by
    rw [sum_mul _ _ hw hw']
    exact Finset.sum_congr rfl fun l _ => by rw [← mul_assoc, mul_comm (K _)]
  rw [hs]
  generalize (∑ l : Fin 128, Q (ix4 b ⟨512 * n + r, by omega⟩ ⟨4 * g + h, by omega⟩ l) * K (ix4 b ⟨512 * i + j, by omega⟩ ⟨4 * g + h, by omega⟩ l)) = S
  rw [sub_eq_add_neg, EReal.right_distrib_of_nonneg_of_ne_top L_nonneg L_ne_top, EReal.right_distrib_of_nonneg_of_ne_top L_nonneg L_ne_top,
    mul_assoc, EReal.neg_mul, add_assoc, add_comm (-((ck : EReal) * L))]

/-- A tile of keys as query tile `n` reads it. -/
def tile : KTile :=
  if i < n then plain (RB C b g n) (QB Q K W b g n) (KS Q K W C b g) (VS Q K W b g) h i
  else diag (RB C b g n) (QB Q K W b g n) (KS Q K W C b g) (VS Q K W b g) h i

theorem tiles_eq : tiles (RB C b g n) (QB Q K W b g n) (KS Q K W C b g) (VS Q K W b g) h n = upto (tile Q K W C b g h n) n := by
  fin_cases n <;> rfl

/-- The scores of query `512 n + r` of the head, the later keys masked, in base two. -/
def rowScore (x : Fin 2048) : EReal :=
  ms (score Q K C b ⟨4 * g + h, by omega⟩ ⟨512 * n + r, by omega⟩) (512 * n + r) x * L

theorem row_tile (hC : ∀ x, ∃ a : ℝ, C x = a) (hi : i ≤ n) :
    row r (tile Q K W C b g h n i) j = rowScore Q K C b g h n r ⟨i.val * 512 + j.val, by omega⟩ := by
  have e : (⟨i.val * 512 + j.val, by omega⟩ : Fin 2048) = ⟨512 * i.val + j.val, by omega⟩ := Fin.ext (by dsimp only; omega)
  rw [e, rowScore, ms]
  by_cases hin : i < n
  · have hin' : i.val < n.val := hin
    rw [tile, if_pos hin, if_pos (by dsimp only; omega)]
    exact (pay139_at _ _ j r).trans (dot_score Q K W C b g h n i r j hC)
  · have hin' : i = n := le_antisymm hi (not_lt.mp hin)
    subst hin'
    rw [tile, if_neg hin]
    refine (pay138_at _ _ j r).trans ?_
    by_cases hjr : j.val ≤ r.val
    · rw [if_pos hjr, if_pos (by dsimp only; omega)]
      exact dot_score Q K W C b g h i i r j hC
    · rw [if_neg hjr, if_neg (by dsimp only; omega), bot_mul_L]

theorem row_late (hi : ¬i ≤ n) : rowScore Q K C b g h n r ⟨i.val * 512 + j.val, by omega⟩ = ⊥ := by
  have hi' : n.val < i.val := not_le.mp hi
  rw [rowScore, ms, if_neg (by dsimp only; omega), bot_mul_L]

theorem vrow_tile (d : Fin 128) : vrow ⟨d, by omega⟩ (tile Q K W C b g h n i) j
    = W (ix4 b ⟨i.val * 512 + j.val, by omega⟩ ⟨4 * g + h, by omega⟩ d) := by
  have e : vrow ⟨d, by omega⟩ (tile Q K W C b g h n i) j = valBlk (VS Q K W b g) h i (ix3 0 ⟨d, by omega⟩ j) := by
    rw [tile]; split <;> rfl
  rw [e, VS_at, VAL, dif_pos d.isLt, VB_at, ← p1_v Q K W]
  exact congrArg₂ (fun x y => P1 Q K W (ix2 x y)) (Fin.ext (by dsimp only; omega)) (Fin.ext (by change 512 * (4 + g.val) + (128 * h.val + d.val) = 2048 + 128 * (4 * g.val + h.val) + d.val; omega))

theorem vrow_one : vrow 128 (tile Q K W C b g h n i) j = 1 := by
  have e : vrow 128 (tile Q K W C b g h n i) j = valBlk (VS Q K W b g) h i (ix3 0 128 j) := by
    rw [tile]; split <;> rfl
  rw [e, VS_at, VAL, dif_neg (by decide)]

/-- What a head of a query tile writes is the reference's masked softmax. -/
theorem headOut_eq (hC : ∀ x, ∃ a : ℝ, C x = a) (d : Fin 128) :
    headOut (RB C b g n) (QB Q K W b g n) (KS Q K W C b g) (VS Q K W b g) n h r d
      = attn (score Q K C b ⟨4 * g + h, by omega⟩ ⟨512 * n + r, by omega⟩)
          (fun j => W (ix4 b j ⟨4 * g + h, by omega⟩ d)) (512 * n + r) := by
  rw [headOut, out_at, tiles_eq,
    racc_list (row r) (vrow ⟨d, by omega⟩) (tile Q K W C b g h n) n (rowScore Q K C b g h n r)
      (fun j => W (ix4 b j ⟨4 * g + h, by omega⟩ d))
      (fun i j hi => row_tile Q K W C b g h n i r j hC hi) (fun i j hi => row_late Q K C b g h n i r j hi)
      (fun i j _ => vrow_tile Q K W C b g h n i j d),
    racc_list (row r) (vrow 128) (tile Q K W C b g h n) n (rowScore Q K C b g h n r) (fun _ => 1)
      (fun i j hi => row_tile Q K W C b g h n i r j hC hi) (fun i j hi => row_late Q K C b g h n i r j hi)
      (fun i j _ => vrow_one Q K W C b g h n i j)]
  exact normalise _ _ _

end

end Cert.KernelIdeal.Score
end
-- ==== Proof.Final.lean ====
/- The attention call's result array is the reference's: every flush of the output window writes the
   reference's block, and the blocks cover the array. -/
module
public import proofs.«01_k».proof.Proof.Points
public import proofs.«01_k».proof.Proof.Score
@[expose] public section
set_option maxRecDepth 16384
noncomputable section
open Idealize.ShloMosaic Idealize.ShloMosaic.TcCoe Idealize.SL.Sem
namespace Cert.KernelIdeal.Final
open Cert.KernelIdeal Cert.KernelIdeal.Gen Cert.Softmax Cert.KernelIdeal.Tile Cert.KernelIdeal.Entry Cert.KernelIdeal.Points Cert.KernelIdeal.Score
variable (m : (ℓ : Loc nD τ sig) → Buf (Elt Ideal) ℓ)

theorem idx : ∀ t : Fin cfg0.N,
    win0_0.index t = ![4 * (t.val / 8) + t.val % 4, t.val / 4 % 2] ∧ win0_1.index t = ![t.val / 8, 2 + t.val / 4 % 2]
    ∧ win0_2.index t = ![t.val / 8, 4 + t.val / 4 % 2] ∧ win0_3.index t = ![t.val / 8, 0]
    ∧ win0_4.index t = ![t.val / 8, t.val / 4 % 2, 0, t.val % 4] ∧ win0_5.index t = ![4 * (t.val / 8) + t.val % 4, t.val / 4 % 2]
    ∧ (grid0.coords t 1).val = t.val / 4 % 2 :=
  (by decide +kernel : ∀ t : Fin grid0.N, _)

theorem lt32 (t : Fin cfg0.N) : t.val < 32 := t.isLt

/-- The batch, the head group and the query tile of a grid point. -/
def tb (t : ℕ) (h : t < 32) : Fin 4 := ⟨t / 8, by omega⟩
def tg (t : ℕ) : Fin 2 := ⟨t / 4 % 2, by omega⟩
def tn (t : ℕ) : Fin 4 := ⟨t % 4, by omega⟩

section
variable (c : Dev nD)

abbrev AQ : FVec Ideal S4x2048x8x128 .f32 := m ((c : Thread nD τ).loc main_arg0)
abbrev AK : FVec Ideal S4x2048x8x128 .f32 := m ((c : Thread nD τ).loc main_arg1)
abbrev AW : FVec Ideal S4x2048x8x128 .f32 := m ((c : Thread nD τ).loc main_arg2)
abbrev AC : FVec Ideal S4x8x2048 .f32 := m ((c : Thread nD τ).loc main_arg3)

theorem iblk0 (t : Fin cfg0.N) : iblk m c 0 t = QB (AQ m c) (AK m c) (AW m c) (tb t (lt32 t)) (tg t) (tn t) := by
  funext y
  have ht := lt32 t
  have h0 : (y 0 : Fin 512).val < 512 := (y 0 : Fin 512).isLt
  have h1 : (y 1 : Fin 512).val < 512 := (y 1 : Fin 512).isLt
  refine Eq.trans (b := V m c main_v9 (ix2 ⟨512 * (4 * (t.val / 8) + t.val % 4) + (y 0 : Fin 512).val, by omega⟩ ⟨512 * (t.val / 4 % 2) + (y 1 : Fin 512).val, by omega⟩)) ?_ ?_
  · blk_ext [iblk, idx t]
  · rw [V_p1]; rfl

theorem iblk1 (t : Fin cfg0.N) : iblk m c 1 t = KB (AQ m c) (AK m c) (AW m c) (tb t (lt32 t)) (tg t) := by
  funext y
  have ht := lt32 t
  have h0 : (y 0 : Fin 2048).val < 2048 := (y 0 : Fin 2048).isLt
  have h1 : (y 1 : Fin 512).val < 512 := (y 1 : Fin 512).isLt
  refine Eq.trans (b := V m c main_v9 (ix2 ⟨2048 * (t.val / 8) + (y 0 : Fin 2048).val, by omega⟩ ⟨512 * (2 + t.val / 4 % 2) + (y 1 : Fin 512).val, by omega⟩)) ?_ ?_
  · blk_ext [iblk, idx t]
  · rw [V_p1]; rfl

theorem iblk2 (t : Fin cfg0.N) : iblk m c 2 t = VB (AQ m c) (AK m c) (AW m c) (tb t (lt32 t)) (tg t) := by
  funext y
  have ht := lt32 t
  have h0 : (y 0 : Fin 2048).val < 2048 := (y 0 : Fin 2048).isLt
  have h1 : (y 1 : Fin 512).val < 512 := (y 1 : Fin 512).isLt
  refine Eq.trans (b := V m c main_v9 (ix2 ⟨2048 * (t.val / 8) + (y 0 : Fin 2048).val, by omega⟩ ⟨512 * (4 + t.val / 4 % 2) + (y 1 : Fin 512).val, by omega⟩)) ?_ ?_
  · blk_ext [iblk, idx t]
  · rw [V_p1]; rfl

theorem iblk3 (t : Fin cfg0.N) : iblk m c 3 t = CB (AC m c) (tb t (lt32 t)) := by
  funext y
  have ht := lt32 t
  have h0 : (y 0 : Fin 2048).val < 2048 := (y 0 : Fin 2048).isLt
  refine Eq.trans (b := V m c main_v25 (ix2 ⟨2048 * (t.val / 8) + (y 0 : Fin 2048).val, by omega⟩ (y 1 : Fin 128))) ?_ ?_
  · blk_ext [iblk, idx t]
  · rw [V_cc]; rfl

theorem iblk4 (t : Fin cfg0.N) : iblk m c 4 t = RB (AC m c) (tb t (lt32 t)) (tg t) (tn t) := by
  funext y
  have ht := lt32 t
  have h1 : (y 1 : Fin 4).val < 4 := (y 1 : Fin 4).isLt
  have h3 : (y 3 : Fin 512).val < 512 := (y 3 : Fin 512).isLt
  refine Eq.trans (b := V m c main_v26 (ix4 ⟨t.val / 8, by omega⟩ ⟨4 * (t.val / 4 % 2) + (y 1 : Fin 4).val, by omega⟩ 0 ⟨512 * (t.val % 4) + (y 3 : Fin 512).val, by omega⟩)) ?_ ?_
  · blk_ext [iblk, idx t]
  · rw [V_cr]; rfl

/-- The scratch of a grid point: the extended values and keys of its batch and head group. -/
theorem scratch (k : ℕ) : ∀ hk : k < cfg0.N, (outsAt0 m c k hk).2
    = (VS (AQ m c) (AK m c) (AW m c) (tb k hk) (tg k), KS (AQ m c) (AK m c) (AW m c) (AC m c) (tb k hk) (tg k)) := by
  induction k using Nat.strong_induction_on with
  | _ k ih =>
    intro hk
    by_cases h0 : k % 4 = 0
    · refine Prod.ext (funext fun y => ?_) (funext fun y => ?_)
      · refine (vals_A m c ⟨k, hk⟩ h0 y).trans ?_
        rw [iblk2]; rfl
      · refine (keys_A m c ⟨k, hk⟩ h0 y).trans ?_
        rw [iblk1, iblk3, show grid0.coords (⟨k, hk⟩ : Fin cfg0.N) 1 = tg k from Fin.ext (idx ⟨k, hk⟩).2.2.2.2.2.2]
        rfl
    · refine (keep m c ⟨k, hk⟩ h0).trans ?_
      rw [ih (k - 1) (by omega) (Nat.lt_of_le_of_lt (Nat.sub_le _ _) hk)]
      have e1 : tb (k - 1) (Nat.lt_of_le_of_lt (Nat.sub_le _ _) hk) = tb k hk := Fin.ext (by change (k - 1) / 8 = k / 8; omega)
      have e2 : tg (k - 1) = tg k := Fin.ext (by change (k - 1) / 4 % 2 = k / 4 % 2; omega)
      rw [e1, e2]

/-- What a grid point writes. -/
theorem written (t : Fin cfg0.N) (y : S512x512.Idx) : (outsAt0 m c t.val t.isLt).1 y
    = byHead (headOut (RB (AC m c) (tb t (lt32 t)) (tg t) (tn t)) (QB (AQ m c) (AK m c) (AW m c) (tb t (lt32 t)) (tg t) (tn t))
        (KS (AQ m c) (AK m c) (AW m c) (AC m c) (tb t (lt32 t)) (tg t)) (VS (AQ m c) (AK m c) (AW m c) (tb t (lt32 t)) (tg t)) (tn t)) y := by
  have hs := scratch m c t.val t.isLt
  by_cases h0 : t.val % 4 = 0
  · have e : tn t = 0 := Fin.ext h0
    rw [out_A m c t h0 _ _ (congrArg Prod.fst hs) (congrArg Prod.snd hs) y, iblk4, iblk0, e]
  · have hp := (keep m c t h0).symm.trans hs
    by_cases h1 : t.val % 4 = 1
    · have e : tn t = 1 := Fin.ext h1
      rw [out_B m c t h1 _ _ hp y, iblk4, iblk0, e]
    · by_cases h2 : t.val % 4 = 2
      · have e : tn t = 2 := Fin.ext h2
        rw [out_C m c t h2 _ _ hp y, iblk4, iblk0, e]
      · have h3 : t.val % 4 = 3 := by omega
        have e : tn t = 3 := Fin.ext h3
        rw [out_D m c t h3 _ _ hp y, iblk4, iblk0, e]

theorem attn_congr {Q K W : FVec Ideal S4x2048x8x128 .f32} {C : FVec Ideal S4x8x2048 .f32} {b b' : Fin 4} {h h' : Fin 8} {i i' : Fin 2048}
    {d d' : Fin 128} {k : ℕ} (eb : b.val = b'.val) (eh : h.val = h'.val) (ei : i.val = i'.val) (ed : d.val = d'.val) (ek : k = i'.val) :
    attn (Cert.ReferenceIdeal.Refer.score Q K C b h i) (fun j => W (ix4 b j h d)) k
      = attn (Cert.ReferenceIdeal.Refer.score Q K C b' h' i') (fun j => W (ix4 b' j h' d')) i'.val := by
  obtain rfl := Fin.ext eb
  obtain rfl := Fin.ext eh
  obtain rfl := Fin.ext ei
  obtain rfl := Fin.ext ed
  rw [ek]

/-- A grid point writes the reference's block. -/
theorem point (hC : ∀ x, ∃ a : ℝ, AC m c x = a) (t : Fin cfg0.N) (y0 y1 : Fin 512) :
    (outsAt0 m c t.val t.isLt).1 (ix2 y0 y1)
      = Cert.ReferenceIdeal.Refer.OUT (AQ m c) (AK m c) (AW m c) (AC m c)
          (ix2 ⟨512 * (4 * (t.val / 8) + t.val % 4) + y0, by have := lt32 t; omega⟩ ⟨512 * (t.val / 4 % 2) + y1, by omega⟩) := by
  have ht := lt32 t
  rw [written, Cert.ReferenceIdeal.Refer.out_at]
  refine (headOut_eq (AQ m c) (AK m c) (AW m c) (AC m c) (tb t (lt32 t)) (tg t) ⟨y1 / 128, by omega⟩ (tn t) y0 hC ⟨y1 % 128, by omega⟩).trans ?_
  refine attn_congr ?_ ?_ ?_ ?_ ?_ <;> simp only [tb, tg, tn] <;> omega

/-- The result array after the run. -/
theorem final (hC : ∀ x, ∃ a : ℝ, AC m c x = a) :
    (dats m 0 c).arrAt 5 cfg0.N = Cert.ReferenceIdeal.Refer.OUT (AQ m c) (AK m c) (AW m c) (AC m c) := by
  refine (dats m 0 c).arrAt_eq_of_covers 5 (Cert.ReferenceIdeal.Refer.OUT (AQ m c) (AK m c) (AW m c) (AC m c)) (by decide +kernel) fun t hf y => ?_
  blk_simp
  rw [after0_5]
  idx_vars y
  refine (point m c hC t y0 y1).trans ?_
  blk_ext [idx t]

end

end Cert.KernelIdeal.Final
end
-- ==== Proof.First.lean ====
/- The first norm and the small projections: what each grid point writes, and
   the two result arrays against the reference's. -/
module
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.Kernel7Ideal.First
open Cert.Kernel7Ideal Cert.Kernel7Ideal.Gen

variable (m : (ℓ : Loc nD τ sig) → Buf (Elt Ideal) ℓ) (c : Dev nD)

abbrev A0 : FVec Ideal S4x2048x2048 .f32 := m ((c : Thread nD τ).loc main_arg0)
abbrev A1 : FVec Ideal S2048 .f32 := m ((c : Thread nD τ).loc main_arg1)
abbrev A2 : FVec Ideal S2048x10656 .f32 := m ((c : Thread nD τ).loc main_arg2)

/-- An entry of a row over the root of its mean square, times the gain. -/
def rms (h : Fin 2048 → EReal) (g : EReal) (z : Fin 2048) : EReal :=
  h z * Ideal.rsqrt (Ideal.div (∑ k, h k * h k) (Ideal.ofBits .f32 0x45000000#32) + Ideal.ofBits .f32 0x358637BD#32) * g

theorem rms_congr {h h' : Fin 2048 → EReal} {g g' : EReal} (e : h = h') (e' : g = g') {z z' : Fin 2048} (e'' : z = z') : rms h g z = rms h' g' z' := by
  rw [e, e', e'']

/-- The column of the small projections at a place: the first group's compressed keys, the forget logits, the branch
    gates, zeros, the second group's compressed keys, zeros, the compressed values. -/
def pick (P : Fin 10656 → EReal) (z : Fin 768) : EReal :=
  if z.val < 192 then P ⟨4616 + z.val, by omega⟩ else if z.val < 200 then P ⟨3072 + (z.val - 192), by omega⟩
  else if z.val < 224 then P ⟨6536 + (z.val - 200), by omega⟩ else if z.val < 256 then 0
  else if z.val < 448 then P ⟨4808 + (z.val - 256), by omega⟩ else if z.val < 512 then 0 else P ⟨5000 + (z.val - 512), by omega⟩

theorem pick_sum (x : Fin 2048 → EReal) (W : Fin 2048 → Fin 10656 → EReal) (z : Fin 768) :
    ∑ k, x k * pick (W k) z = pick (fun j => ∑ k, x k * W k j) z := by
  simp only [pick]
  split_ifs <;> simp

/-- An entry of the normed input, and of the small projections. -/
def xn (X : FVec Ideal S4x2048x2048 .f32) (G : FVec Ideal S2048 .f32) (x : Fin 8192) (z : Fin 2048) : EReal :=
  rms (fun k => X (ix3 ⟨x / 2048, by omega⟩ ⟨x % 2048, by omega⟩ k)) (G (ix1 z)) z
def p3 (X : FVec Ideal S4x2048x2048 .f32) (G : FVec Ideal S2048 .f32) (W : FVec Ideal S2048x10656 .f32) (x : Fin 8192) (z : Fin 768) : EReal :=
  pick (fun j => ∑ k : Fin 2048, xn X G x k * W (ix2 k j)) z

/-- The results, a row for each token. -/
def XN (X : FVec Ideal S4x2048x2048 .f32) (G : FVec Ideal S2048 .f32) : FVec Ideal S8192x2048 .bf16 := fun y => xn X G (y 0) (y 1)
def P3 (X : FVec Ideal S4x2048x2048 .f32) (G : FVec Ideal S2048 .f32) (W : FVec Ideal S2048x10656 .f32) : FVec Ideal S8192x768 .f32 :=
  fun y => p3 X G W (y 0) (y 1)

/-- The weight's columns as the call is given them, a row each. -/
def ROWS (W : FVec Ideal S10656x2048 .f32) : FVec Ideal S768x2048 .f32 :=
  concatenate S768x2048 0 [⟨S192x2048, extractStridedSlice S192x2048 ![4616, 0] W slices_S10656x2048_S192x2048_4616_0⟩,
    ⟨S8x2048, extractStridedSlice S8x2048 ![3072, 0] W slices_S10656x2048_S8x2048_3072_0⟩,
    ⟨S24x2048, extractStridedSlice S24x2048 ![6536, 0] W slices_S10656x2048_S24x2048_6536_0⟩,
    ⟨S32x2048, broadcastInDim S32x2048 ![] bcast_S_S32x2048 (constant S_ .f32 0x00000000#32)⟩,
    ⟨S192x2048, extractStridedSlice S192x2048 ![4808, 0] W slices_S10656x2048_S192x2048_4808_0⟩,
    ⟨S64x2048, broadcastInDim S64x2048 ![] bcast_S_S64x2048 (constant S_ .f32 0x00000000#32)⟩,
    ⟨S256x2048, extractStridedSlice S256x2048 ![5000, 0] W slices_S10656x2048_S256x2048_5000_0⟩] concatenates_S192x2048_S8x2048_S24x2048_S32x2048_S192x2048_S64x2048_S256x2048_S768x2048_d0

theorem row_congr (W : FVec Ideal S10656x2048 .f32) (k : Fin 2048) {a b : Fin 10656} (h : a.val = b.val) : W (ix2 a k) = W (ix2 b k) := by
  rw [Fin.ext h]

theorem rows_at (W : FVec Ideal S10656x2048 .f32) (z : Fin 768) (k : Fin 2048) : ROWS W (ix2 z k) = pick (fun j => W (ix2 j k)) z := by
  rw [pick]
  pointwise [ROWS]
  have hz : z.val < 192 ∨ (192 ≤ z.val ∧ z.val < 200) ∨ (200 ≤ z.val ∧ z.val < 224) ∨ (224 ≤ z.val ∧ z.val < 256)
      ∨ (256 ≤ z.val ∧ z.val < 448) ∨ (448 ≤ z.val ∧ z.val < 512) ∨ 512 ≤ z.val := by omega
  rcases hz with h | h | h | h | h | h | h
  all_goals simp (disch := omega) only [dif_pos, dif_neg, if_pos, if_neg]
  all_goals first | rfl | omega | exact row_congr W k (by first | omega | (dsimp only; omega) | dsimp only)

theorem V_w (z : Fin 768) (k : Fin 2048) : V m c main_v8 (ix2 z k) = pick (fun j => A2 m c (ix2 k j)) z := by
  have e : V m c main_v8 = ROWS (transpose S10656x2048 [1, 0] (A2 m c) transposes_S2048x10656_S10656x2048_1_0) := by
    unfold_abbrev_sides
    after_reads_simp
    rfl
  rw [e, rows_at]
  refine congrArg (fun P => pick P z) (funext fun j => ?_)
  pointwise []

theorem V_x (x : Fin 8192) (k : Fin 2048) : V m c main_v9 (ix2 x k) = A0 m c (ix3 ⟨x / 2048, by omega⟩ ⟨x % 2048, by omega⟩ k) := by
  have e : V m c main_v9 = shapeCast S8192x2048 (A0 m c) shapeCasts_S4x2048x2048_S8192x2048 := by
    unfold_abbrev_sides
    after_reads_simp
    rfl
  rw [e]
  pointwise []

theorem V_g (x : Fin 1) (k : Fin 2048) : V m c main_v10 (ix2 x k) = A1 m c (ix1 k) := by
  have e : V m c main_v10 = shapeCast S1x2048 (A1 m c) shapeCasts_S2048_S1x2048 := by
    unfold_abbrev_sides
    after_reads_simp
    rfl
  rw [e]
  pointwise []

theorem idx : ∀ t : Fin cfg0.N,
    win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem lt16 (t : Fin cfg0.N) : t.val < 16 := t.isLt

/-- The row of the results a grid point's row is. -/
def row (t : ℕ) (h : t < 16) (a : Fin 512) : Fin 8192 := ⟨512 * t + a, by omega⟩

theorem iblk0 (t : Fin cfg0.N) (a : Fin 512) (k : Fin 2048) : iblk m c 0 t (ix2 a k)
    = A0 m c (ix3 ⟨(row t (lt16 t) a).val / 2048, by omega⟩ ⟨(row t (lt16 t) a).val % 2048, by omega⟩ k) := by
  refine Eq.trans (b := V m c main_v9 (ix2 (row t (lt16 t) a) k)) ?_ (V_x m c _ _)
  blk_ext [iblk, idx t, row]

theorem iblk1 (t : Fin cfg0.N) (a : Fin 1) (k : Fin 2048) : iblk m c 1 t (ix2 a k) = A1 m c (ix1 k) := by
  refine Eq.trans (b := V m c main_v10 (ix2 a k)) ?_ (V_g m c _ _)
  blk_ext [iblk, idx t]

theorem iblk2 (t : Fin cfg0.N) (z : Fin 768) (k : Fin 2048) : iblk m c 2 t (ix2 z k) = pick (fun j => A2 m c (ix2 k j)) z := by
  refine Eq.trans (b := V m c main_v8 (ix2 z k)) ?_ (V_w m c _ _)
  blk_ext [iblk, idx t]

/-- What a grid point writes at a place of its blocks. -/
def nrm (X : Vec Ideal S512x2048 .f32) (G : Vec Ideal S1x2048 .f32) (a : Fin 512) (z : Fin 2048) : EReal := rms (fun k => X (ix2 a k)) (G (ix2 0 z)) z
def prod (X : Vec Ideal S512x2048 .f32) (G : Vec Ideal S1x2048 .f32) (W : Vec Ideal S2048x768 .bf16) (a : Fin 512) (z : Fin 768) : EReal :=
  ∑ k : Fin 2048, nrm X G a k * W (ix2 k z)

theorem nrm_congr (X : Vec Ideal S512x2048 .f32) (G : Vec Ideal S1x2048 .f32) {a a' : Fin 512} (h : a.val = a'.val) {z z' : Fin 2048} (h' : z.val = z'.val) :
    nrm X G a z = nrm X G a' z' := by rw [Fin.ext h, Fin.ext h']

theorem prod_congr (X : Vec Ideal S512x2048 .f32) (G : Vec Ideal S1x2048 .f32) (W : Vec Ideal S2048x768 .bf16) {a a' : Fin 512} (h : a.val = a'.val)
    {z z' : Fin 768} (h' : z.val = z'.val) : prod X G W a z = prod X G W a' z' := by rw [Fin.ext h, Fin.ext h']

theorem whole_at (G : S2048x768.Idx → EReal) (inb) : (fun j => G ((Rect.unit (s := S2048x768) ![0, 0] ![2048, 768] inb).idx j)) = G := by
  funext j
  refine congrArg G (funext fun a => Fin.ext ?_)
  fin_cases a <;> simp

set_option maxHeartbeats 4000000 in
theorem out0_B (t : Fin cfg0.N) (ht : ¬t.val % 16 = 0) (y : S512x2048.Idx) :
    (outsAt0 m c t.val t.isLt).1 y = nrm (iblk m c 0 t) (iblk m c 1 t) (y 0) (y 1) := by
  rw [outsAt0_B m c t ht]
  frame_out
  generalize iblk m c 0 t = X
  generalize iblk m c 1 t = G
  canon_tiles x h
  all_goals idx_vars x; open_payloads; pointwise []
  all_goals refine nrm_congr X G ?_ ?_
  all_goals try dsimp only
  all_goals omega

set_option maxHeartbeats 4000000 in
theorem out0_A (t : Fin cfg0.N) (ht : t.val % 16 = 0) (y : S512x2048.Idx) :
    (outsAt0 m c t.val t.isLt).1 y = nrm (iblk m c 0 t) (iblk m c 1 t) (y 0) (y 1) := by
  rw [outsAt0_A m c t ht]
  frame_out
  generalize iblk m c 0 t = X
  generalize iblk m c 1 t = G
  canon_tiles x h
  all_goals idx_vars x; open_payloads; pointwise []
  all_goals refine nrm_congr X G ?_ ?_
  all_goals try dsimp only
  all_goals omega

set_option maxHeartbeats 4000000 in
theorem out1_B (t : Fin cfg0.N) (ht : ¬t.val % 16 = 0) (W : Vec Ideal S2048x768 .bf16)
    (hW : (outsAt0 m c (t.val - 1) (Nat.lt_of_le_of_lt (Nat.sub_le _ _) t.isLt)).2.2 = W) (y : S512x768.Idx) :
    (outsAt0 m c t.val t.isLt).2.1 y = prod (iblk m c 0 t) (iblk m c 1 t) W (y 0) (y 1) := by
  rw [outsAt0_B m c t ht]
  frame_out
  simp only [hW, read_unread_whole]
  generalize iblk m c 0 t = X
  generalize iblk m c 1 t = G
  canon_tiles x h
  all_goals idx_vars x; open_payloads; pointwise []
  all_goals refine prod_congr X G W ?_ ?_
  all_goals try dsimp only
  all_goals omega

set_option maxHeartbeats 4000000 in
theorem out1_A (t : Fin cfg0.N) (ht : t.val % 16 = 0) (W : Vec Ideal S2048x768 .bf16)
    (hW : (outsAt0 m c t.val t.isLt).2.2 = W) (y : S512x768.Idx) :
    (outsAt0 m c t.val t.isLt).2.1 y = prod (iblk m c 0 t) (iblk m c 1 t) W (y 0) (y 1) := by
  rw [outsAt0_A m c t ht] at hW ⊢
  frame_out at hW ⊢
  simp only [View.readCov_eq_canon', hW]
  rw [whole_at]
  generalize iblk m c 0 t = X
  generalize iblk m c 1 t = G
  canon_tiles x h
  all_goals idx_vars x; open_payloads; pointwise []
  all_goals refine prod_congr X G W ?_ ?_
  all_goals try dsimp only
  all_goals omega

/-- The staged weight. -/
def WC (W : FVec Ideal S2048x10656 .f32) : Vec Ideal S2048x768 .bf16 := fun y => pick (fun j => W (ix2 (y 0) j)) (y 1)

/-- The weight staged from its window, transposed four column blocks at a time. -/
theorem stage1 (X : Vec Ideal S768x2048 .f32) (y : S2048x768.Idx) (x0 : Fin 768) (x1 : Fin 2048) (h0 : (y 1).val = x0.val) (h1 : (y 0).val = x1.val) :
    X (ix2 x0 x1) = X (ix2 (y 1 : Fin 768) (y 0 : Fin 2048)) := by
  have e0 : (y 1 : Fin 768) = x0 := Fin.ext h0
  have e1 : (y 0 : Fin 2048) = x1 := Fin.ext h1
  rw [e0, e1]

theorem keep_A0 (t : Fin cfg0.N) (ht : t.val % 16 = 0) (y : S2048x768.Idx) :
    (outsAt0 m c t.val t.isLt).2.2 y = iblk m c 2 t (ix2 (y 1 : Fin 768) (y 0 : Fin 2048)) := by
  rw [outsAt0_A m c t ht]
  frame_out
  generalize iblk m c 2 t = X
  canon_tiles x h
  all_goals idx_vars x; open_payloads; pointwise []
  all_goals exact stage1 X y _ _ (by omega) (by omega)

theorem keep_A (t : Fin cfg0.N) (ht : t.val % 16 = 0) : (outsAt0 m c t.val t.isLt).2.2 = WC (A2 m c) :=
  funext fun y => (keep_A0 m c t ht y).trans (iblk2 m c t (y 1) (y 0))

theorem keep_B (t : Fin cfg0.N) (ht : ¬t.val % 16 = 0) :
    (outsAt0 m c t.val t.isLt).2.2 = (outsAt0 m c (t.val - 1) (Nat.lt_of_le_of_lt (Nat.sub_le _ _) t.isLt)).2.2 := by
  rw [outsAt0_B m c t ht]
  rfl

/-- The scratch of a grid point: the weight's columns. -/
theorem scratch (k : ℕ) : ∀ hk : k < cfg0.N, (outsAt0 m c k hk).2.2 = WC (A2 m c) := by
  induction k using Nat.strong_induction_on with
  | _ k ih =>
    intro hk
    by_cases h0 : k % 16 = 0
    · exact keep_A m c ⟨k, hk⟩ h0
    · exact (keep_B m c ⟨k, hk⟩ h0).trans (ih (k - 1) (by omega) (Nat.lt_of_le_of_lt (Nat.sub_le _ _) hk))

theorem read0 (t : Fin cfg0.N) (y : S512x2048.Idx) :
    (outsAt0 m c t.val t.isLt).1 y = nrm (iblk m c 0 t) (iblk m c 1 t) (y 0) (y 1) := by
  by_cases h0 : t.val % 16 = 0
  · exact out0_A m c t h0 y
  · exact out0_B m c t h0 y

theorem read1 (t : Fin cfg0.N) (y : S512x768.Idx) :
    (outsAt0 m c t.val t.isLt).2.1 y = prod (iblk m c 0 t) (iblk m c 1 t) (WC (A2 m c)) (y 0) (y 1) := by
  by_cases h0 : t.val % 16 = 0
  · exact out1_A m c t h0 _ (scratch m c t.val t.isLt) y
  · exact out1_B m c t h0 _ (scratch m c _ _) y

theorem nrm_xn (t : Fin cfg0.N) (a : Fin 512) (z : Fin 2048) :
    nrm (iblk m c 0 t) (iblk m c 1 t) a z = xn (A0 m c) (A1 m c) (row t (lt16 t) a) z :=
  rms_congr (funext fun k => iblk0 m c t a k) (iblk1 m c t 0 z) rfl

theorem written0 (t : Fin cfg0.N) (a0 : Fin 512) (a1 : Fin 2048) :
    (outsAt0 m c t.val t.isLt).1 (ix2 a0 a1) = XN (A0 m c) (A1 m c) (ix2 (row t (lt16 t) a0) a1) :=
  (read0 m c t (ix2 a0 a1)).trans (nrm_xn m c t a0 a1)

theorem written1 (t : Fin cfg0.N) (a0 : Fin 512) (a1 : Fin 768) :
    (outsAt0 m c t.val t.isLt).2.1 (ix2 a0 a1) = P3 (A0 m c) (A1 m c) (A2 m c) (ix2 (row t (lt16 t) a0) a1) := by
  refine (read1 m c t (ix2 a0 a1)).trans (Eq.trans ?_ (pick_sum (xn (A0 m c) (A1 m c) (row t (lt16 t) a0)) (fun k j => A2 m c (ix2 k j)) a1))
  exact Finset.sum_congr rfl fun k _ => congrArg (· * _) (nrm_xn m c t a0 k)

theorem final0 : (dats m 0 c).arrAt 3 cfg0.N = XN (A0 m c) (A1 m c) := by
  refine (dats m 0 c).arrAt_eq_of_covers 3 (XN (A0 m c) (A1 m c)) (by decide +kernel) fun t hf y => ?_
  blk_simp
  rw [after0_3]
  idx_vars y
  refine (written0 m c t y0 y1).trans ?_
  blk_ext [idx t, row]

theorem final1 : (dats m 0 c).arrAt 4 cfg0.N = P3 (A0 m c) (A1 m c) (A2 m c) := by
  refine (dats m 0 c).arrAt_eq_of_covers 4 (P3 (A0 m c) (A1 m c) (A2 m c)) (by decide +kernel) fun t hf y => ?_
  blk_simp
  rw [after0_4]
  idx_vars y
  refine (written1 m c t y0 y1).trans ?_
  blk_ext [idx t, row]

end Cert.Kernel7Ideal.First

namespace Cert.Reference7Ideal.Refer
open Cert.Reference7Ideal Cert.Reference7Ideal.Gen

/-- The normed input. -/
def N (X : FVec Ideal S4x2048x2048 .f32) (G : FVec Ideal S2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G))

theorem n_at (X : FVec Ideal S4x2048x2048 .f32) (G : FVec Ideal S2048 .f32) (x : Fin 8192) (z : Fin 2048) :
    N X G (ix3 ⟨x / 2048, by omega⟩ ⟨x % 2048, by omega⟩ z) = Cert.Kernel7Ideal.First.xn X G x z := by
  rw [Cert.Kernel7Ideal.First.xn, Cert.Kernel7Ideal.First.rms]
  pointwise [N]

theorem ref0 (X : FVec Ideal S4x2048x2048 .f32) (G : FVec Ideal S2048 .f32) :
    (truncf .bf16 (shapeCast S8192x2048 (N X G) shapeCasts_S4x2048x2048_S8192x2048) bitsLt_bf16_f32 : FVec Ideal S8192x2048 .bf16) = Cert.Kernel7Ideal.First.XN X G := by
  funext y
  idx_vars y
  refine Eq.trans ?_ (n_at X G y0 y1)
  generalize N X G = h
  pointwise []

/-- The projection, a row for each token. -/
def PR (H : FVec Ideal S4x2048x2048 .f32) (W : FVec Ideal S2048x10656 .f32) : FVec Ideal S8192x10656 .f32 :=
  shapeCast S8192x10656 (Host.dotGeneral dot_S4x2048x2048_S2048x10656_S4x2048x10656_2_0_01_1_n_n none H W) shapeCasts_S4x2048x10656_S8192x10656

theorem pr_at (H : FVec Ideal S4x2048x2048 .f32) (W : FVec Ideal S2048x10656 .f32) (x : Fin 8192) (z : Fin 10656) :
    PR H W (ix2 x z) = ∑ k : Fin 2048, H (ix3 ⟨x / 2048, by omega⟩ ⟨x % 2048, by omega⟩ k) * W (ix2 k z) := by
  pointwise [PR]

/-- Its columns side by side. -/
def COLS (P : FVec Ideal S8192x10656 .f32) : FVec Ideal S8192x768 .f32 :=
  concatenate S8192x768 1 [⟨S8192x192, extractStridedSlice S8192x192 ![0, 0] (extractStridedSlice S8192x384 ![0, 4616] P slices_S8192x10656_S8192x384_0_4616) slices_S8192x384_S8192x192_0_0⟩,
    ⟨S8192x8, extractStridedSlice S8192x8 ![0, 3072] P slices_S8192x10656_S8192x8_0_3072⟩,
    ⟨S8192x24, extractStridedSlice S8192x24 ![0, 6536] P slices_S8192x10656_S8192x24_0_6536⟩,
    ⟨S8192x32, broadcastInDim S8192x32 ![] bcast_S_S8192x32 (constant S_ .f32 0x00000000#32)⟩,
    ⟨S8192x192, extractStridedSlice S8192x192 ![0, 192] (extractStridedSlice S8192x384 ![0, 4616] P slices_S8192x10656_S8192x384_0_4616) slices_S8192x384_S8192x192_0_192⟩,
    ⟨S8192x64, broadcastInDim S8192x64 ![] bcast_S_S8192x64 (constant S_ .f32 0x00000000#32)⟩,
    ⟨S8192x256, extractStridedSlice S8192x256 ![0, 5000] P slices_S8192x10656_S8192x256_0_5000⟩] concatenates_S8192x192_S8192x8_S8192x24_S8192x32_S8192x192_S8192x64_S8192x256_S8192x768_d1

theorem col_congr (P : FVec Ideal S8192x10656 .f32) (x : Fin 8192) {a b : Fin 10656} (h : a.val = b.val) : P (ix2 x a) = P (ix2 x b) := by
  rw [Fin.ext h]

theorem cols_at (P : FVec Ideal S8192x10656 .f32) (x : Fin 8192) (z : Fin 768) :
    COLS P (ix2 x z) = Cert.Kernel7Ideal.First.pick (fun j => P (ix2 x j)) z := by
  rw [Cert.Kernel7Ideal.First.pick]
  pointwise [COLS]
  have hz : z.val < 192 ∨ (192 ≤ z.val ∧ z.val < 200) ∨ (200 ≤ z.val ∧ z.val < 224) ∨ (224 ≤ z.val ∧ z.val < 256)
      ∨ (256 ≤ z.val ∧ z.val < 448) ∨ (448 ≤ z.val ∧ z.val < 512) ∨ 512 ≤ z.val := by omega
  rcases hz with h | h | h | h | h | h | h
  all_goals simp (disch := omega) only [dif_pos, dif_neg, if_pos, if_neg]
  all_goals first | rfl | omega | exact col_congr P x (by first | omega | (dsimp only; omega) | dsimp only)

theorem ref1 (X : FVec Ideal S4x2048x2048 .f32) (G : FVec Ideal S2048 .f32) (W : FVec Ideal S2048x10656 .f32) :
    COLS (PR (N X G) W) = Cert.Kernel7Ideal.First.P3 X G W := by
  funext y
  idx_vars y
  refine (cols_at _ y0 y1).trans ?_
  change _ = Cert.Kernel7Ideal.First.p3 X G W y0 y1
  rw [Cert.Kernel7Ideal.First.p3]
  refine congrArg (fun P => Cert.Kernel7Ideal.First.pick P y1) (funext fun j => (pr_at _ W y0 j).trans ?_)
  exact Finset.sum_congr rfl fun k _ => congrArg (· * _) (n_at X G y0 k)

end Cert.Reference7Ideal.Refer
end
-- ==== Proof.Queries.lean ====
/- The queries of the sparse attention: what each grid point writes, and the result array against the
   reference's. -/
module
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.KernelVsHost
public import Idealize.ShloMosaic.Lib.StableHlo.RunRead
@[expose] public section
set_option maxRecDepth 16384
noncomputable section
open Idealize.ShloMosaic Idealize.ShloMosaic.TcCoe Idealize.SL.Sem
namespace Cert.Kernel8Ideal.Queries
open Cert.Kernel8Ideal Cert.Kernel8Ideal.Gen

variable (m : (ℓ : Loc nD τ sig) → Buf (Elt Ideal) ℓ) (c : Dev nD)

abbrev A0 : FVec Ideal S4x2048x2048 .f32 := m ((c : Thread nD τ).loc main_arg0)
abbrev A1 : FVec Ideal S2048x10656 .f32 := m ((c : Thread nD τ).loc main_arg1)
abbrev A2 : FVec Ideal S192 .f32 := m ((c : Thread nD τ).loc main_arg2)
abbrev A3 : FVec Ideal S8 .f32 := m ((c : Thread nD τ).loc main_arg3)

/-- An entry of a block's product. -/
def prod (W : Vec Ideal S768x2048 .bf16) (X : Vec Ideal S1024x2048 .bf16) (z : Fin 768) (r : Fin 1024) : EReal := ∑ k : Fin 2048, W (ix2 z k) * X (ix2 r k)

theorem prod_congr (W : Vec Ideal S768x2048 .bf16) (X : Vec Ideal S1024x2048 .bf16) {z z' : Fin 768} {r r' : Fin 1024} (h : z = z') (h' : r = r') :
    prod W X z r = prod W X z' r' := by rw [h, h']

/-- The reciprocal of the head's width. -/
def inv : EReal := Named.named (F := Ideal) κ "inv_head" (φ := .f32) 0x3BAAAAAB#32

theorem inv_eq : inv = (((1 : ℝ) / 192 : ℝ) : EReal) := rfl

/-- A value of a head over the root of the head's mean square, times its gain. -/
def normed (q : EReal) (p : Fin 192 → EReal) (g : EReal) : EReal :=
  q * Ideal.rsqrt ((∑ d, p d * p d) * inv + Ideal.ofBits .f32 0x358637BD#32) * g

theorem normed_congr {q q' g g' : EReal} {p p' : Fin 192 → EReal} (h : q = q') (hp : ∀ d, p d = p' d) (hg : g = g') :
    normed q p g = normed q' p' g' := by rw [h, funext hp, hg]

/-- A value of the columns after a head, from its table entry and the position. -/
def spare (v : ℕ) (p : BitVec 32) (g : EReal) : EReal :=
  Scalar.select (IntOp.cmpi .slt (BitVec.ofNat 32 v) 6#32) g
    (Scalar.select (IntOp.cmpi .eq (BitVec.ofNat 32 v) 6#32) (FloatOps.sitofp (F := Ideal) .f32 p * g)
      (Scalar.select (IntOp.cmpi .eq (BitVec.ofNat 32 v) 7#32) (FloatOps.sitofp (F := Ideal) .f32 p * g - FloatOps.sitofp (F := Ideal) .f32 p * g)
        (Scalar.select (IntOp.cmpi .eq (BitVec.ofNat 32 v) 8#32)
          ((FloatOps.sitofp (F := Ideal) .f32 p * g - FloatOps.sitofp (F := Ideal) .f32 p * g) - (FloatOps.sitofp (F := Ideal) .f32 p * g - FloatOps.sitofp (F := Ideal) .f32 p * g)) 0)))

theorem spare_congr {v v' : ℕ} {p p' : BitVec 32} {g g' : EReal} (h : v = v') (hp : p = p') (hg : g = g') : spare v p g = spare v' p' g' := by
  rw [h, hp, hg]

/-- What a grid point writes at a place of its block; the block's first token is at position `P`. -/
def blk (W : Vec Ideal S768x2048 .bf16) (X : Vec Ideal S1024x2048 .bf16) (G : Vec Ideal S1024x128 .f32) (P : ℕ) (a b : Fin 1024) : EReal :=
  if h : a.val % 256 < 192 then
    normed (prod W X ⟨192 * (a.val / 256) + a.val % 256, by omega⟩ b) (fun d => prod W X ⟨192 * (a.val / 256) + d.val, by omega⟩ b)
      (G (ix2 a ⟨b.val % 128, by omega⟩))
  else spare (a.val % 256 - 192) (BitVec.ofNat 32 (P + b.val)) (G (ix2 a ⟨b.val % 128, by omega⟩))

theorem blk_head (W : Vec Ideal S768x2048 .bf16) (X : Vec Ideal S1024x2048 .bf16) (G : Vec Ideal S1024x128 .f32) (P : ℕ) (a b : Fin 1024) (h : a.val % 256 < 192) :
    normed (prod W X ⟨192 * (a.val / 256) + a.val % 256, by omega⟩ b) (fun d => prod W X ⟨192 * (a.val / 256) + d.val, by omega⟩ b)
      (G (ix2 a ⟨b.val % 128, by omega⟩)) = blk W X G P a b := by
  rw [blk, dif_pos h]

theorem blk_spare (W : Vec Ideal S768x2048 .bf16) (X : Vec Ideal S1024x2048 .bf16) (G : Vec Ideal S1024x128 .f32) (P : ℕ) (a b : Fin 1024) (h : ¬a.val % 256 < 192) :
    spare (a.val % 256 - 192) (BitVec.ofNat 32 (P + b.val)) (G (ix2 a ⟨b.val % 128, by omega⟩)) = blk W X G P a b := by
  rw [blk, dif_neg h]

theorem at_congr (G : Vec Ideal S1024x128 .f32) {a a' : Fin 1024} {l l' : Fin 128} (h : a = a') (h' : l = l') : G (ix2 a l) = G (ix2 a' l') := by rw [h, h']

/-- The position of a grid point's first token. -/
theorem base : ∀ t : Fin cfg0.N,
    Scalar.select
      (Scalar.andi
        (Scalar.xori (Scalar.cmpi CmpIPredicate.slt (Scalar.remsi (Scalar.muli (BitVec.ofNat 32 (grid0.coords t 1).val) 1024#32) 2048#32) 0#32) 0#1)
        (Scalar.cmpi CmpIPredicate.ne (Scalar.remsi (Scalar.muli (BitVec.ofNat 32 (grid0.coords t 1).val) 1024#32) 2048#32) 0#32))
      (Scalar.addi (Scalar.remsi (Scalar.muli (BitVec.ofNat 32 (grid0.coords t 1).val) 1024#32) 2048#32) 2048#32)
      (Scalar.remsi (Scalar.muli (BitVec.ofNat 32 (grid0.coords t 1).val) 1024#32) 2048#32)
    = BitVec.ofNat 32 (1024 * (t.val % 2)) :=
  (by decide +kernel : ∀ t : Fin grid0.N, _)

theorem base' : ∀ t : Fin cfg0.N,
    Scalar.select
      (Scalar.andi
        (Scalar.xori
          (Scalar.cmpi CmpIPredicate.slt (Scalar.remsi (Scalar.muli (BitVec.ofNat 32 (grid0.coords t 1).val) 1024#32) (Scalar.select (Scalar.cmpi CmpIPredicate.eq 2048#32 0#32) 1#32 2048#32)) 0#32)
          (Scalar.cmpi CmpIPredicate.slt (Scalar.select (Scalar.cmpi CmpIPredicate.eq 2048#32 0#32) 1#32 2048#32) 0#32))
        (Scalar.cmpi CmpIPredicate.ne (Scalar.remsi (Scalar.muli (BitVec.ofNat 32 (grid0.coords t 1).val) 1024#32) (Scalar.select (Scalar.cmpi CmpIPredicate.eq 2048#32 0#32) 1#32 2048#32)) 0#32))
      (Scalar.addi (Scalar.remsi (Scalar.muli (BitVec.ofNat 32 (grid0.coords t 1).val) 1024#32) (Scalar.select (Scalar.cmpi CmpIPredicate.eq 2048#32 0#32) 1#32 2048#32)) (Scalar.select (Scalar.cmpi CmpIPredicate.eq 2048#32 0#32) 1#32 2048#32))
      (Scalar.remsi (Scalar.muli (BitVec.ofNat 32 (grid0.coords t 1).val) 1024#32) (Scalar.select (Scalar.cmpi CmpIPredicate.eq 2048#32 0#32) 1#32 2048#32))
    = BitVec.ofNat 32 (1024 * (t.val % 2)) :=
  (by decide +kernel : ∀ t : Fin grid0.N, _)

theorem place {B : BitVec 32} (P r x b : ℕ) (hB : B = BitVec.ofNat 32 P) (h : b = r + x) :
    IntOp.addi (Scalar.addi B (BitVec.ofNat 32 r)) (BitVec.ofNat 32 x) = BitVec.ofNat 32 (P + b) := by
  subst h
  subst hB
  change BitVec.ofNat 32 P + BitVec.ofNat 32 r + BitVec.ofNat 32 x = _
  rw [← BitVec.ofNat_add, ← BitVec.ofNat_add, Nat.add_assoc]

set_option maxHeartbeats 16000000 in
theorem out_B (t : Fin cfg0.N) (ht : ¬t.val % 8 = 0) (W : Vec Ideal S768x2048 .bf16)
    (hW : (outsAt0 m c (t.val - 1) (Nat.lt_of_le_of_lt (Nat.sub_le _ _) t.isLt)).2 = W) (y : S1024x1024.Idx) :
    (outsAt0 m c t.val t.isLt).1 y = blk W (iblk m c 0 t) (iblk m c 2 t) (1024 * (t.val % 2)) (y 0) (y 1) := by
  rw [outsAt0_B m c t ht]
  frame_out
  simp only [hW, read_unread_whole]
  generalize iblk m c 0 t = X
  generalize iblk m c 2 t = G
  canon_tiles x h using View.cover_of_tiledBy _ ![64, 256] (by sl_kernel_rfl) y
  all_goals idx_vars x; open_payloads; pointwise []
  all_goals first
    | refine Eq.trans (normed_congr (q' := prod W X ⟨192 * ((y 0).val / 256) + (y 0).val % 256, by omega⟩ (y 1)) (p' := fun d => prod W X ⟨192 * ((y 0).val / 256) + d.val, by omega⟩ (y 1)) (g' := G (ix2 (y 0) ⟨(y 1).val % 128, by omega⟩)) (prod_congr W X (Fin.ext ?_) (Fin.ext ?_)) (fun d => prod_congr W X (Fin.ext ?_) (Fin.ext ?_)) ?_) (blk_head W X G _ (y 0) (y 1) ?_)
    | refine Eq.trans (spare_congr (v' := (y 0).val % 256 - 192) ?_ (place _ _ _ (y 1).val ?_ ?_) (g' := G (ix2 (y 0) ⟨(y 1).val % 128, by omega⟩)) ?_) (blk_spare W X G _ (y 0) (y 1) ?_)
  all_goals first
    | omega
    | (dsimp only; omega)
    | exact base t
    | exact base' t
    | (by_cases hx : x1.val < 128
       · exact (dif_pos hx).trans (at_congr G (Fin.ext (by dsimp only; omega)) (Fin.ext (by dsimp only; omega)))
       · exact (dif_neg hx).trans (at_congr G (Fin.ext (by dsimp only; omega)) (Fin.ext (by dsimp only; omega))))

set_option maxHeartbeats 16000000 in
theorem out_A (t : Fin cfg0.N) (ht : t.val % 8 = 0) (W : Vec Ideal S768x2048 .bf16)
    (hW : (outsAt0 m c t.val t.isLt).2 = W) (y : S1024x1024.Idx) :
    (outsAt0 m c t.val t.isLt).1 y = blk W (iblk m c 0 t) (iblk m c 2 t) (1024 * (t.val % 2)) (y 0) (y 1) := by
  rw [outsAt0_A m c t ht] at hW ⊢
  frame_out at hW ⊢
  simp only [View.readCov_eq_canon', hW]
  generalize iblk m c 0 t = X
  generalize iblk m c 2 t = G
  canon_tiles x h using View.cover_of_tiledBy _ ![64, 256] (by sl_kernel_rfl) y
  all_goals idx_vars x; open_payloads; pointwise []
  all_goals first
    | refine Eq.trans (normed_congr (q' := prod W X ⟨192 * ((y 0).val / 256) + (y 0).val % 256, by omega⟩ (y 1)) (p' := fun d => prod W X ⟨192 * ((y 0).val / 256) + d.val, by omega⟩ (y 1)) (g' := G (ix2 (y 0) ⟨(y 1).val % 128, by omega⟩)) (prod_congr W X (Fin.ext ?_) (Fin.ext ?_)) (fun d => prod_congr W X (Fin.ext ?_) (Fin.ext ?_)) ?_) (blk_head W X G _ (y 0) (y 1) ?_)
    | refine Eq.trans (spare_congr (v' := (y 0).val % 256 - 192) ?_ (place _ _ _ (y 1).val ?_ ?_) (g' := G (ix2 (y 0) ⟨(y 1).val % 128, by omega⟩)) ?_) (blk_spare W X G _ (y 0) (y 1) ?_)
  all_goals first
    | omega
    | (dsimp only; omega)
    | exact base t
    | exact base' t
    | (by_cases hx : x1.val < 128
       · exact (dif_pos hx).trans (at_congr G (Fin.ext (by dsimp only; omega)) (Fin.ext (by dsimp only; omega)))
       · exact (dif_neg hx).trans (at_congr G (Fin.ext (by dsimp only; omega)) (Fin.ext (by dsimp only; omega))))

theorem V_w (x : Fin 10656) (k : Fin 2048) : V m c main_v0 (ix2 x k) = A1 m c (ix2 k x) := by
  have e : V m c main_v0 = transpose S10656x2048 [1, 0] (A1 m c) transposes_S2048x10656_S10656x2048_1_0 := by
    unfold_abbrev_sides
    after_reads_simp
  rw [e]
  pointwise []

theorem V_a (x : Fin 8192) (k : Fin 2048) : V m c main_v36 (ix2 x k) = A0 m c (ix3 ⟨x / 2048, by omega⟩ ⟨x % 2048, by omega⟩ k) := by
  have e : V m c main_v36 = truncf .bf16 (shapeCast S8192x2048 (A0 m c) shapeCasts_S4x2048x2048_S8192x2048) bitsLt_bf16_f32 := by
    unfold_abbrev_sides
    after_reads_simp
    rfl
  rw [e]
  pointwise []

/-- A slope, once for each head, and what is left of it after its first and its second part. -/
def COL (f : FVec Ideal S8 .f32) : FVec Ideal S8x1 .f32 := broadcastInDim S8x1 ![0] bcast_S8_S8x1_0 f
def S2 (s : FVec Ideal S8 .f32) : FVec Ideal S8 .f32 := subf s s
def S3 (s : FVec Ideal S8 .f32) : FVec Ideal S8 .f32 := subf (subf s s) (subf s s)
def FAR (s : FVec Ideal S8 .f32) : FVec Ideal S8 .f32 := mulf (broadcastInDim S8 ![] bcast_S_S8 (constant S_ .f32 0x43800000#32)) s

/-- The nine columns of a head's table. -/
def NINE (s : FVec Ideal S8 .f32) : FVec Ideal S8x9 .f32 :=
  concatenate S8x9 1 [⟨S8x1, COL (FAR s)⟩, ⟨S8x1, COL (FAR (S2 s))⟩, ⟨S8x1, COL (FAR (S3 s))⟩, ⟨S8x1, COL s⟩, ⟨S8x1, COL (S2 s)⟩, ⟨S8x1, COL (S3 s)⟩, ⟨S8x1, COL (Host.negf s)⟩, ⟨S8x1, COL (Host.negf s)⟩, ⟨S8x1, COL (Host.negf s)⟩] concatenates_S8x1_S8x1_S8x1_S8x1_S8x1_S8x1_S8x1_S8x1_S8x1_S8x9_d1

def PAD (s : FVec Ideal S8 .f32) : FVec Ideal S8x64 .f32 :=
  pad S8x64 ![0, 0] ![0, 55] ![0, 0] (NINE s) (sitofp .f32 (constantI S_ 32 0#32) : FVec Ideal S_ .f32) pads_S8x9_S8x64_000_0550 h_S_

def TAB (G : FVec Ideal S192 .f32) (s : FVec Ideal S8 .f32) : FVec Ideal S2048x128 .f32 :=
  broadcastInDim S2048x128 ![0, 1] bcast_S2048x1_S2048x128_0_1 (shapeCast S2048x1 (concatenate S8x256 1 [⟨S8x192, broadcastInDim S8x192 ![1] bcast_S192_S8x192_1 G⟩, ⟨S8x64, PAD s⟩] concatenates_S8x192_S8x64_S8x256_d1) shapeCasts_S8x256_S2048x1)

theorem V_t : V m c main_v34 = TAB (A2 m c) (A3 m c) := by
  unfold_abbrev_sides
  after_reads_simp
  rfl

theorem far_at (s : FVec Ideal S8 .f32) (h : Fin 8) : FAR s (ix1 h) = Ideal.ofBits .f32 0x43800000#32 * s (ix1 h) := by
  pointwise [FAR]

theorem tab_at (G : FVec Ideal S192 .f32) (s : FVec Ideal S8 .f32) (n : Fin 2048) (l : Fin 128) :
    TAB G s (ix2 n l) = if h : n.val % 256 < 192 then G (ix1 ⟨n.val % 256, h⟩) else PAD s (ix2 ⟨n.val / 256, by omega⟩ ⟨n.val % 256 - 192, by omega⟩) := by
  pointwise [TAB]

theorem pad_in (s : FVec Ideal S8 .f32) (h : Fin 8) (l : Fin 64) (hl : l.val < 9) : PAD s (ix2 h l) = NINE s (ix2 h ⟨l, hl⟩) := by
  refine pad_apply_of_inside _ _ _ (NINE s) _ pads_S8x9_S8x64_000_0550 h_S_ (ix2 h l) (ix2 h ⟨l, hl⟩) ?_
  intro a
  fin_cases a <;> simp

theorem pad_out (s : FVec Ideal S8 .f32) (h : Fin 8) (l : Fin 64) (hl : ¬l.val < 9) : PAD s (ix2 h l) = 0 := by
  refine (pad_apply_of_not_inside _ _ _ (NINE s) _ pads_S8x9_S8x64_000_0550 h_S_ (ix2 h l) (1 : Fin 2) ?_).trans ?_
  · simp
    omega
  · change (((0#32 : BitVec 32).toInt : ℝ) : EReal) = 0
    simp

theorem nine_at (s : FVec Ideal S8 .f32) (h : Fin 8) (l : Fin 9) :
    NINE s (ix2 h l) = (![FAR s (ix1 h), FAR (S2 s) (ix1 h), FAR (S3 s) (ix1 h), s (ix1 h), S2 s (ix1 h), S3 s (ix1 h), -s (ix1 h), -s (ix1 h), -s (ix1 h)] : Fin 9 → EReal) l := by
  fin_cases l <;> pointwise [NINE, COL]

/-- An entry of the columns after a head: the slope's multiples, and zero. -/
def pick (v : ℕ) (a b p : EReal) : EReal := if v = 0 then a else if v = 3 then b else if v = 6 then p else 0

theorem cmps : ∀ v : Fin 64, IntOp.cmpi .slt (BitVec.ofNat 32 v.val) 6#32 = (if v.val < 6 then 1#1 else 0#1)
    ∧ IntOp.cmpi .eq (BitVec.ofNat 32 v.val) 6#32 = (if v.val = 6 then 1#1 else 0#1)
    ∧ IntOp.cmpi .eq (BitVec.ofNat 32 v.val) 7#32 = (if v.val = 7 then 1#1 else 0#1)
    ∧ IntOp.cmpi .eq (BitVec.ofNat 32 v.val) 8#32 = (if v.val = 8 then 1#1 else 0#1) := by decide +kernel

theorem select_if (P : Prop) [Decidable P] (a b : EReal) : Scalar.select (if P then 1#1 else 0#1) a b = if P then a else b := by
  by_cases h : P
  · rw [if_pos h, if_pos h]; rfl
  · rw [if_neg h, if_neg h]; rfl

theorem spare_eq (v : Fin 64) (p : BitVec 32) (g : EReal) : spare v.val p g =
    if v.val < 6 then g else if v.val = 6 then FloatOps.sitofp (F := Ideal) .f32 p * g
    else if v.val = 7 then FloatOps.sitofp (F := Ideal) .f32 p * g - FloatOps.sitofp (F := Ideal) .f32 p * g
    else if v.val = 8 then (FloatOps.sitofp (F := Ideal) .f32 p * g - FloatOps.sitofp (F := Ideal) .f32 p * g) - (FloatOps.sitofp (F := Ideal) .f32 p * g - FloatOps.sitofp (F := Ideal) .f32 p * g)
    else 0 := by
  rw [spare, (cmps v).1, (cmps v).2.1, (cmps v).2.2.1, (cmps v).2.2.2]
  simp only [select_if]

theorem real_sub (r : ℝ) : (r : EReal) - (r : EReal) = 0 := by
  rw [← EReal.coe_sub, sub_self]; rfl

theorem sub_zero' : (0 : EReal) - 0 = 0 := by simp

theorem S2_zero (s : FVec Ideal S8 .f32) (h : Fin 8) (r : ℝ) (hs : s (ix1 h) = (r : EReal)) : S2 s (ix1 h) = 0 := by
  refine Eq.trans (b := s (ix1 h) - s (ix1 h)) rfl ?_
  rw [hs, real_sub]

theorem S3_zero (s : FVec Ideal S8 .f32) (h : Fin 8) (r : ℝ) (hs : s (ix1 h) = (r : EReal)) : S3 s (ix1 h) = 0 := by
  refine Eq.trans (b := (s (ix1 h) - s (ix1 h)) - (s (ix1 h) - s (ix1 h))) rfl ?_
  rw [hs, real_sub, sub_zero']

theorem sitofp_real (p : BitVec 32) : FloatOps.sitofp (F := Ideal) .f32 p = ((p.toInt : ℝ) : EReal) := rfl

theorem spare_pick (s : FVec Ideal S8 .f32) (h : Fin 8) (hs : ∃ r : ℝ, s (ix1 h) = (r : EReal)) (v : Fin 64) (p : BitVec 32) :
    spare v.val p (PAD s (ix2 h v)) = pick v.val (Ideal.ofBits .f32 0x43800000#32 * s (ix1 h)) (s (ix1 h)) (-s (ix1 h) * FloatOps.sitofp (F := Ideal) .f32 p) := by
  obtain ⟨r, hr⟩ := hs
  rw [spare_eq, pick]
  by_cases hv : v.val < 9
  · rw [pad_in s h v hv, nine_at, far_at, far_at, far_at, S2_zero s h r hr, S3_zero s h r hr, sitofp_real, hr, mul_zero]
    obtain ⟨v, hv64⟩ := v
    change v < 9 at hv
    interval_cases v
    all_goals simp [Matrix.cons_val]
    all_goals first
      | done
      | exact mul_comm _ _
      | (rw [← EReal.coe_mul, ← EReal.coe_neg, real_sub, sub_zero']; done)
      | (rw [← EReal.coe_mul, ← EReal.coe_neg, real_sub]; done)
  · rw [pad_out s h v hv, if_neg (by omega), if_neg (by omega), if_neg (by omega), if_neg (by omega), if_neg (by omega), if_neg (by omega), if_neg (by omega)]

theorem idx : ∀ t : Fin cfg0.N,
    win0_0.index t = ![t.val % 8, 0] ∧ win0_1.index t = ![3080 + 768 * (t.val / 8), 0] ∧ win0_2.index t = ![t.val / 8, 0]
    ∧ win0_3.index t = ![t.val / 8, t.val % 8] :=
  (by decide +kernel : ∀ t : Fin grid0.N, _)

theorem lt16 (t : Fin cfg0.N) : t.val < 16 := t.isLt

/-- The token and the feature of a grid point's place in the result, and the column of the queries. -/
def row (t : ℕ) (h : t < 16) (b : Fin 1024) : Fin 8192 := ⟨1024 * (t % 8) + b, by omega⟩
def feat (t : ℕ) (h : t < 16) (a : Fin 1024) : Fin 2048 := ⟨1024 * (t / 8) + a, by omega⟩
def col (t : ℕ) (h : t < 16) (z : Fin 768) : Fin 1536 := ⟨768 * (t / 8) + z, by omega⟩
def wcol (z : Fin 1536) : Fin 10656 := ⟨3080 + z, by omega⟩

/-- The staged weight of a grid point. -/
def WC (W : FVec Ideal S2048x10656 .f32) (t : ℕ) (h : t < 16) : Vec Ideal S768x2048 .bf16 := fun y => W (ix2 (y 1) (wcol (col t h (y 0))))

theorem iblk0 (t : Fin cfg0.N) (a : Fin 1024) (k : Fin 2048) : iblk m c 0 t (ix2 a k)
    = A0 m c (ix3 ⟨(row t (lt16 t) a).val / 2048, by omega⟩ ⟨(row t (lt16 t) a).val % 2048, by omega⟩ k) := by
  refine Eq.trans (b := V m c main_v36 (ix2 (row t (lt16 t) a) k)) ?_ (V_a m c _ _)
  blk_ext [iblk, idx t, row]

theorem iblk1 (t : Fin cfg0.N) (a : Fin 768) (k : Fin 2048) : iblk m c 1 t (ix2 a k) = A1 m c (ix2 k (wcol (col t (lt16 t) a))) := by
  refine Eq.trans (b := V m c main_v0 (ix2 (wcol (col t (lt16 t) a)) k)) ?_ (V_w m c _ _)
  blk_ext [iblk, idx t, wcol, col]
  · refine (win0_1.rect_emb_val_off t (ix2 a k) 0).trans ?_
    have e : win0_1.index t 0 = 3080 + 768 * (t.val / 8) := congrFun (idx t).2.1 0
    change win0_1.index t 0 + a.val = _
    omega
  · refine (win0_1.rect_emb_val_off t (ix2 a k) 1).trans ?_
    have e : win0_1.index t 1 = 0 := congrFun (idx t).2.1 1
    change win0_1.index t 1 + k.val = _
    omega

theorem iblk2 (t : Fin cfg0.N) (a : Fin 1024) (l : Fin 128) : iblk m c 2 t (ix2 a l) = TAB (A2 m c) (A3 m c) (ix2 (feat t (lt16 t) a) l) := by
  refine Eq.trans (b := V m c main_v34 (ix2 (feat t (lt16 t) a) l)) ?_ (congrFun (V_t m c) _)
  blk_ext [iblk, idx t, feat]

theorem keep_A (t : Fin cfg0.N) (ht : t.val % 8 = 0) : (outsAt0 m c t.val t.isLt).2 = WC (A1 m c) t (lt16 t) := by
  funext y
  refine Eq.trans ?_ (iblk1 m c t (y 0) (y 1))
  rw [outsAt0_A m c t ht]
  frame_out
  generalize iblk m c 1 t = X
  idx_vars y
  open_payloads
  pointwise []

theorem keep_B (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  rfl

theorem WC_prev (W : FVec Ideal S2048x10656 .f32) (k : ℕ) (hk : k < 16) (h0 : ¬k % 8 = 0) : WC W (k - 1) (by omega) = WC W k hk := by
  funext y
  have e : col (k - 1) (by omega) (y 0) = col k hk (y 0) := Fin.ext (by change 768 * ((k - 1) / 8) + _ = 768 * (k / 8) + _; omega)
  exact congrArg (fun j => W (ix2 (y 1) (wcol j))) e

/-- The scratch of a grid point: the weight columns of its tile. -/
theorem scratch (k : ℕ) : ∀ hk : k < cfg0.N, (outsAt0 m c k hk).2 = WC (A1 m c) k hk := by
  induction k using Nat.strong_induction_on with
  | _ k ih =>
    intro hk
    by_cases h0 : k % 8 = 0
    · exact keep_A m c ⟨k, hk⟩ h0
    · have hk' : k < 16 := hk
      refine (keep_B m c ⟨k, hk⟩ h0).trans ?_
      rw [ih (k - 1) (by omega) (Nat.lt_of_le_of_lt (Nat.sub_le _ _) hk)]
      exact WC_prev _ k hk' h0

theorem read (t : Fin cfg0.N) (y : S1024x1024.Idx) :
    (outsAt0 m c t.val t.isLt).1 y = blk (WC (A1 m c) t (lt16 t)) (iblk m c 0 t) (iblk m c 2 t) (1024 * (t.val % 2)) (y 0) (y 1) := by
  by_cases h0 : t.val % 8 = 0
  · exact out_A m c t h0 _ (scratch m c t.val t.isLt) y
  · exact out_B m c t h0 _ ((keep_B m c t h0).symm.trans (scratch m c t.val t.isLt)) y

/-- An entry of the projection, of its columns of queries. -/
def proj (A : FVec Ideal S4x2048x2048 .f32) (W : FVec Ideal S2048x10656 .f32) (x : Fin 8192) (z : Fin 1536) : EReal :=
  ∑ k : Fin 2048, A (ix3 ⟨x / 2048, by omega⟩ ⟨x % 2048, by omega⟩ k) * W (ix2 k (wcol z))

/-- An entry of the result: a query over the root of its head's mean square, times its gain, or a column after the head. -/
def out (A : FVec Ideal S4x2048x2048 .f32) (W : FVec Ideal S2048x10656 .f32) (G : FVec Ideal S192 .f32) (s : FVec Ideal S8 .f32) (f : Fin 2048) (x : Fin 8192) : EReal :=
  if h : f.val % 256 < 192 then
    proj A W x ⟨192 * (f.val / 256) + f.val % 256, by omega⟩
      * Ideal.rsqrt (Ideal.div (∑ d : Fin 192, proj A W x ⟨192 * (f.val / 256) + d.val, by omega⟩ * proj A W x ⟨192 * (f.val / 256) + d.val, by omega⟩)
          (Ideal.ofBits .f32 0x43400000#32) + Ideal.ofBits .f32 0x358637BD#32)
      * G (ix1 ⟨f.val % 256, h⟩)
  else pick (f.val % 256 - 192) (Ideal.ofBits .f32 0x43800000#32 * s (ix1 ⟨f.val / 256, by omega⟩)) (s (ix1 ⟨f.val / 256, by omega⟩))
    (-s (ix1 ⟨f.val / 256, by omega⟩) * FloatOps.sitofp (F := Ideal) .f32 (BitVec.ofNat 32 (x.val % 2048)))

theorem ofBits_192 : Ideal.ofBits .f32 0x43400000#32 = ((192 : ℝ) : EReal) := by
  simp [Ideal.ofBits, Ideal.ieee]
  norm_num
  rw [← EReal.coe_mul]
  norm_num

theorem mean_eq (s : EReal) : s * inv = Ideal.div s (Ideal.ofBits .f32 0x43400000#32) := by
  rw [ofBits_192, inv_eq, Ideal.div_coe (by norm_num), one_div]

/-- The result, a column for each token. -/
def OUT (A : FVec Ideal S4x2048x2048 .f32) (W : FVec Ideal S2048x10656 .f32) (G : FVec Ideal S192 .f32) (s : FVec Ideal S8 .f32) : FVec Ideal S2048x8192 .bf16 :=
  fun y => out A W G s (y 0) (y 1)

theorem prod_proj (t : Fin cfg0.N) (z : Fin 768) (z' : Fin 1536) (b : Fin 1024) (h : 768 * (t.val / 8) + z.val = z'.val) :
    prod (WC (A1 m c) t (lt16 t)) (iblk m c 0 t) z b = proj (A0 m c) (A1 m c) (row t (lt16 t) b) z' := by
  have e : z' = col t (lt16 t) z := Fin.ext h.symm
  subst e
  exact Finset.sum_congr rfl fun k _ => (mul_comm _ _).trans (congrArg (· * _) (iblk0 m c t b k))

theorem pad_congr (s : FVec Ideal S8 .f32) {h h' : Fin 8} {v v' : Fin 64} (e : h = h') (e' : v = v') : PAD s (ix2 h v) = PAD s (ix2 h' v') := by rw [e, e']

theorem written (hs : ∀ h : Fin 8, ∃ r : ℝ, A3 m c (ix1 h) = (r : EReal)) (t : Fin cfg0.N) (a b : Fin 1024) :
    (outsAt0 m c t.val t.isLt).1 (ix2 a b) = OUT (A0 m c) (A1 m c) (A2 m c) (A3 m c) (ix2 (feat t (lt16 t) a) (row t (lt16 t) b)) := by
  refine (read m c t (ix2 a b)).trans ?_
  change blk _ _ _ _ a b = out (A0 m c) (A1 m c) (A2 m c) (A3 m c) (feat t (lt16 t) a) (row t (lt16 t) b)
  have hf : (feat t (lt16 t) a).val = 1024 * (t.val / 8) + a.val := rfl
  have hr : (row t (lt16 t) b).val = 1024 * (t.val % 8) + b.val := rfl
  by_cases h : a.val % 256 < 192
  · have h' : (feat t (lt16 t) a).val % 256 < 192 := by omega
    rw [blk, dif_pos h, out, dif_pos h', ← mean_eq]
    refine normed_congr (prod_proj m c t _ _ b ?_) (fun d => prod_proj m c t _ _ b ?_) ((iblk2 m c t a _).trans ((tab_at _ _ _ _).trans (dif_pos h')))
    · dsimp only; omega
    · dsimp only; omega
  · have h' : ¬(feat t (lt16 t) a).val % 256 < 192 := by omega
    rw [blk, dif_neg h, out, dif_neg h', iblk2, tab_at, dif_neg h']
    refine Eq.trans (spare_congr (v' := (⟨(feat t (lt16 t) a).val % 256 - 192, by omega⟩ : Fin 64).val) ?_ ?_ rfl) (spare_pick (A3 m c) _ (hs _) _ _)
    · dsimp only; omega
    · exact congrArg (BitVec.ofNat 32) (by omega)

theorem final (hs : ∀ h : Fin 8, ∃ r : ℝ, A3 m c (ix1 h) = (r : EReal)) : (dats m 0 c).arrAt 3 cfg0.N = OUT (A0 m c) (A1 m c) (A2 m c) (A3 m c) := by
  refine (dats m 0 c).arrAt_eq_of_covers 3 (OUT (A0 m c) (A1 m c) (A2 m c) (A3 m c)) (by decide +kernel) fun t hf y => ?_
  blk_simp
  rw [after0_3]
  idx_vars y
  refine (written m c hs t y0 y1).trans ?_
  blk_ext [idx t, row, feat]

end Cert.Kernel8Ideal.Queries

namespace Cert.Reference8Ideal.Refer
open Cert.Reference8Ideal Cert.Reference8Ideal.Gen

/-- The projection, and its columns of queries by head. -/
def PR (A : FVec Ideal S4x2048x2048 .f32) (W : FVec Ideal S2048x10656 .f32) : FVec Ideal S4x2048x10656 .f32 :=
  Host.dotGeneral dot_S4x2048x2048_S2048x10656_S4x2048x10656_2_0_01_1_n_n none A W

def HQ (P : FVec Ideal S4x2048x10656 .f32) : FVec Ideal S4x2048x8x192 .f32 :=
  shapeCast S4x2048x8x192 (extractStridedSlice S4x2048x1536 ![0, 0, 3080] P slices_S4x2048x10656_S4x2048x1536_0_0_3080) shapeCasts_S4x2048x1536_S4x2048x8x192

def NORM (H : FVec Ideal S4x2048x8x192 .f32) (G : FVec Ideal S192 .f32) : FVec Ideal S4x2048x8x192 .f32 :=
  mulf (mulf H (broadcastInDim S4x2048x8x192 ![0, 1, 2, 3] bcast_S4x2048x8x1_S4x2048x8x192_0_1_2_3 (Host.rsqrt (addf (Host.divf (broadcastInDim S4x2048x8x1 ![0, 1, 2] bcast_S4x2048x8_S4x2048x8x1_0_1_2 (Host.reduceAdd (mulf H H) (constant S_ .f32 0x00000000#32) reducesTo_S4x2048x8x192_S4x2048x8_d3 h_S_)) (broadcastInDim S4x2048x8x1 ![] bcast_S_S4x2048x8x1 (constant S_ .f32 0x43400000#32))) (broadcastInDim S4x2048x8x1 ![] bcast_S_S4x2048x8x1 (constant S_ .f32 0x358637BD#32)))))) (broadcastInDim S4x2048x8x192 ![0, 1, 2, 3] bcast_S1x1x1x192_S4x2048x8x192_0_1_2_3 (broadcastInDim S1x1x1x192 ![3] bcast_S192_S1x1x1x192_3 G))

/-- The columns after a head. -/
def FARR (s : FVec Ideal S8 .f32) : FVec Ideal S4x2048x8x1 .f32 :=
  broadcastInDim S4x2048x8x1 ![2, 3] bcast_S8x1_S4x2048x8x1_2_3 (broadcastInDim S8x1 ![0] bcast_S8_S8x1_0 (mulf (broadcastInDim S8 ![] bcast_S_S8 (constant S_ .f32 0x43800000#32)) s))
def NEAR (s : FVec Ideal S8 .f32) : FVec Ideal S4x2048x8x1 .f32 :=
  broadcastInDim S4x2048x8x1 ![2, 3] bcast_S8x1_S4x2048x8x1_2_3 (broadcastInDim S8x1 ![0] bcast_S8_S8x1_0 s)
def OWN (s : FVec Ideal S8 .f32) : FVec Ideal S4x2048x8x1 .f32 :=
  broadcastInDim S4x2048x8x1 ![1, 2, 3] bcast_S2048x8x1_S4x2048x8x1_1_2_3 (broadcastInDim S2048x8x1 ![0, 1] bcast_S2048x8_S2048x8x1_0_1 (mulf (broadcastInDim S2048x8 ![0, 1] bcast_S1x8_S2048x8_0_1 (broadcastInDim S1x8 ![1] bcast_S8_S1x8_1 (Host.negf s))) (broadcastInDim S2048x8 ![0, 1] bcast_S2048x1_S2048x8_0_1 (broadcastInDim S2048x1 ![0] bcast_S2048_S2048x1_0 (sitofp .f32 (iotaInDim S2048 32 0))))))
def NONE : FVec Ideal S4x2048x8x2 .f32 := broadcastInDim S4x2048x8x2 ![] bcast_S_S4x2048x8x2 (constant S_ .f32 0x00000000#32)
def REST : FVec Ideal S4x2048x8x57 .f32 := broadcastInDim S4x2048x8x57 ![] bcast_S_S4x2048x8x57 (constant S_ .f32 0x00000000#32)

/-- The heads and their further columns, transposed. -/
def JOIN (N : FVec Ideal S4x2048x8x192 .f32) (a : FVec Ideal S4x2048x8x1 .f32) (z : FVec Ideal S4x2048x8x2 .f32) (b : FVec Ideal S4x2048x8x1 .f32) (o : FVec Ideal S4x2048x8x1 .f32) (r : FVec Ideal S4x2048x8x57 .f32) : FVec Ideal S2048x8192 .bf16 :=
  truncf .bf16 (transpose S2048x8192 [1, 0] (shapeCast S8192x2048 (concatenate S4x2048x8x256 3 [⟨S4x2048x8x192, N⟩, ⟨S4x2048x8x1, a⟩, ⟨S4x2048x8x2, z⟩, ⟨S4x2048x8x1, b⟩, ⟨S4x2048x8x2, z⟩, ⟨S4x2048x8x1, o⟩, ⟨S4x2048x8x57, r⟩] concatenates_S4x2048x8x192_S4x2048x8x1_S4x2048x8x2_S4x2048x8x1_S4x2048x8x2_S4x2048x8x1_S4x2048x8x57_S4x2048x8x256_d3) shapeCasts_S4x2048x8x256_S8192x2048) transposes_S8192x2048_S2048x8192_1_0) bitsLt_bf16_f32

theorem pr_at (A : FVec Ideal S4x2048x2048 .f32) (W : FVec Ideal S2048x10656 .f32) (b : Fin 4) (s : Fin 2048) (z : Fin 10656) :
    PR A W (ix3 b s z) = ∑ k : Fin 2048, A (ix3 b s k) * W (ix2 k z) := by
  pointwise [PR]

theorem hq_at (P : FVec Ideal S4x2048x10656 .f32) (b : Fin 4) (s : Fin 2048) (h : Fin 8) (d : Fin 192) :
    HQ P (ix4 b s h d) = P (ix3 b s ⟨3080 + (h * 192 + d), by omega⟩) := by
  pointwise [HQ]

/-- A normed entry of a head. -/
def normed (p : Fin 192 → EReal) (G : FVec Ideal S192 .f32) (l : Fin 192) : EReal :=
  p l * Ideal.rsqrt (Ideal.div (∑ d, p d * p d) (Ideal.ofBits .f32 0x43400000#32) + Ideal.ofBits .f32 0x358637BD#32) * G (ix1 l)

theorem norm_at (H : FVec Ideal S4x2048x8x192 .f32) (G : FVec Ideal S192 .f32) (b : Fin 4) (s : Fin 2048) (h : Fin 8) (l : Fin 192) :
    NORM H G (ix4 b s h l) = normed (fun d => H (ix4 b s h d)) G l := by
  rw [normed]
  pointwise [NORM]

theorem far_at (s : FVec Ideal S8 .f32) (b : Fin 4) (t : Fin 2048) (h : Fin 8) (u : Fin 1) : FARR s (ix4 b t h u) = Ideal.ofBits .f32 0x43800000#32 * s (ix1 h) := by
  pointwise [FARR]

theorem near_at (s : FVec Ideal S8 .f32) (b : Fin 4) (t : Fin 2048) (h : Fin 8) (u : Fin 1) : NEAR s (ix4 b t h u) = s (ix1 h) := by
  pointwise [NEAR]

theorem own_at (s : FVec Ideal S8 .f32) (b : Fin 4) (t : Fin 2048) (h : Fin 8) (u : Fin 1) :
    OWN s (ix4 b t h u) = -s (ix1 h) * FloatOps.sitofp (F := Ideal) .f32 (BitVec.ofNat 32 t.val) := by
  pointwise [OWN]

theorem none_at (b : Fin 4) (t : Fin 2048) (h : Fin 8) (u : Fin 2) : NONE (ix4 b t h u) = 0 := by
  pointwise [NONE]

theorem rest_at (b : Fin 4) (t : Fin 2048) (h : Fin 8) (u : Fin 57) : REST (ix4 b t h u) = 0 := by
  pointwise [REST]

open Cert.Kernel8Ideal.Queries in
theorem join_at (N : FVec Ideal S4x2048x8x192 .f32) (s : FVec Ideal S8 .f32) (f : Fin 2048) (x : Fin 8192) :
    JOIN N (FARR s) NONE (NEAR s) (OWN s) REST (ix2 f x)
      = if h : f.val % 256 < 192 then N (ix4 ⟨x / 2048, by omega⟩ ⟨x % 2048, by omega⟩ ⟨f / 256, by omega⟩ ⟨f.val % 256, h⟩)
        else pick (f.val % 256 - 192) (Ideal.ofBits .f32 0x43800000#32 * s (ix1 ⟨f.val / 256, by omega⟩)) (s (ix1 ⟨f.val / 256, by omega⟩))
          (-s (ix1 ⟨f.val / 256, by omega⟩) * FloatOps.sitofp (F := Ideal) .f32 (BitVec.ofNat 32 (x.val % 2048))) := by
  simp only [pick]
  generalize hA : FARR s = A
  generalize hB : NEAR s = B
  generalize hO : OWN s = O
  generalize hZ : NONE = Z
  generalize hR : REST = R
  pointwise [JOIN]
  subst hA hB hO hZ hR
  have hz : f.val % 256 < 192 ∨ f.val % 256 = 192 ∨ (193 ≤ f.val % 256 ∧ f.val % 256 < 195) ∨ f.val % 256 = 195 ∨ (196 ≤ f.val % 256 ∧ f.val % 256 < 198)
      ∨ f.val % 256 = 198 ∨ 199 ≤ f.val % 256 := by omega
  rcases hz with h | h | ⟨h, h'⟩ | h | ⟨h, h'⟩ | h | h
  all_goals simp (disch := omega) only [dif_pos, dif_neg, if_pos, if_neg]
  · exact far_at s _ _ _ _
  · exact none_at _ _ _ _
  · exact near_at s _ _ _ _
  · exact none_at _ _ _ _
  · exact own_at s _ _ _ _
  · exact rest_at _ _ _ _

open Cert.Kernel8Ideal.Queries in
theorem ref (A : FVec Ideal S4x2048x2048 .f32) (W : FVec Ideal S2048x10656 .f32) (G : FVec Ideal S192 .f32) (s : FVec Ideal S8 .f32) :
    JOIN (NORM (HQ (PR A W)) G) (FARR s) NONE (NEAR s) (OWN s) REST = OUT A W G s := by
  funext y
  idx_vars y
  refine (join_at _ s y0 y1).trans ?_
  change _ = out A W G s y0 y1
  rw [out]
  by_cases h : y0.val % 256 < 192
  · rw [dif_pos h, dif_pos h, norm_at, normed]
    have e : ∀ d : Fin 192, HQ (PR A W) (ix4 ⟨y1 / 2048, by omega⟩ ⟨y1 % 2048, by omega⟩ ⟨y0 / 256, by omega⟩ d) = proj A W y1 ⟨192 * (y0.val / 256) + d.val, by omega⟩ := fun d => by
      refine (hq_at _ _ _ _ _).trans ((pr_at _ _ _ _ _).trans (Finset.sum_congr rfl fun k _ => congrArg (_ * ·) (congrArg (fun j => W (ix2 k j)) (Fin.ext ?_))))
      change 3080 + (y0.val / 256 * 192 + d.val) = 3080 + (192 * (y0.val / 256) + d.val)
      omega
    simp only [e]
  · rw [dif_neg h, dif_neg h]

end Cert.Reference8Ideal.Refer
end
-- ==== Proof.Heads.lean ====
/- The Fox queries, keys and values: what each grid point writes, and the result array against the
   reference's. -/
module
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.Kernel6Ideal.Heads
open Cert.Kernel6Ideal Cert.Kernel6Ideal.Gen
variable (m : (ℓ : Loc nD τ sig) → Buf (Elt Ideal) ℓ) (c : Dev nD)

abbrev A0 : FVec Ideal S4x2048x2048 .f32 := m ((c : Thread nD τ).loc main_arg0)
abbrev A1 : FVec Ideal S2048x10656 .f32 := m ((c : Thread nD τ).loc main_arg1)
abbrev A2 : FVec Ideal S128 .f32 := m ((c : Thread nD τ).loc main_arg2)
abbrev A3 : FVec Ideal S128 .f32 := m ((c : Thread nD τ).loc main_arg3)

/-- An entry of a block's product. -/
def prod (X : Vec Ideal S1024x2048 .bf16) (W : Vec Ideal S2048x1024 .bf16) (r z : Fin 1024) : EReal := ∑ k : Fin 2048, X (ix2 r k) * W (ix2 k z)

theorem prod_congr (X : Vec Ideal S1024x2048 .bf16) (W : Vec Ideal S2048x1024 .bf16) {r r' z z' : Fin 1024} (h : r = r') (h' : z = z') :
    prod X W r z = prod X W r' z' := by rw [h, h']

/-- A value of a head, with the squares of the head, its flag and its gain. -/
def scaled (q : EReal) (p : Fin 128 → EReal) (f g : EReal) : EReal :=
  q * (if 0 < f then Ideal.rsqrt ((∑ d, p d * p d) * Ideal.ofBits .f32 0x3C000000#32 + Ideal.ofBits .f32 0x358637BD#32) else 1) * g

theorem scaled_congr {q q' f f' g g' : EReal} {p p' : Fin 128 → EReal} (h : q = q') (hp : ∀ d, p d = p' d) (hf : f = f') (hg : g = g') :
    scaled q p f g = scaled q' p' f' g' := by rw [h, funext hp, hf, hg]

/-- What a grid point writes at a place of its block. -/
def blk (X : Vec Ideal S1024x2048 .bf16) (W : Vec Ideal S2048x1024 .bf16) (G F : Vec Ideal S1x1024 .f32) (a b : Fin 1024) : EReal :=
  scaled (prod X W a b) (fun d => prod X W a ⟨128 * (b.val / 128) + d.val, by omega⟩) (F (ix2 0 b)) (G (ix2 0 b))

theorem at_congr (G : Vec Ideal S1x1024 .f32) {z z' : Fin 1024} (h : z = z') : G (ix2 0 z) = G (ix2 0 z') := by rw [h]

theorem whole_at (G : S2048x1024.Idx → EReal) (inb) : (fun j => G ((Rect.unit (s := S2048x1024) ![0, 0] ![2048, 1024] inb).idx j)) = G := by
  funext j
  refine congrArg G (funext fun a => Fin.ext ?_)
  fin_cases a <;> simp

set_option maxHeartbeats 4000000 in
theorem out_B (t : Fin cfg0.N) (ht : ¬t.val % 8 = 0) (W : Vec Ideal S2048x1024 .bf16)
    (hW : (outsAt0 m c (t.val - 1) (Nat.lt_of_le_of_lt (Nat.sub_le _ _) t.isLt)).2 = W) (y : S1024x1024.Idx) :
    (outsAt0 m c t.val t.isLt).1 y = blk (iblk m c 0 t) W (iblk m c 2 t) (iblk m c 3 t) (y 0) (y 1) := by
  rw [outsAt0_B m c t ht]
  frame_out
  simp only [hW, read_unread_whole]
  generalize iblk m c 0 t = X
  generalize iblk m c 2 t = G
  generalize iblk m c 3 t = F
  canon_tiles x h
  all_goals idx_vars x; open_payloads; pointwise []
  all_goals refine scaled_congr (prod_congr X W (Fin.ext ?_) (Fin.ext ?_)) (fun d => prod_congr X W (Fin.ext ?_) (Fin.ext ?_)) (at_congr F (Fin.ext ?_)) (at_congr G (Fin.ext ?_))
  all_goals dsimp only
  all_goals omega

set_option maxHeartbeats 4000000 in
theorem out_A (t : Fin cfg0.N) (ht : t.val % 8 = 0) (W : Vec Ideal S2048x1024 .bf16)
    (hW : (outsAt0 m c t.val t.isLt).2 = W) (y : S1024x1024.Idx) :
    (outsAt0 m c t.val t.isLt).1 y = blk (iblk m c 0 t) W (iblk m c 2 t) (iblk m c 3 t) (y 0) (y 1) := by
  rw [outsAt0_A m c t ht] at hW ⊢
  frame_out at hW ⊢
  simp only [View.readCov_eq_canon', hW]
  rw [whole_at]
  generalize iblk m c 0 t = X
  generalize iblk m c 2 t = G
  generalize iblk m c 3 t = F
  canon_tiles x h
  all_goals idx_vars x; open_payloads; pointwise []
  all_goals refine scaled_congr (prod_congr X W (Fin.ext ?_) (Fin.ext ?_)) (fun d => prod_congr X W (Fin.ext ?_) (Fin.ext ?_)) (at_congr F (Fin.ext ?_)) (at_congr G (Fin.ext ?_))
  all_goals dsimp only
  all_goals omega

theorem V_w (x : Fin 10656) (k : Fin 2048) : V m c main_v0 (ix2 x k) = A1 m c (ix2 k x) := by
  have e : V m c main_v0 = transpose S10656x2048 [1, 0] (A1 m c) transposes_S2048x10656_S10656x2048_1_0 := by
    unfold_abbrev_sides
    after_reads_simp
  rw [e]
  pointwise []

theorem V_a (x : Fin 8192) (k : Fin 2048) : V m c main_v13 (ix2 x k) = A0 m c (ix3 ⟨x / 2048, by omega⟩ ⟨x % 2048, by omega⟩ k) := by
  have e : V m c main_v13 = truncf .bf16 (shapeCast S8192x2048 (A0 m c) shapeCasts_S4x2048x2048_S8192x2048) bitsLt_bf16_f32 := by
    unfold_abbrev_sides
    after_reads_simp
    rfl
  rw [e]
  pointwise []

/-- The gain of a column: the queries', the keys', or one. -/
def gain (Q K : FVec Ideal S128 .f32) (z : Fin 3072) : EReal :=
  if z.val < 1024 then Q (ix1 ⟨z.val % 128, by omega⟩) else if z.val < 2048 then K (ix1 ⟨z.val % 128, by omega⟩) else 1

/-- Whether a column is normed. -/
def flag (z : Fin 3072) : EReal := if z.val < 2048 then 1 else 0

/-- A gain, once for each head. -/
def TILE (Q : FVec Ideal S128 .f32) : FVec Ideal S1024 .f32 :=
  shapeCast S1024 (broadcastInDim S8x128 ![0, 1] bcast_S1x128_S8x128_0_1 (shapeCast S1x128 Q shapeCasts_S128_S1x128)) shapeCasts_S8x128_S1024

theorem tile_at (Q : FVec Ideal S128 .f32) (h : Fin 8) (l : Fin 128) : TILE Q (ix1 ⟨128 * h + l, by omega⟩) = Q (ix1 l) := by
  pointwise [TILE]

theorem tile (Q : FVec Ideal S128 .f32) (z : Fin 1024) (l : Fin 128) (h : z.val % 128 = l.val) : TILE Q (ix1 z) = Q (ix1 l) := by
  have e : z = ⟨128 * (⟨z.val / 128, by omega⟩ : Fin 8).val + l.val, by dsimp only; omega⟩ := Fin.ext (by dsimp only; omega)
  rw [e]
  exact tile_at Q _ l

def GAINS (Q K : FVec Ideal S128 .f32) : FVec Ideal S1x3072 .f32 :=
  shapeCast S1x3072 (concatenate S3072 0 [⟨S1024, TILE Q⟩, ⟨S1024, TILE K⟩, ⟨S1024, broadcastInDim S1024 ![] bcast_S_S1024 (constant S_ .f32 0x3F800000#32)⟩] concatenates_S1024_S1024_S1024_S3072_d0) shapeCasts_S3072_S1x3072

def FLAGS : FVec Ideal S1x3072 .f32 :=
  shapeCast S1x3072 (concatenate S3072 0 [⟨S2048, broadcastInDim S2048 ![] bcast_S_S2048 (constant (F := Ideal) S_ .f32 0x3F800000#32)⟩, ⟨S1024, broadcastInDim S1024 ![] bcast_S_S1024 (constant (F := Ideal) S_ .f32 0x00000000#32)⟩] concatenates_S2048_S1024_S3072_d0) shapeCasts_S3072_S1x3072

theorem gains_at (Q K : FVec Ideal S128 .f32) (x : Fin 1) (z : Fin 3072) : GAINS Q K (ix2 x z) = gain Q K z := by
  rw [gain]
  by_cases h : z.val < 1024
  · rw [if_pos h]
    refine Eq.trans (b := TILE Q (ix1 ⟨z.val, h⟩)) ?_ (tile Q _ _ rfl)
    pointwise [GAINS]
    rw [dif_pos h]
  · rw [if_neg h]
    by_cases h' : z.val < 2048
    · rw [if_pos h']
      refine Eq.trans (b := TILE K (ix1 ⟨z.val - 1024, by omega⟩)) ?_ (tile K _ _ (by dsimp only; omega))
      pointwise [GAINS]
      rw [dif_neg h, dif_pos (by omega)]
    · rw [if_neg h']
      pointwise [GAINS]
      rw [dif_neg h, dif_neg (by omega)]

theorem flags_at (x : Fin 1) (z : Fin 3072) : FLAGS (ix2 x z) = flag z := by
  rw [flag]
  pointwise [FLAGS]
  by_cases h : z.val < 2048
  · rw [dif_pos h, if_pos h]
  · rw [dif_neg h, if_neg h]

theorem V_g (x : Fin 1) (z : Fin 3072) : V m c main_v14 (ix2 x z) = gain (A2 m c) (A3 m c) z := by
  have e : V m c main_v14 = GAINS (A2 m c) (A3 m c) := by
    unfold_abbrev_sides
    after_reads_simp
    rfl
  rw [e]
  exact gains_at _ _ x z

theorem V_f (x : Fin 1) (z : Fin 3072) : V m c main_v15 (ix2 x z) = flag z := by
  have e : V m c main_v15 = FLAGS := by
    unfold_abbrev_sides
    after_reads_simp
    rfl
  rw [e]
  exact flags_at x z

theorem idx : ∀ t : Fin cfg0.N,
    win0_0.index t = ![t.val % 8, 0] ∧ win0_1.index t = ![1024 * (t.val / 8), 0] ∧ win0_2.index t = ![0, t.val / 8]
    ∧ win0_3.index t = ![0, t.val / 8] ∧ win0_4.index t = ![t.val % 8, t.val / 8] :=
  (by decide +kernel : ∀ t : Fin grid0.N, _)

theorem lt24 (t : Fin cfg0.N) : t.val < 24 := t.isLt

/-- The row and the column of a grid point's place in the result, and the column in the projection. -/
def row (t : ℕ) (h : t < 24) (a : Fin 1024) : Fin 8192 := ⟨1024 * (t % 8) + a, by omega⟩
def col (t : ℕ) (h : t < 24) (b : Fin 1024) : Fin 3072 := ⟨1024 * (t / 8) + b, by omega⟩
def wcol (z : Fin 3072) : Fin 10656 := ⟨z, by omega⟩

/-- The staged weight of a grid point. -/
def WC (W : FVec Ideal S2048x10656 .f32) (t : ℕ) (h : t < 24) : Vec Ideal S2048x1024 .bf16 := fun y => W (ix2 (y 0) (wcol (col t h (y 1))))

theorem iblk0 (t : Fin cfg0.N) (a : Fin 1024) (k : Fin 2048) : iblk m c 0 t (ix2 a k)
    = A0 m c (ix3 ⟨(row t (lt24 t) a).val / 2048, by omega⟩ ⟨(row t (lt24 t) a).val % 2048, by omega⟩ k) := by
  refine Eq.trans (b := V m c main_v13 (ix2 (row t (lt24 t) a) k)) ?_ (V_a m c _ _)
  blk_ext [iblk, idx t, row]

theorem iblk1 (t : Fin cfg0.N) (a : Fin 1024) (k : Fin 2048) : iblk m c 1 t (ix2 a k) = A1 m c (ix2 k (wcol (col t (lt24 t) a))) := by
  refine Eq.trans (b := V m c main_v0 (ix2 (wcol (col t (lt24 t) a)) k)) ?_ (V_w m c _ _)
  blk_ext [iblk, idx t, wcol, col]
  · refine (win0_1.rect_emb_val_off t (ix2 a k) 0).trans ?_
    have e : win0_1.index t 0 = 1024 * (t.val / 8) := congrFun (idx t).2.1 0
    change win0_1.index t 0 + a.val = _
    omega
  · refine (win0_1.rect_emb_val_off t (ix2 a k) 1).trans ?_
    have e : win0_1.index t 1 = 0 := congrFun (idx t).2.1 1
    change win0_1.index t 1 + k.val = _
    omega

theorem iblk2 (t : Fin cfg0.N) (a : Fin 1) (b : Fin 1024) : iblk m c 2 t (ix2 a b) = gain (A2 m c) (A3 m c) (col t (lt24 t) b) := by
  refine Eq.trans (b := V m c main_v14 (ix2 a (col t (lt24 t) b))) ?_ (V_g m c _ _)
  blk_ext [iblk, idx t, col]

theorem iblk3 (t : Fin cfg0.N) (a : Fin 1) (b : Fin 1024) : iblk m c 3 t (ix2 a b) = flag (col t (lt24 t) b) := by
  refine Eq.trans (b := V m c main_v15 (ix2 a (col t (lt24 t) b))) ?_ (V_f m c _ _)
  blk_ext [iblk, idx t, col]

/-- The weight staged from its window, transposed four column blocks at a time. -/
theorem stage1 (X : Vec Ideal S1024x2048 .f32) (y : S2048x1024.Idx) (x0 : Fin 1024) (x1 : Fin 2048) (h0 : (y 1).val = x0.val) (h1 : (y 0).val = x1.val) :
    X (ix2 x0 x1) = X (ix2 (y 1 : Fin 1024) (y 0 : Fin 2048)) := by
  have e0 : (y 1 : Fin 1024) = x0 := Fin.ext h0
  have e1 : (y 0 : Fin 2048) = x1 := Fin.ext h1
  rw [e0, e1]

theorem keep_A0 (t : Fin cfg0.N) (ht : t.val % 8 = 0) (y : S2048x1024.Idx) :
    (outsAt0 m c t.val t.isLt).2 y = iblk m c 1 t (ix2 (y 1 : Fin 1024) (y 0 : Fin 2048)) := by
  rw [outsAt0_A m c t ht]
  frame_out
  generalize iblk m c 1 t = X
  canon_tiles x h
  all_goals idx_vars x; open_payloads; pointwise []
  all_goals exact stage1 X y _ _ (by omega) (by omega)

theorem keep_A (t : Fin cfg0.N) (ht : t.val % 8 = 0) : (outsAt0 m c t.val t.isLt).2 = WC (A1 m c) t (lt24 t) :=
  funext fun y => (keep_A0 m c t ht y).trans (iblk1 m c t (y 1) (y 0))

theorem keep_B (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  rfl

theorem WC_prev (W : FVec Ideal S2048x10656 .f32) (k : ℕ) (hk : k < 24) (h0 : ¬k % 8 = 0) : WC W (k - 1) (by omega) = WC W k hk := by
  funext y
  have e : col (k - 1) (by omega) (y 1) = col k hk (y 1) := Fin.ext (by change 1024 * ((k - 1) / 8) + _ = 1024 * (k / 8) + _; omega)
  exact congrArg (fun j => W (ix2 (y 0) (wcol j))) e

/-- The scratch of a grid point: the weight columns of its column tile. -/
theorem scratch (k : ℕ) : ∀ hk : k < cfg0.N, (outsAt0 m c k hk).2 = WC (A1 m c) k hk := by
  induction k using Nat.strong_induction_on with
  | _ k ih =>
    intro hk
    by_cases h0 : k % 8 = 0
    · exact keep_A m c ⟨k, hk⟩ h0
    · have hk' : k < 24 := hk
      refine (keep_B m c ⟨k, hk⟩ h0).trans ?_
      rw [ih (k - 1) (by omega) (Nat.lt_of_le_of_lt (Nat.sub_le _ _) hk)]
      exact WC_prev _ k hk' h0

theorem read (t : Fin cfg0.N) (y : S1024x1024.Idx) :
    (outsAt0 m c t.val t.isLt).1 y = blk (iblk m c 0 t) (WC (A1 m c) t (lt24 t)) (iblk m c 2 t) (iblk m c 3 t) (y 0) (y 1) := by
  by_cases h0 : t.val % 8 = 0
  · exact out_A m c t h0 _ (scratch m c t.val t.isLt) y
  · exact out_B m c t h0 _ ((keep_B m c t h0).symm.trans (scratch m c t.val t.isLt)) y

/-- An entry of the projection, of its first three groups of columns. -/
def proj (A : FVec Ideal S4x2048x2048 .f32) (W : FVec Ideal S2048x10656 .f32) (x : Fin 8192) (z : Fin 3072) : EReal :=
  ∑ k : Fin 2048, A (ix3 ⟨x / 2048, by omega⟩ ⟨x % 2048, by omega⟩ k) * W (ix2 k (wcol z))

/-- An entry of the result: a column of the queries or the keys over the root of its head's mean square, times its
    gain; a column of the values. -/
def out (A : FVec Ideal S4x2048x2048 .f32) (W : FVec Ideal S2048x10656 .f32) (Q K : FVec Ideal S128 .f32) (x : Fin 8192) (z : Fin 3072) : EReal :=
  if z.val < 2048 then
    proj A W x z * Ideal.rsqrt (Ideal.div (∑ d : Fin 128, proj A W x ⟨128 * (z.val / 128) + d, by omega⟩ * proj A W x ⟨128 * (z.val / 128) + d, by omega⟩)
      (Ideal.ofBits .f32 0x43000000#32) + Ideal.ofBits .f32 0x358637BD#32) * gain Q K z
  else proj A W x z

theorem ofBits_128 : Ideal.ofBits .f32 0x43000000#32 = ((128 : ℝ) : EReal) := by
  simp [Ideal.ofBits, Ideal.ieee]
  norm_num
  rw [← EReal.coe_mul]
  norm_num

theorem ofBits_inv_128 : Ideal.ofBits .f32 0x3C000000#32 = (((1 : ℝ) / 128 : ℝ) : EReal) := by
  simp [Ideal.ofBits, Ideal.ieee]
  norm_num
  rw [← EReal.coe_mul]
  norm_num

theorem mean_eq (s : EReal) : s * Ideal.ofBits .f32 0x3C000000#32 = Ideal.div s (Ideal.ofBits .f32 0x43000000#32) := by
  rw [ofBits_128, ofBits_inv_128, Ideal.div_coe (by norm_num), one_div]

theorem scaled_out (A : FVec Ideal S4x2048x2048 .f32) (W : FVec Ideal S2048x10656 .f32) (Q K : FVec Ideal S128 .f32) (x : Fin 8192) (z : Fin 3072) :
    scaled (proj A W x z) (fun d => proj A W x ⟨128 * (z.val / 128) + d, by omega⟩) (flag z) (gain Q K z) = out A W Q K x z := by
  rw [scaled, out, flag, mean_eq]
  by_cases h : z.val < 2048
  · rw [if_pos h, if_pos h, if_pos zero_lt_one]
  · rw [if_neg h, if_neg h, if_neg (lt_irrefl _), gain, if_neg (by omega), if_neg h, mul_one, mul_one]

/-- The result, a row for each token. -/
def OUT (A : FVec Ideal S4x2048x2048 .f32) (W : FVec Ideal S2048x10656 .f32) (Q K : FVec Ideal S128 .f32) : FVec Ideal S8192x3072 .bf16 :=
  fun y => out A W Q K (y 0) (y 1)

theorem prod_proj (t : Fin cfg0.N) (a b : Fin 1024) :
    prod (iblk m c 0 t) (WC (A1 m c) t (lt24 t)) a b = proj (A0 m c) (A1 m c) (row t (lt24 t) a) (col t (lt24 t) b) :=
  Finset.sum_congr rfl fun k _ => congrArg (· * _) (iblk0 m c t a k)

theorem written (t : Fin cfg0.N) (a0 a1 : Fin 1024) :
    (outsAt0 m c t.val t.isLt).1 (ix2 a0 a1) = OUT (A0 m c) (A1 m c) (A2 m c) (A3 m c) (ix2 (row t (lt24 t) a0) (col t (lt24 t) a1)) := by
  refine (read m c t (ix2 a0 a1)).trans (Eq.trans ?_ (scaled_out (A0 m c) (A1 m c) (A2 m c) (A3 m c) (row t (lt24 t) a0) (col t (lt24 t) a1)))
  refine scaled_congr (prod_proj m c t a0 a1) (fun d => (prod_proj m c t a0 _).trans ?_) (iblk3 m c t 0 a1) (iblk2 m c t 0 a1)
  refine congrArg (proj (A0 m c) (A1 m c) (row t (lt24 t) a0)) (Fin.ext ?_)
  change 1024 * (t.val / 8) + (128 * (a1.val / 128) + d.val) = 128 * ((1024 * (t.val / 8) + a1.val) / 128) + d.val
  omega

theorem final : (dats m 0 c).arrAt 4 cfg0.N = OUT (A0 m c) (A1 m c) (A2 m c) (A3 m c) := by
  refine (dats m 0 c).arrAt_eq_of_covers 4 (OUT (A0 m c) (A1 m c) (A2 m c) (A3 m c)) (by decide +kernel) fun t hf y => ?_
  blk_simp
  rw [after0_4]
  idx_vars y
  refine (written m c t y0 y1).trans ?_
  blk_ext [idx t, row, col]

end Cert.Kernel6Ideal.Heads

namespace Cert.Reference6Ideal.Refer
open Cert.Reference6Ideal Cert.Reference6Ideal.Gen

/-- The projection, and its columns by head. -/
def PR (A : FVec Ideal S4x2048x2048 .f32) (W : FVec Ideal S2048x10656 .f32) : FVec Ideal S4x2048x10656 .f32 :=
  Host.dotGeneral dot_S4x2048x2048_S2048x10656_S4x2048x10656_2_0_01_1_n_n none A W

def HQ (P : FVec Ideal S4x2048x10656 .f32) : FVec Ideal S4x2048x8x128 .f32 :=
  shapeCast S4x2048x8x128 (extractStridedSlice S4x2048x1024 ![0, 0, 0] P slices_S4x2048x10656_S4x2048x1024_0_0_0) shapeCasts_S4x2048x1024_S4x2048x8x128

def HK (P : FVec Ideal S4x2048x10656 .f32) : FVec Ideal S4x2048x8x128 .f32 :=
  shapeCast S4x2048x8x128 (extractStridedSlice S4x2048x1024 ![0, 0, 1024] P slices_S4x2048x10656_S4x2048x1024_0_0_1024) shapeCasts_S4x2048x1024_S4x2048x8x128

def HV (P : FVec Ideal S4x2048x10656 .f32) : FVec Ideal S8192x1024 .f32 :=
  shapeCast S8192x1024 (extractStridedSlice S4x2048x1024 ![0, 0, 2048] P slices_S4x2048x10656_S4x2048x1024_0_0_2048) shapeCasts_S4x2048x1024_S8192x1024

def NORM (H : FVec Ideal S4x2048x8x128 .f32) (G : FVec Ideal S128 .f32) : FVec Ideal S8192x1024 .f32 :=
  shapeCast S8192x1024 (mulf (mulf H (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf H H) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32)))))) (broadcastInDim S4x2048x8x128 ![0, 1, 2, 3] bcast_S1x1x1x128_S4x2048x8x128_0_1_2_3 (broadcastInDim S1x1x1x128 ![3] bcast_S128_S1x1x1x128_3 G))) shapeCasts_S4x2048x8x128_S8192x1024

theorem pr_at (A : FVec Ideal S4x2048x2048 .f32) (W : FVec Ideal S2048x10656 .f32) (b : Fin 4) (s : Fin 2048) (z : Fin 10656) :
    PR A W (ix3 b s z) = ∑ k : Fin 2048, A (ix3 b s k) * W (ix2 k z) := by
  pointwise [PR]

theorem hq_at (P : FVec Ideal S4x2048x10656 .f32) (b : Fin 4) (s : Fin 2048) (h : Fin 8) (d : Fin 128) :
    HQ P (ix4 b s h d) = P (ix3 b s ⟨h * 128 + d, by omega⟩) := by
  pointwise [HQ]

theorem hk_at (P : FVec Ideal S4x2048x10656 .f32) (b : Fin 4) (s : Fin 2048) (h : Fin 8) (d : Fin 128) :
    HK P (ix4 b s h d) = P (ix3 b s ⟨1024 + (h * 128 + d), by omega⟩) := by
  pointwise [HK]

theorem hv_at (P : FVec Ideal S4x2048x10656 .f32) (x : Fin 8192) (z : Fin 1024) :
    HV P (ix2 x z) = P (ix3 ⟨x / 2048, by omega⟩ ⟨x % 2048, by omega⟩ ⟨2048 + z, by omega⟩) := by
  pointwise [HV]

/-- A normed entry of a head. -/
def normed (p : Fin 128 → EReal) (G : FVec Ideal S128 .f32) (l : Fin 128) : EReal :=
  p l * Ideal.rsqrt (Ideal.div (∑ d, p d * p d) (Ideal.ofBits .f32 0x43000000#32) + Ideal.ofBits .f32 0x358637BD#32) * G (ix1 l)

theorem norm_at (H : FVec Ideal S4x2048x8x128 .f32) (G : FVec Ideal S128 .f32) (b : Fin 4) (s : Fin 2048) (h : Fin 8) (l : Fin 128) :
    NORM H G (ix2 ⟨2048 * b + s, by omega⟩ ⟨128 * h + l, by omega⟩) = normed (fun d => H (ix4 b s h d)) G l := by
  rw [normed]
  pointwise [NORM]

theorem norm (H : FVec Ideal S4x2048x8x128 .f32) (G : FVec Ideal S128 .f32) (x : Fin 8192) (z : Fin 1024) :
    NORM H G (ix2 x z) = normed (fun d => H (ix4 ⟨x / 2048, by omega⟩ ⟨x % 2048, by omega⟩ ⟨z / 128, by omega⟩ d)) G ⟨z % 128, by omega⟩ := by
  refine Eq.trans (congrArg (NORM H G) (congrArg₂ ix2 (Fin.ext ?_) (Fin.ext ?_)))
    (norm_at H G ⟨x / 2048, by omega⟩ ⟨x % 2048, by omega⟩ ⟨z / 128, by omega⟩ ⟨z % 128, by omega⟩)
  · dsimp only; omega
  · dsimp only; omega

/-- The three groups of columns side by side. -/
def JOIN (P Q R : FVec Ideal S8192x1024 .f32) : FVec Ideal S8192x3072 .bf16 :=
  truncf .bf16 (concatenate S8192x3072 1 [⟨S8192x1024, P⟩, ⟨S8192x1024, Q⟩, ⟨S8192x1024, R⟩] concatenates_S8192x1024_S8192x1024_S8192x1024_S8192x3072_d1) bitsLt_bf16_f32

theorem join0 (P Q R : FVec Ideal S8192x1024 .f32) (x : Fin 8192) (z : Fin 3072) (h : z.val < 1024) : JOIN P Q R (ix2 x z) = P (ix2 x ⟨z, h⟩) := by
  pointwise [JOIN]
  rw [dif_pos h]

theorem join1 (P Q R : FVec Ideal S8192x1024 .f32) (x : Fin 8192) (z : Fin 3072) (h : ¬z.val < 1024) (h' : z.val < 2048) :
    JOIN P Q R (ix2 x z) = Q (ix2 x ⟨z - 1024, by omega⟩) := by
  pointwise [JOIN]
  rw [dif_neg h, dif_pos (by omega)]

theorem join2 (P Q R : FVec Ideal S8192x1024 .f32) (x : Fin 8192) (z : Fin 3072) (h : ¬z.val < 2048) :
    JOIN P Q R (ix2 x z) = R (ix2 x ⟨z - 2048, by omega⟩) := by
  pointwise [JOIN]
  rw [dif_neg (by omega), dif_neg (by omega)]
  exact congrArg (fun a => R (ix2 x a)) (Fin.ext (by dsimp only; omega))

open Cert.Kernel6Ideal.Heads in
theorem pr (A : FVec Ideal S4x2048x2048 .f32) (W : FVec Ideal S2048x10656 .f32) (x : Fin 8192) (z : Fin 3072) (z' : Fin 10656) (h : z'.val = z.val) :
    PR A W (ix3 ⟨x / 2048, by omega⟩ ⟨x % 2048, by omega⟩ z') = proj A W x z := by
  have e : z' = wcol z := Fin.ext h
  rw [e]
  exact pr_at A W _ _ _

open Cert.Kernel6Ideal.Heads in
theorem normed_out (A : FVec Ideal S4x2048x2048 .f32) (W : FVec Ideal S2048x10656 .f32) (Q K G : FVec Ideal S128 .f32) (x : Fin 8192) (z : Fin 3072)
    (hz : z.val < 2048) (p : Fin 128 → EReal) (hp : ∀ d, p d = proj A W x ⟨128 * (z.val / 128) + d.val, by omega⟩) (l : Fin 128) (hl : l.val = z.val % 128)
    (hg : G (ix1 l) = gain Q K z) : normed p G l = out A W Q K x z := by
  have el : (⟨128 * (z.val / 128) + l.val, by omega⟩ : Fin 3072) = z := Fin.ext (by dsimp only; omega)
  rw [normed, out, if_pos hz, hg, hp l, el]
  simp only [hp]

theorem ref (A : FVec Ideal S4x2048x2048 .f32) (W : FVec Ideal S2048x10656 .f32) (Q K : FVec Ideal S128 .f32) :
    JOIN (NORM (HQ (PR A W)) Q) (NORM (HK (PR A W)) K) (HV (PR A W)) = Cert.Kernel6Ideal.Heads.OUT A W Q K := by
  funext y
  idx_vars y
  change _ = Cert.Kernel6Ideal.Heads.out A W Q K y0 y1
  by_cases h : y1.val < 1024
  · refine (join0 _ _ _ y0 y1 h).trans ((norm _ _ y0 ⟨y1, h⟩).trans (normed_out A W Q K Q y0 y1 (by omega) _ (fun d => ?_) _ rfl ?_))
    · refine (hq_at _ _ _ _ d).trans (pr A W y0 _ _ ?_)
      dsimp only
      omega
    · rw [Cert.Kernel6Ideal.Heads.gain, if_pos h]
  · by_cases h' : y1.val < 2048
    · refine (join1 _ _ _ y0 y1 h h').trans ((norm _ _ y0 ⟨y1 - 1024, by omega⟩).trans (normed_out A W Q K K y0 y1 h' _ (fun d => ?_) _ ?_ ?_))
      · refine (hk_at _ _ _ _ d).trans (pr A W y0 _ _ ?_)
        dsimp only
        omega
      · dsimp only
        omega
      · rw [Cert.Kernel6Ideal.Heads.gain, if_neg h, if_pos h']
        exact congrArg (fun a => K (ix1 a)) (Fin.ext (by dsimp only; omega))
    · rw [Cert.Kernel6Ideal.Heads.out, if_neg h']
      refine (join2 _ _ _ y0 y1 h').trans ((hv_at _ y0 _).trans (pr A W y0 y1 _ ?_))
      dsimp only
      omega

end Cert.Reference6Ideal.Refer
end
-- ==== Proof.Norm.lean ====
/- The output projection with its residual and the norm that follows: what each grid point writes, and
   the two result arrays against the reference's. -/
module
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.Kernel5Ideal.Norm
open Cert.Kernel5Ideal Cert.Kernel5Ideal.Gen
variable (m : (ℓ : Loc nD τ sig) → Buf (Elt Ideal) ℓ) (c : Dev nD)

abbrev A0 : FVec Ideal S4x2048x2048 .f32 := m ((c : Thread nD τ).loc main_arg0)
abbrev A1 : FVec Ideal S2048x2048 .f32 := m ((c : Thread nD τ).loc main_arg1)
abbrev A2 : FVec Ideal S4x2048x2048 .f32 := m ((c : Thread nD τ).loc main_arg2)
abbrev A3 : FVec Ideal S2048 .f32 := m ((c : Thread nD τ).loc main_arg3)

/-- An entry of the first result: the residual plus the product. -/
def res (A : FVec Ideal S4x2048x2048 .f32) (W : FVec Ideal S2048x2048 .f32) (X : FVec Ideal S4x2048x2048 .f32) (x : Fin 8192) (z : Fin 2048) : EReal :=
  X (ix3 ⟨x / 2048, by omega⟩ ⟨x % 2048, by omega⟩ z) + ∑ k : Fin 2048, A (ix3 ⟨x / 2048, by omega⟩ ⟨x % 2048, by omega⟩ k) * W (ix2 k z)

/-- An entry of a row over the root of its mean square, times the gain. -/
def rms (h : Fin 2048 → EReal) (g : EReal) (z : Fin 2048) : EReal :=
  h z * Ideal.rsqrt (Ideal.div (∑ k, h k * h k) (Ideal.ofBits .f32 0x45000000#32) + Ideal.ofBits .f32 0x358637BD#32) * g

/-- The results, a row for each token. -/
def RES (A : FVec Ideal S4x2048x2048 .f32) (W : FVec Ideal S2048x2048 .f32) (X : FVec Ideal S4x2048x2048 .f32) : FVec Ideal S8192x2048 .f32 :=
  fun y => res A W X (y 0) (y 1)
def RMS (A : FVec Ideal S4x2048x2048 .f32) (W : FVec Ideal S2048x2048 .f32) (X : FVec Ideal S4x2048x2048 .f32) (G : FVec Ideal S2048 .f32) :
    FVec Ideal S8192x2048 .bf16 :=
  fun y => rms (res A W X (y 0)) (G (ix1 (y 1))) (y 1)

theorem V_a (x : Fin 8192) (k : Fin 2048) : V m c main_v1 (ix2 x k) = A0 m c (ix3 ⟨x / 2048, by omega⟩ ⟨x % 2048, by omega⟩ k) := by
  have e : V m c main_v1 = truncf .bf16 (shapeCast S8192x2048 (A0 m c) shapeCasts_S4x2048x2048_S8192x2048) bitsLt_bf16_f32 := by
    unfold_abbrev_sides
    after_reads_simp
    rfl
  rw [e]
  pointwise []

theorem V_x (x : Fin 8192) (k : Fin 2048) : V m c main_v2 (ix2 x k) = A2 m c (ix3 ⟨x / 2048, by omega⟩ ⟨x % 2048, by omega⟩ k) := by
  have e : V m c main_v2 = shapeCast S8192x2048 (A2 m c) shapeCasts_S4x2048x2048_S8192x2048 := by
    unfold_abbrev_sides
    after_reads_simp
    rfl
  rw [e]
  pointwise []

theorem V_g (x : Fin 1) (k : Fin 2048) : V m c main_v3 (ix2 x k) = A3 m c (ix1 k) := by
  have e : V m c main_v3 = shapeCast S1x2048 (A3 m c) shapeCasts_S2048_S1x2048 := by
    unfold_abbrev_sides
    after_reads_simp
    rfl
  rw [e]
  pointwise []

theorem idx : ∀ t : Fin cfg0.N,
    win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

theorem lt16 (t : Fin cfg0.N) : t.val < 16 := t.isLt

/-- The row of the results a grid point's row is. -/
def row (t : ℕ) (h : t < 16) (a : Fin 512) : Fin 8192 := ⟨512 * t + a, by omega⟩

theorem iblk0 (t : Fin cfg0.N) (a : Fin 512) (k : Fin 2048) : iblk m c 0 t (ix2 a k)
    = A0 m c (ix3 ⟨(row t (lt16 t) a).val / 2048, by omega⟩ ⟨(row t (lt16 t) a).val % 2048, by omega⟩ k) := by
  refine Eq.trans (b := V m c main_v1 (ix2 (row t (lt16 t) a) k)) ?_ (V_a m c _ _)
  blk_ext [iblk, idx t, row]

theorem iblk1 (t : Fin cfg0.N) (y : S2048x2048.Idx) : iblk m c 1 t y = A1 m c y := by
  refine Eq.trans (b := V m c main_arg1 y) ?_ ?_
  · blk_ext [iblk, idx t]
  · rw [V_main_arg1]

theorem iblk2 (t : Fin cfg0.N) (a : Fin 512) (k : Fin 2048) : iblk m c 2 t (ix2 a k)
    = A2 m c (ix3 ⟨(row t (lt16 t) a).val / 2048, by omega⟩ ⟨(row t (lt16 t) a).val % 2048, by omega⟩ k) := by
  refine Eq.trans (b := V m c main_v2 (ix2 (row t (lt16 t) a) k)) ?_ (V_x m c _ _)
  blk_ext [iblk, idx t, row]

theorem iblk3 (t : Fin cfg0.N) (a : Fin 1) (k : Fin 2048) : iblk m c 3 t (ix2 a k) = A3 m c (ix1 k) := by
  refine Eq.trans (b := V m c main_v3 (ix2 a k)) ?_ (V_g m c _ _)
  blk_ext [iblk, idx t]

theorem pay1_at (w : Vec Ideal S2048x2048 .f32) (y : S2048x2048.Idx) : k0_pay1 w y = w y := by
  idx_vars y
  open_payloads
  pointwise []

theorem pay2_at (r : Vec Ideal S512x2048 .f32) (a : Vec Ideal S512x2048 .bf16) (w : Vec Ideal S2048x2048 .bf16) (a0 : Fin 512) (a1 : Fin 2048) :
    k0_pay2 r a w (ix2 a0 a1) = r (ix2 a0 a1) + ∑ k : Fin 2048, a (ix2 a0 k) * w (ix2 k a1) := by
  open_payloads
  pointwise []

theorem pay3_at (r : Vec Ideal S512x2048 .f32) (a : Vec Ideal S512x2048 .bf16) (w : Vec Ideal S2048x2048 .bf16) (g : Vec Ideal S1x2048 .f32) (a0 : Fin 512) (a1 : Fin 2048) :
    k0_pay3 r a w g (ix2 a0 a1) = rms (fun z => k0_pay2 r a w (ix2 a0 z)) (g (ix2 0 a1)) a1 := by
  unfold k0_pay3
  generalize k0_pay2 r a w = h
  rw [rms]
  pointwise []

theorem keep_A (t : Fin cfg0.N) (ht : t.val % 16 = 0) : (outsAt0 m c t.val t.isLt).2.2 = A1 m c := by
  funext y
  rw [outsAt0_A m c t ht]
  frame_out
  exact (pay1_at _ _).trans (iblk1 m c t y)

theorem out_A (t : Fin cfg0.N) (ht : t.val % 16 = 0) (W : Vec Ideal S2048x2048 .bf16)
    (hW : (outsAt0 m c t.val t.isLt).2.2 = W) :
    (outsAt0 m c t.val t.isLt).1 = k0_pay2 (iblk m c 2 t) (iblk m c 0 t) W
    ∧ (outsAt0 m c t.val t.isLt).2.1 = k0_pay3 (iblk m c 2 t) (iblk m c 0 t) W (iblk m c 3 t) := by
  rw [outsAt0_A m c t ht] at hW ⊢
  frame_out at hW ⊢
  simp only [View.readCov_eq_canon', hW, and_self]

theorem out_B (t : Fin cfg0.N) (ht : ¬t.val % 16 = 0) (W : Vec Ideal S2048x2048 .bf16)
    (hW : (outsAt0 m c (t.val - 1) (Nat.lt_of_le_of_lt (Nat.sub_le _ _) t.isLt)).2.2 = W) :
    (outsAt0 m c t.val t.isLt).1 = k0_pay2 (iblk m c 2 t) (iblk m c 0 t) W
    ∧ (outsAt0 m c t.val t.isLt).2.1 = k0_pay3 (iblk m c 2 t) (iblk m c 0 t) W (iblk m c 3 t) := by
  rw [outsAt0_B m c t ht]
  frame_out
  simp only [hW, read_unread_whole, and_self]

theorem keep_B (t : Fin cfg0.N) (ht : ¬t.val % 16 = 0) :
    (outsAt0 m c t.val t.isLt).2.2 = (outsAt0 m c (t.val - 1) (Nat.lt_of_le_of_lt (Nat.sub_le _ _) t.isLt)).2.2 := by
  rw [outsAt0_B m c t ht]
  rfl

/-- The scratch of a grid point: the weight. -/
theorem scratch (k : ℕ) : ∀ hk : k < cfg0.N, (outsAt0 m c k hk).2.2 = A1 m c := by
  induction k using Nat.strong_induction_on with
  | _ k ih =>
    intro hk
    by_cases h0 : k % 16 = 0
    · exact keep_A m c ⟨k, hk⟩ h0
    · exact (keep_B m c ⟨k, hk⟩ h0).trans (ih (k - 1) (by omega) (Nat.lt_of_le_of_lt (Nat.sub_le _ _) hk))

theorem read (t : Fin cfg0.N) :
    (outsAt0 m c t.val t.isLt).1 = k0_pay2 (iblk m c 2 t) (iblk m c 0 t) (A1 m c)
    ∧ (outsAt0 m c t.val t.isLt).2.1 = k0_pay3 (iblk m c 2 t) (iblk m c 0 t) (A1 m c) (iblk m c 3 t) := by
  by_cases h0 : t.val % 16 = 0
  · exact out_A m c t h0 _ (scratch m c t.val t.isLt)
  · exact out_B m c t h0 _ (scratch m c _ _)

theorem pay2_res (t : Fin cfg0.N) (a0 : Fin 512) (a1 : Fin 2048) :
    k0_pay2 (iblk m c 2 t) (iblk m c 0 t) (A1 m c) (ix2 a0 a1) = res (A0 m c) (A1 m c) (A2 m c) (row t (lt16 t) a0) a1 := by
  refine (pay2_at _ _ _ _ _).trans ?_
  exact congrArg₂ (· + ·) (iblk2 m c t a0 a1) (Finset.sum_congr rfl fun k _ => congrArg (· * _) (iblk0 m c t a0 k))

theorem written0 (t : Fin cfg0.N) (a0 : Fin 512) (a1 : Fin 2048) :
    (outsAt0 m c t.val t.isLt).1 (ix2 a0 a1) = RES (A0 m c) (A1 m c) (A2 m c) (ix2 (row t (lt16 t) a0) a1) :=
  (congrFun (read m c t).1 (ix2 a0 a1)).trans (pay2_res m c t a0 a1)

theorem rms_congr {h h' : Fin 2048 → EReal} {g g' : EReal} (e : h = h') (e' : g = g') (z : Fin 2048) : rms h g z = rms h' g' z := by rw [e, e']

theorem written1 (t : Fin cfg0.N) (a0 : Fin 512) (a1 : Fin 2048) :
    (outsAt0 m c t.val t.isLt).2.1 (ix2 a0 a1) = RMS (A0 m c) (A1 m c) (A2 m c) (A3 m c) (ix2 (row t (lt16 t) a0) a1) := by
  refine (congrFun (read m c t).2 (ix2 a0 a1)).trans ((pay3_at _ _ _ _ _ _).trans ?_)
  exact rms_congr (funext fun z => pay2_res m c t a0 z) (iblk3 m c t 0 a1) a1

theorem final0 : (dats m 0 c).arrAt 4 cfg0.N = RES (A0 m c) (A1 m c) (A2 m c) := by
  refine (dats m 0 c).arrAt_eq_of_covers 4 (RES (A0 m c) (A1 m c) (A2 m c)) (by decide +kernel) fun t hf y => ?_
  blk_simp
  rw [after0_4]
  idx_vars y
  refine (written0 m c t y0 y1).trans ?_
  blk_ext [idx t, row]

theorem final1 : (dats m 0 c).arrAt 5 cfg0.N = RMS (A0 m c) (A1 m c) (A2 m c) (A3 m c) := by
  refine (dats m 0 c).arrAt_eq_of_covers 5 (RMS (A0 m c) (A1 m c) (A2 m c) (A3 m c)) (by decide +kernel) fun t hf y => ?_
  blk_simp
  rw [after0_5]
  idx_vars y
  refine (written1 m c t y0 y1).trans ?_
  blk_ext [idx t, row]

end Cert.Kernel5Ideal.Norm

namespace Cert.Reference5Ideal.Refer
open Cert.Reference5Ideal Cert.Reference5Ideal.Gen

/-- The sum of the residual and the product. -/
def H (A : FVec Ideal S4x2048x2048 .f32) (W : FVec Ideal S2048x2048 .f32) (X : FVec Ideal S4x2048x2048 .f32) : FVec Ideal S4x2048x2048 .f32 :=
  addf X (Host.dotGeneral dot_S4x2048x2048_S2048x2048_S4x2048x2048_2_0_01_1_n_n none A W)

theorem H_at (A : FVec Ideal S4x2048x2048 .f32) (W : FVec Ideal S2048x2048 .f32) (X : FVec Ideal S4x2048x2048 .f32) (b : Fin 4) (s z : Fin 2048) :
    H A W X (ix3 b s z) = X (ix3 b s z) + ∑ k : Fin 2048, A (ix3 b s k) * W (ix2 k z) := by
  pointwise [H]

theorem ref0 (A : FVec Ideal S4x2048x2048 .f32) (W : FVec Ideal S2048x2048 .f32) (X : FVec Ideal S4x2048x2048 .f32) :
    (shapeCast S8192x2048 (H A W X) shapeCasts_S4x2048x2048_S8192x2048 : FVec Ideal S8192x2048 .f32) = Cert.Kernel5Ideal.Norm.RES A W X := by
  funext y
  idx_vars y
  refine Eq.trans ?_ (H_at A W X ⟨y0 / 2048, by omega⟩ ⟨y0 % 2048, by omega⟩ y1)
  generalize H A W X = h
  pointwise []

theorem ref1 (A : FVec Ideal S4x2048x2048 .f32) (W : FVec Ideal S2048x2048 .f32) (X : FVec Ideal S4x2048x2048 .f32) (G : FVec Ideal S2048 .f32) :
    (truncf .bf16 (shapeCast S8192x2048 (mulf (mulf (H A W X) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (H A W X) (H A W X)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 G))) shapeCasts_S4x2048x2048_S8192x2048) bitsLt_bf16_f32 : FVec Ideal S8192x2048 .bf16)
      = Cert.Kernel5Ideal.Norm.RMS A W X G := by
  funext y
  idx_vars y
  refine Eq.trans (b := Cert.Kernel5Ideal.Norm.rms (fun z => H A W X (ix3 ⟨y0 / 2048, by omega⟩ ⟨y0 % 2048, by omega⟩ z)) (G (ix1 y1)) y1) ?_
    (Cert.Kernel5Ideal.Norm.rms_congr (funext fun z => H_at A W X _ _ z) rfl y1)
  generalize H A W X = h
  rw [Cert.Kernel5Ideal.Norm.rms]
  pointwise []

end Cert.Reference5Ideal.Refer
end
-- ==== Proof.Down.lean ====
/- The feed-forward block's last product with the residual: what each grid point writes, and the result
   array against the reference's. -/
module
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.Kernel4Ideal.Down
open Cert.Kernel4Ideal Cert.Kernel4Ideal.Gen
variable (m : (ℓ : Loc nD τ sig) → Buf (Elt Ideal) ℓ) (c : Dev nD)

abbrev A0 : FVec Ideal S4x2048x5632 .f32 := m ((c : Thread nD τ).loc main_arg0)
abbrev A1 : FVec Ideal S5632x2048 .f32 := m ((c : Thread nD τ).loc main_arg1)
abbrev A2 : FVec Ideal S4x2048x2048 .f32 := m ((c : Thread nD τ).loc main_arg2)

/-- An entry of the result: the residual plus the product. -/
def out (A : FVec Ideal S4x2048x5632 .f32) (W : FVec Ideal S5632x2048 .f32) (X : FVec Ideal S4x2048x2048 .f32) (x : Fin 8192) (z : Fin 2048) : EReal :=
  X (ix3 ⟨x / 2048, by omega⟩ ⟨x % 2048, by omega⟩ z) + ∑ k : Fin 5632, A (ix3 ⟨x / 2048, by omega⟩ ⟨x % 2048, by omega⟩ k) * W (ix2 k z)

/-- The result, a row for each token. -/
def OUT (A : FVec Ideal S4x2048x5632 .f32) (W : FVec Ideal S5632x2048 .f32) (X : FVec Ideal S4x2048x2048 .f32) : FVec Ideal S8192x2048 .f32 :=
  fun y => out A W X (y 0) (y 1)

theorem V_a (x : Fin 8192) (k : Fin 5632) : V m c main_v1 (ix2 x k) = A0 m c (ix3 ⟨x / 2048, by omega⟩ ⟨x % 2048, by omega⟩ k) := by
  have e : V m c main_v1 = truncf .bf16 (shapeCast S8192x5632 (A0 m c) shapeCasts_S4x2048x5632_S8192x5632) bitsLt_bf16_f32 := by
    unfold_abbrev_sides
    after_reads_simp
    rfl
  rw [e]
  pointwise []

theorem V_x (x : Fin 8192) (k : Fin 2048) : V m c main_v2 (ix2 x k) = A2 m c (ix3 ⟨x / 2048, by omega⟩ ⟨x % 2048, by omega⟩ k) := by
  have e : V m c main_v2 = shapeCast S8192x2048 (A2 m c) shapeCasts_S4x2048x2048_S8192x2048 := by
    unfold_abbrev_sides
    after_reads_simp
    rfl
  rw [e]
  pointwise []

theorem idx : ∀ t : Fin cfg0.N,
    win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

theorem lt64 (t : Fin cfg0.N) : t.val < 64 := t.isLt

/-- The staged weight of a grid point, from the array. -/
def wcol (t : ℕ) (h : t < 64) (b : Fin 512) : Fin 2048 := ⟨512 * (t / 16) + b, by omega⟩
def WB (t : ℕ) (h : t < 64) : Vec Ideal S5632x512 .bf16 := fun y => A1 m c (ix2 (y 0) (wcol t h (y 1)))

theorem iblk0 (t : Fin cfg0.N) (a : Fin 512) (k : Fin 5632) : iblk m c 0 t (ix2 a k)
    = A0 m c (ix3 ⟨(512 * (t.val % 16) + a) / 2048, by omega⟩ ⟨(512 * (t.val % 16) + a) % 2048, by omega⟩ k) := by
  refine Eq.trans (b := V m c main_v1 (ix2 ⟨512 * (t.val % 16) + a, by omega⟩ k)) ?_ (V_a m c _ _)
  blk_ext [iblk, idx t]

theorem iblk1 (t : Fin cfg0.N) (y : S5632x512.Idx) : iblk m c 1 t y = WB m c t (lt64 t) y := by
  have ht := lt64 t
  have h1 : (y 1 : Fin 512).val < 512 := (y 1 : Fin 512).isLt
  refine Eq.trans (b := V m c main_arg1 (ix2 (y 0 : Fin 5632) ⟨512 * (t.val / 16) + (y 1 : Fin 512).val, by omega⟩)) ?_ ?_
  · blk_ext [iblk, idx t]
  · rw [V_main_arg1]; rfl

theorem iblk2 (t : Fin cfg0.N) (a b : Fin 512) : iblk m c 2 t (ix2 a b)
    = A2 m c (ix3 ⟨(512 * (t.val % 16) + a) / 2048, by omega⟩ ⟨(512 * (t.val % 16) + a) % 2048, by omega⟩ ⟨512 * (t.val / 16) + b, by have := lt64 t; omega⟩) := by
  have ht := lt64 t
  refine Eq.trans (b := V m c main_v2 (ix2 ⟨512 * (t.val % 16) + a, by omega⟩ ⟨512 * (t.val / 16) + b, by omega⟩)) ?_ (V_x m c _ _)
  blk_ext [iblk, idx t]

theorem pay1_at (w : Vec Ideal S5632x512 .f32) (y : S5632x512.Idx) : k0_pay1 w y = w y := by
  idx_vars y
  open_payloads
  pointwise []

theorem pay2_at (r : Vec Ideal S512x512 .f32) (a : Vec Ideal S512x5632 .bf16) (w : Vec Ideal S5632x512 .bf16) (a0 a1 : Fin 512) :
    k0_pay2 r a w (ix2 a0 a1) = r (ix2 a0 a1) + ∑ k : Fin 5632, a (ix2 a0 k) * w (ix2 k a1) := by
  open_payloads
  pointwise []

theorem keep_A (t : Fin cfg0.N) (ht : t.val % 16 = 0) (y : S5632x512.Idx) : (outsAt0 m c t.val t.isLt).2 y = iblk m c 1 t y := by
  rw [outsAt0_A m c t ht]
  frame_out
  exact pay1_at _ _

theorem out_A (t : Fin cfg0.N) (ht : t.val % 16 = 0) (W : Vec Ideal S5632x512 .bf16)
    (hW : (outsAt0 m c t.val t.isLt).2 = W) :
    (outsAt0 m c t.val t.isLt).1 = k0_pay2 (iblk m c 2 t) (iblk m c 0 t) W := by
  rw [outsAt0_A m c t ht] at hW ⊢
  frame_out at hW ⊢
  simp only [View.readCov_eq_canon', hW]

theorem out_B (t : Fin cfg0.N) (ht : ¬t.val % 16 = 0) (W : Vec Ideal S5632x512 .bf16)
    (hW : (outsAt0 m c (t.val - 1) (Nat.lt_of_le_of_lt (Nat.sub_le _ _) t.isLt)).2 = W) :
    (outsAt0 m c t.val t.isLt).1 = k0_pay2 (iblk m c 2 t) (iblk m c 0 t) W := by
  rw [outsAt0_B m c t ht]
  frame_out
  simp only [hW, read_unread_whole]

theorem keep_B (t : Fin cfg0.N) (ht : ¬t.val % 16 = 0) :
    (outsAt0 m c t.val t.isLt).2 = (outsAt0 m c (t.val - 1) (Nat.lt_of_le_of_lt (Nat.sub_le _ _) t.isLt)).2 := by
  rw [outsAt0_B m c t ht]
  rfl

/-- The scratch of a grid point: the weight columns of its column tile. -/
theorem scratch (k : ℕ) : ∀ hk : k < cfg0.N, (outsAt0 m c k hk).2 = WB m c k hk := by
  induction k using Nat.strong_induction_on with
  | _ k ih =>
    intro hk
    by_cases h0 : k % 16 = 0
    · funext y
      exact (keep_A m c ⟨k, hk⟩ h0 y).trans (iblk1 m c ⟨k, hk⟩ y)
    · have hk' : k < 64 := hk
      refine (keep_B m c ⟨k, hk⟩ h0).trans ?_
      rw [ih (k - 1) (by omega) (Nat.lt_of_le_of_lt (Nat.sub_le _ _) hk)]
      funext y
      have e : wcol (k - 1) (by omega) (y 1) = wcol k hk' (y 1) := Fin.ext (by change 512 * ((k - 1) / 16) + _ = 512 * (k / 16) + _; omega)
      exact congrArg (fun j => A1 m c (ix2 (y 0) j)) e

theorem written (t : Fin cfg0.N) (a0 a1 : Fin 512) :
    (outsAt0 m c t.val t.isLt).1 (ix2 a0 a1) = OUT (A0 m c) (A1 m c) (A2 m c)
      (ix2 ⟨512 * (t.val % 16) + a0, by omega⟩ ⟨512 * (t.val / 16) + a1, by have := lt64 t; omega⟩) := by
  have hs := scratch m c t.val t.isLt
  have e : (outsAt0 m c t.val t.isLt).1 = k0_pay2 (iblk m c 2 t) (iblk m c 0 t) (WB m c t (lt64 t)) := by
    by_cases h0 : t.val % 16 = 0
    · exact out_A m c t h0 _ hs
    · exact out_B m c t h0 _ ((keep_B m c t h0).symm.trans hs)
  rw [e]
  refine (pay2_at _ _ _ _ _).trans ?_
  exact congrArg₂ (· + ·) (iblk2 m c t a0 a1) (Finset.sum_congr rfl fun k _ => congrArg (· * _) (iblk0 m c t a0 k))

theorem final : (dats m 0 c).arrAt 3 cfg0.N = OUT (A0 m c) (A1 m c) (A2 m c) := by
  refine (dats m 0 c).arrAt_eq_of_covers 3 (OUT (A0 m c) (A1 m c) (A2 m c)) (by decide +kernel) fun t hf y => ?_
  blk_simp
  rw [after0_3]
  idx_vars y
  refine (written m c t y0 y1).trans ?_
  blk_ext [idx t]

end Cert.Kernel4Ideal.Down

namespace Cert.Reference4Ideal.Refer
open Cert.Reference4Ideal Cert.Reference4Ideal.Gen

theorem ref (A : FVec Ideal S4x2048x5632 .f32) (W : FVec Ideal S5632x2048 .f32) (X : FVec Ideal S4x2048x2048 .f32) :
    shapeCast S8192x2048 (addf X (Host.dotGeneral dot_S4x2048x5632_S5632x2048_S4x2048x2048_2_0_01_1_n_n none A W))
      shapeCasts_S4x2048x2048_S8192x2048 = Cert.Kernel4Ideal.Down.OUT A W X := by
  funext y
  idx_vars y
  refine Eq.trans ?_ (show Cert.Kernel4Ideal.Down.out A W X y0 y1 = Cert.Kernel4Ideal.Down.OUT A W X (ix2 y0 y1) from rfl)
  rw [Cert.Kernel4Ideal.Down.out]
  pointwise []

end Cert.Reference4Ideal.Refer
end
-- ==== Proof.Gate.lean ====
/- The feed-forward block's gated unit: what each grid point writes, and the result array against the
   reference's. -/
module
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.Kernel3Ideal.Gate
open Cert.Kernel3Ideal Cert.Kernel3Ideal.Gen
variable (m : (ℓ : Loc nD τ sig) → Buf (Elt Ideal) ℓ) (c : Dev nD)

abbrev A0 : FVec Ideal S4x2048x2048 .f32 := m ((c : Thread nD τ).loc main_arg0)
abbrev A1 : FVec Ideal S2048x5632 .f32 := m ((c : Thread nD τ).loc main_arg1)
abbrev A2 : FVec Ideal S2048x5632 .f32 := m ((c : Thread nD τ).loc main_arg2)

/-- The gated unit of one gate and one value. -/
def unit (g u : EReal) : EReal := g * Ideal.logistic g * u

/-- An entry of the result: the gate's product, its logistic, and the other product. -/
def out (A : FVec Ideal S4x2048x2048 .f32) (G U : FVec Ideal S2048x5632 .f32) (x : Fin 8192) (z : Fin 5632) : EReal :=
  unit (∑ k : Fin 2048, A (ix3 ⟨x / 2048, by omega⟩ ⟨x % 2048, by omega⟩ k) * G (ix2 k z))
    (∑ k : Fin 2048, A (ix3 ⟨x / 2048, by omega⟩ ⟨x % 2048, by omega⟩ k) * U (ix2 k z))

/-- The result, a row for each token. -/
def OUT (A : FVec Ideal S4x2048x2048 .f32) (G U : FVec Ideal S2048x5632 .f32) : FVec Ideal S8192x5632 .bf16 :=
  fun y => out A G U (y 0) (y 1)

theorem V_a (x : Fin 8192) (k : Fin 2048) : V m c main_v1 (ix2 x k) = A0 m c (ix3 ⟨x / 2048, by omega⟩ ⟨x % 2048, by omega⟩ k) := by
  have e : V m c main_v1 = truncf .bf16 (shapeCast S8192x2048 (A0 m c) shapeCasts_S4x2048x2048_S8192x2048) bitsLt_bf16_f32 := by
    unfold_abbrev_sides
    after_reads_simp
    rfl
  rw [e]
  pointwise []

theorem idx : ∀ t : Fin cfg0.N,
    win0_0.index t = ![t.val % 8, 0] ∧ win0_1.index t = ![0, t.val / 8]
    ∧ win0_2.index t = ![0, t.val / 8] ∧ win0_3.index t = ![t.val % 8, t.val / 8] :=
  (by decide +kernel : ∀ t : Fin grid0.N, _)

theorem lt88 (t : Fin cfg0.N) : t.val < 88 := t.isLt

/-- A staged weight of a grid point, from the array. -/
def wcol (t : ℕ) (h : t < 88) (b : Fin 512) : Fin 5632 := ⟨512 * (t / 8) + b, by omega⟩
def WB (W : FVec Ideal S2048x5632 .f32) (t : ℕ) (h : t < 88) : Vec Ideal S2048x512 .bf16 := fun y => W (ix2 (y 0) (wcol t h (y 1)))

theorem iblk0 (t : Fin cfg0.N) (a : Fin 1024) (k : Fin 2048) : iblk m c 0 t (ix2 a k)
    = A0 m c (ix3 ⟨(1024 * (t.val % 8) + a) / 2048, by omega⟩ ⟨(1024 * (t.val % 8) + a) % 2048, by omega⟩ k) := by
  refine Eq.trans (b := V m c main_v1 (ix2 ⟨1024 * (t.val % 8) + a, by omega⟩ k)) ?_ (V_a m c _ _)
  blk_ext [iblk, idx t]

theorem iblk1 (t : Fin cfg0.N) (y : S2048x512.Idx) : iblk m c 1 t y = WB (A1 m c) t (lt88 t) y := by
  have ht := lt88 t
  have h1 : (y 1 : Fin 512).val < 512 := (y 1 : Fin 512).isLt
  refine Eq.trans (b := V m c main_arg1 (ix2 (y 0 : Fin 2048) ⟨512 * (t.val / 8) + (y 1 : Fin 512).val, by omega⟩)) ?_ ?_
  · blk_ext [iblk, idx t]
  · rw [V_main_arg1]; rfl

theorem iblk2 (t : Fin cfg0.N) (y : S2048x512.Idx) : iblk m c 2 t y = WB (A2 m c) t (lt88 t) y := by
  have ht := lt88 t
  have h1 : (y 1 : Fin 512).val < 512 := (y 1 : Fin 512).isLt
  refine Eq.trans (b := V m c main_arg2 (ix2 (y 0 : Fin 2048) ⟨512 * (t.val / 8) + (y 1 : Fin 512).val, by omega⟩)) ?_ ?_
  · blk_ext [iblk, idx t]
  · rw [V_main_arg2]; rfl

theorem pay1_at (w : Vec Ideal S2048x512 .f32) (y : S2048x512.Idx) : k0_pay1 w y = w y := by
  idx_vars y
  open_payloads
  pointwise []

theorem pay2_at (w : Vec Ideal S2048x512 .f32) (y : S2048x512.Idx) : k0_pay2 w y = w y := by
  idx_vars y
  open_payloads
  pointwise []

theorem pay3_at (a : Vec Ideal S1024x2048 .bf16) (g u : Vec Ideal S2048x512 .bf16) (a0 : Fin 1024) (a1 : Fin 512) :
    k0_pay3 a g u (ix2 a0 a1) = unit (∑ k : Fin 2048, a (ix2 a0 k) * g (ix2 k a1)) (∑ k : Fin 2048, a (ix2 a0 k) * u (ix2 k a1)) := by
  rw [unit]
  open_payloads
  pointwise []

theorem keep_A (t : Fin cfg0.N) (ht : t.val % 8 = 0) :
    (outsAt0 m c t.val t.isLt).2 = (WB (A1 m c) t (lt88 t), WB (A2 m c) t (lt88 t)) := by
  rw [outsAt0_A m c t ht]
  refine Prod.ext (funext fun y => ?_) (funext fun y => ?_)
  · frame_out
    exact (pay1_at _ _).trans (iblk1 m c t y)
  · frame_out
    exact (pay2_at _ _).trans (iblk2 m c t y)

theorem out_A (t : Fin cfg0.N) (ht : t.val % 8 = 0) (G U : Vec Ideal S2048x512 .bf16)
    (hG : (outsAt0 m c t.val t.isLt).2.1 = G) (hU : (outsAt0 m c t.val t.isLt).2.2 = U) :
    (outsAt0 m c t.val t.isLt).1 = k0_pay3 (iblk m c 0 t) G U := by
  rw [outsAt0_A m c t ht] at hG hU ⊢
  frame_out at hG hU ⊢
  simp only [View.readCov_eq_canon', hG, hU]

theorem out_B (t : Fin cfg0.N) (ht : ¬t.val % 8 = 0) (G U : Vec Ideal S2048x512 .bf16)
    (hG : (outsAt0 m c (t.val - 1) (Nat.lt_of_le_of_lt (Nat.sub_le _ _) t.isLt)).2.1 = G)
    (hU : (outsAt0 m c (t.val - 1) (Nat.lt_of_le_of_lt (Nat.sub_le _ _) t.isLt)).2.2 = U) :
    (outsAt0 m c t.val t.isLt).1 = k0_pay3 (iblk m c 0 t) G U := by
  rw [outsAt0_B m c t ht]
  frame_out
  simp only [hG, hU, read_unread_whole]

theorem keep_B (t : Fin cfg0.N) (ht : ¬t.val % 8 = 0) :
    (outsAt0 m c t.val t.isLt).2 = (outsAt0 m c (t.val - 1) (Nat.lt_of_le_of_lt (Nat.sub_le _ _) t.isLt)).2 := by
  rw [outsAt0_B m c t ht]
  rfl

theorem WB_prev (W : FVec Ideal S2048x5632 .f32) (k : ℕ) (hk : k < 88) (h0 : ¬k % 8 = 0) : WB W (k - 1) (by omega) = WB W k hk := by
  funext y
  have e : wcol (k - 1) (by omega) (y 1) = wcol k hk (y 1) := Fin.ext (by change 512 * ((k - 1) / 8) + _ = 512 * (k / 8) + _; omega)
  exact congrArg (fun j => W (ix2 (y 0) j)) e

/-- The scratches of a grid point: the weight columns of its column tile. -/
theorem scratch (k : ℕ) : ∀ hk : k < cfg0.N, (outsAt0 m c k hk).2 = (WB (A1 m c) k hk, WB (A2 m c) k hk) := by
  induction k using Nat.strong_induction_on with
  | _ k ih =>
    intro hk
    by_cases h0 : k % 8 = 0
    · exact keep_A m c ⟨k, hk⟩ h0
    · have hk' : k < 88 := hk
      refine (keep_B m c ⟨k, hk⟩ h0).trans ?_
      rw [ih (k - 1) (by omega) (Nat.lt_of_le_of_lt (Nat.sub_le _ _) hk)]
      exact congrArg₂ Prod.mk (WB_prev _ k hk' h0) (WB_prev _ k hk' h0)

theorem written (t : Fin cfg0.N) (a0 : Fin 1024) (a1 : Fin 512) :
    (outsAt0 m c t.val t.isLt).1 (ix2 a0 a1) = OUT (A0 m c) (A1 m c) (A2 m c)
      (ix2 ⟨1024 * (t.val % 8) + a0, by omega⟩ ⟨512 * (t.val / 8) + a1, by have := lt88 t; omega⟩) := by
  have hs := scratch m c t.val t.isLt
  have e : (outsAt0 m c t.val t.isLt).1 = k0_pay3 (iblk m c 0 t) (WB (A1 m c) t (lt88 t)) (WB (A2 m c) t (lt88 t)) := by
    by_cases h0 : t.val % 8 = 0
    · exact out_A m c t h0 _ _ (congrArg Prod.fst hs) (congrArg Prod.snd hs)
    · have hp := (keep_B m c t h0).symm.trans hs
      exact out_B m c t h0 _ _ (congrArg Prod.fst hp) (congrArg Prod.snd hp)
  rw [e]
  refine (pay3_at _ _ _ _ _).trans ?_
  exact congrArg₂ unit (Finset.sum_congr rfl fun k _ => congrArg (· * _) (iblk0 m c t a0 k))
    (Finset.sum_congr rfl fun k _ => congrArg (· * _) (iblk0 m c t a0 k))

theorem final : (dats m 0 c).arrAt 3 cfg0.N = OUT (A0 m c) (A1 m c) (A2 m c) := by
  refine (dats m 0 c).arrAt_eq_of_covers 3 (OUT (A0 m c) (A1 m c) (A2 m c)) (by decide +kernel) fun t hf y => ?_
  blk_simp
  rw [after0_3]
  idx_vars y
  refine (written m c t y0 y1).trans ?_
  blk_ext [idx t]

end Cert.Kernel3Ideal.Gate

namespace Cert.Reference3Ideal.Refer
open Cert.Reference3Ideal Cert.Reference3Ideal.Gen

/-- The reference's result is the gated unit of its two products. -/
theorem ref (A : FVec Ideal S4x2048x2048 .f32) (G U : FVec Ideal S2048x5632 .f32) :
    (truncf .bf16 (shapeCast S8192x5632 (mulf (mulf (Host.dotGeneral dot_S4x2048x2048_S2048x5632_S4x2048x5632_2_0_01_1_n_n none A G) (Host.divf (broadcastInDim S4x2048x5632 ![] bcast_S_S4x2048x5632 (constant S_ .f32 0x3F800000#32)) (addf (broadcastInDim S4x2048x5632 ![] bcast_S_S4x2048x5632 (constant S_ .f32 0x3F800000#32)) (Host.exp (Host.negf (Host.dotGeneral dot_S4x2048x2048_S2048x5632_S4x2048x5632_2_0_01_1_n_n none A G)))))) (Host.dotGeneral dot_S4x2048x2048_S2048x5632_S4x2048x5632_2_0_01_1_n_n none A U)) shapeCasts_S4x2048x5632_S8192x5632) bitsLt_bf16_f32 : FVec Ideal S8192x5632 .bf16)
      = Cert.Kernel3Ideal.Gate.OUT A G U := by
  funext y
  idx_vars y
  refine Eq.trans ?_ (show Cert.Kernel3Ideal.Gate.out A G U y0 y1 = Cert.Kernel3Ideal.Gate.OUT A G U (ix2 y0 y1) from rfl)
  rw [Cert.Kernel3Ideal.Gate.out, Cert.Kernel3Ideal.Gate.unit]
  pointwise [Ideal.logistic]

end Cert.Reference3Ideal.Refer
end
-- ==== Proof.Merge.lean ====
/- The gated merge of the two mixers' outputs: what each grid point writes, and the result array against
   the reference's. -/
module
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.Kernel2Ideal.Merge
open Cert.Kernel2Ideal Cert.Kernel2Ideal.Gen
variable (m : (ℓ : Loc nD τ sig) → Buf (Elt Ideal) ℓ) (c : Dev nD)

abbrev A0 : FVec Ideal S4x2048x2048 .f32 := m ((c : Thread nD τ).loc main_arg0)
abbrev A1 : FVec Ideal S4x2048x1024 .f32 := m ((c : Thread nD τ).loc main_arg1)
abbrev A2 : FVec Ideal S4x2048x1024 .f32 := m ((c : Thread nD τ).loc main_arg2)
abbrev A3 : FVec Ideal S2048x10656 .f32 := m ((c : Thread nD τ).loc main_arg3)
abbrev A4 : FVec Ideal S1024x2048 .f32 := m ((c : Thread nD τ).loc main_arg4)
abbrev A5 : FVec Ideal S1024x2048 .f32 := m ((c : Thread nD τ).loc main_arg5)

/-- Two values, each weighted by its own gate's logistic. -/
def gated (ga ua gb ub : EReal) : EReal := Ideal.logistic ga * ua + Ideal.logistic gb * ub

theorem gated_congr {a a' b b' d d' e e' : EReal} (h1 : a = a') (h2 : b = b') (h3 : d = d') (h4 : e = e') :
    gated a b d e = gated a' b' d' e' := by rw [h1, h2, h3, h4]

/-- A gate's product: the projection's column `6560 + z` or `8608 + z`. -/
def gate (A : FVec Ideal S4x2048x2048 .f32) (W : FVec Ideal S2048x10656 .f32) (x : Fin 8192) (z : Fin 10656) : EReal :=
  ∑ k : Fin 2048, A (ix3 ⟨x / 2048, by omega⟩ ⟨x % 2048, by omega⟩ k) * W (ix2 k z)

/-- A mixer's output projected up. -/
def up (O : FVec Ideal S4x2048x1024 .f32) (U : FVec Ideal S1024x2048 .f32) (x : Fin 8192) (z : Fin 2048) : EReal :=
  ∑ k : Fin 1024, O (ix3 ⟨x / 2048, by omega⟩ ⟨x % 2048, by omega⟩ k) * U (ix2 k z)

/-- An entry of the result. -/
def out (A : FVec Ideal S4x2048x2048 .f32) (O P : FVec Ideal S4x2048x1024 .f32) (W : FVec Ideal S2048x10656 .f32)
    (U N : FVec Ideal S1024x2048 .f32) (x : Fin 8192) (z : Fin 2048) : EReal :=
  gated (gate A W x ⟨6560 + z, by omega⟩) (up O U x z) (gate A W x ⟨8608 + z, by omega⟩) (up P N x z)

/-- The result, a row for each token. -/
def OUT (A : FVec Ideal S4x2048x2048 .f32) (O P : FVec Ideal S4x2048x1024 .f32) (W : FVec Ideal S2048x10656 .f32)
    (U N : FVec Ideal S1024x2048 .f32) : FVec Ideal S8192x2048 .bf16 :=
  fun y => out A O P W U N (y 0) (y 1)

theorem V_w (x : Fin 10656) (k : Fin 2048) : V m c main_v0 (ix2 x k) = A3 m c (ix2 k x) := by
  have e : V m c main_v0 = transpose S10656x2048 [1, 0] (A3 m c) transposes_S2048x10656_S10656x2048_1_0 := by
    unfold_abbrev_sides
    after_reads_simp
  rw [e]
  pointwise []

theorem V_a (x : Fin 8192) (k : Fin 2048) : V m c main_v2 (ix2 x k) = A0 m c (ix3 ⟨x / 2048, by omega⟩ ⟨x % 2048, by omega⟩ k) := by
  have e : V m c main_v2 = truncf .bf16 (shapeCast S8192x2048 (A0 m c) shapeCasts_S4x2048x2048_S8192x2048) bitsLt_bf16_f32 := by
    unfold_abbrev_sides
    after_reads_simp
    rfl
  rw [e]
  pointwise []

theorem V_o (x : Fin 8192) (k : Fin 1024) : V m c main_v4 (ix2 x k) = A1 m c (ix3 ⟨x / 2048, by omega⟩ ⟨x % 2048, by omega⟩ k) := by
  have e : V m c main_v4 = truncf .bf16 (shapeCast S8192x1024 (A1 m c) shapeCasts_S4x2048x1024_S8192x1024) bitsLt_bf16_f32 := by
    unfold_abbrev_sides
    after_reads_simp
    rfl
  rw [e]
  pointwise []

theorem V_p (x : Fin 8192) (k : Fin 1024) : V m c main_v6 (ix2 x k) = A2 m c (ix3 ⟨x / 2048, by omega⟩ ⟨x % 2048, by omega⟩ k) := by
  have e : V m c main_v6 = truncf .bf16 (shapeCast S8192x1024 (A2 m c) shapeCasts_S4x2048x1024_S8192x1024) bitsLt_bf16_f32 := by
    unfold_abbrev_sides
    after_reads_simp
    rfl
  rw [e]
  pointwise []

/-- The element windows start at the gates' own columns of the projection, which are no multiple of their height. -/
theorem idx : ∀ t : Fin cfg0.N,
    win0_0.index t = ![t.val % 16, 0] ∧ win0_1.index t = ![t.val % 16, 0] ∧ win0_2.index t = ![t.val % 16, 0]
    ∧ win0_3.index t = ![6560 + 512 * (t.val / 16), 0] ∧ win0_4.index t = ![8608 + 512 * (t.val / 16), 0]
    ∧ win0_5.index t = ![0, t.val / 16] ∧ win0_6.index t = ![0, t.val / 16] ∧ win0_7.index t = ![t.val % 16, t.val / 16] :=
  (by decide +kernel : ∀ t : Fin grid0.N, _)

theorem lt64 (t : Fin cfg0.N) : t.val < 64 := t.isLt

/-- The column of a grid point's column tile, in the result and in the projection from a column on. -/
def ucol (t : ℕ) (h : t < 64) (b : Fin 512) : Fin 2048 := ⟨512 * (t / 16) + b, by omega⟩
def gcol (o : ℕ) (ho : o ≤ 8608) (t : ℕ) (h : t < 64) (b : Fin 512) : Fin 10656 := ⟨o + (512 * (t / 16) + b), by omega⟩

/-- The staged weights of a grid point, from the arrays. -/
def WU (U : FVec Ideal S1024x2048 .f32) (t : ℕ) (h : t < 64) : Vec Ideal S1024x512 .bf16 := fun y => U (ix2 (y 0) (ucol t h (y 1)))
def WG (o : ℕ) (ho : o ≤ 8608) (W : FVec Ideal S2048x10656 .f32) (t : ℕ) (h : t < 64) : Vec Ideal S2048x512 .bf16 :=
  fun y => W (ix2 (y 0) (gcol o ho t h (y 1)))

theorem iblk0 (t : Fin cfg0.N) (a : Fin 512) (k : Fin 2048) : iblk m c 0 t (ix2 a k)
    = A0 m c (ix3 ⟨(512 * (t.val % 16) + a) / 2048, by omega⟩ ⟨(512 * (t.val % 16) + a) % 2048, by omega⟩ k) := by
  refine Eq.trans (b := V m c main_v2 (ix2 ⟨512 * (t.val % 16) + a, by omega⟩ k)) ?_ (V_a m c _ _)
  blk_ext [iblk, idx t]

theorem iblk1 (t : Fin cfg0.N) (a : Fin 512) (k : Fin 1024) : iblk m c 1 t (ix2 a k)
    = A1 m c (ix3 ⟨(512 * (t.val % 16) + a) / 2048, by omega⟩ ⟨(512 * (t.val % 16) + a) % 2048, by omega⟩ k) := by
  refine Eq.trans (b := V m c main_v4 (ix2 ⟨512 * (t.val % 16) + a, by omega⟩ k)) ?_ (V_o m c _ _)
  blk_ext [iblk, idx t]

theorem iblk2 (t : Fin cfg0.N) (a : Fin 512) (k : Fin 1024) : iblk m c 2 t (ix2 a k)
    = A2 m c (ix3 ⟨(512 * (t.val % 16) + a) / 2048, by omega⟩ ⟨(512 * (t.val % 16) + a) % 2048, by omega⟩ k) := by
  refine Eq.trans (b := V m c main_v6 (ix2 ⟨512 * (t.val % 16) + a, by omega⟩ k)) ?_ (V_p m c _ _)
  blk_ext [iblk, idx t]

theorem iblk3 (t : Fin cfg0.N) (a : Fin 512) (k : Fin 2048) : iblk m c 3 t (ix2 a k) = A3 m c (ix2 k (gcol 6560 (by omega) t (lt64 t) a)) := by
  refine Eq.trans (b := V m c main_v0 (ix2 (gcol 6560 (by omega) t (lt64 t) a) k)) ?_ (V_w m c _ _)
  blk_ext [iblk, idx t, gcol]
  · refine (win0_3.rect_emb_val_off t (ix2 a k) 0).trans ?_
    have e : win0_3.index t 0 = 6560 + 512 * (t.val / 16) := congrFun (idx t).2.2.2.1 0
    change win0_3.index t 0 + a.val = _
    omega
  · refine (win0_3.rect_emb_val_off t (ix2 a k) 1).trans ?_
    have e : win0_3.index t 1 = 0 := congrFun (idx t).2.2.2.1 1
    change win0_3.index t 1 + k.val = _
    omega

theorem iblk4 (t : Fin cfg0.N) (a : Fin 512) (k : Fin 2048) : iblk m c 4 t (ix2 a k) = A3 m c (ix2 k (gcol 8608 (by omega) t (lt64 t) a)) := by
  refine Eq.trans (b := V m c main_v0 (ix2 (gcol 8608 (by omega) t (lt64 t) a) k)) ?_ (V_w m c _ _)
  blk_ext [iblk, idx t, gcol]
  · refine (win0_4.rect_emb_val_off t (ix2 a k) 0).trans ?_
    have e : win0_4.index t 0 = 8608 + 512 * (t.val / 16) := congrFun (idx t).2.2.2.2.1 0
    change win0_4.index t 0 + a.val = _
    omega
  · refine (win0_4.rect_emb_val_off t (ix2 a k) 1).trans ?_
    have e : win0_4.index t 1 = 0 := congrFun (idx t).2.2.2.2.1 1
    change win0_4.index t 1 + k.val = _
    omega

theorem iblk5 (t : Fin cfg0.N) (y : S1024x512.Idx) : iblk m c 5 t y = WU (A4 m c) t (lt64 t) y := by
  have ht := lt64 t
  have h1 : (y 1 : Fin 512).val < 512 := (y 1 : Fin 512).isLt
  refine Eq.trans (b := V m c main_arg4 (ix2 (y 0 : Fin 1024) ⟨512 * (t.val / 16) + (y 1 : Fin 512).val, by omega⟩)) ?_ ?_
  · blk_ext [iblk, idx t]
  · rw [V_main_arg4]; rfl

theorem iblk6 (t : Fin cfg0.N) (y : S1024x512.Idx) : iblk m c 6 t y = WU (A5 m c) t (lt64 t) y := by
  have ht := lt64 t
  have h1 : (y 1 : Fin 512).val < 512 := (y 1 : Fin 512).isLt
  refine Eq.trans (b := V m c main_arg5 (ix2 (y 0 : Fin 1024) ⟨512 * (t.val / 16) + (y 1 : Fin 512).val, by omega⟩)) ?_ ?_
  · blk_ext [iblk, idx t]
  · rw [V_main_arg5]; rfl

theorem pay4_at (w : Vec Ideal S1024x512 .f32) (y : S1024x512.Idx) : k0_pay4 w y = w y := by
  idx_vars y
  open_payloads
  pointwise []

theorem pay5_at (w : Vec Ideal S1024x512 .f32) (y : S1024x512.Idx) : k0_pay5 w y = w y := by
  idx_vars y
  open_payloads
  pointwise []

theorem pay6_at (x : Vec Ideal S512x2048 .bf16) (ga : Vec Ideal S2048x512 .bf16) (oa : Vec Ideal S512x1024 .bf16) (ua : Vec Ideal S1024x512 .bf16)
    (gb : Vec Ideal S2048x512 .bf16) (ob : Vec Ideal S512x1024 .bf16) (ub : Vec Ideal S1024x512 .bf16) (a0 a1 : Fin 512) :
    k0_pay6 x ga oa ua gb ob ub (ix2 a0 a1) = gated (∑ k : Fin 2048, x (ix2 a0 k) * ga (ix2 k a1)) (∑ k : Fin 1024, oa (ix2 a0 k) * ua (ix2 k a1))
      (∑ k : Fin 2048, x (ix2 a0 k) * gb (ix2 k a1)) (∑ k : Fin 1024, ob (ix2 a0 k) * ub (ix2 k a1)) := by
  rw [gated]
  open_payloads
  pointwise []

/-- A gate's weight staged from its window, transposed four column blocks at a time. -/
theorem stage3 (X : Vec Ideal S512x2048 .f32) (y : S2048x512.Idx) (x0 : Fin 512) (x1 : Fin 2048) (h0 : (y 1).val = x0.val) (h1 : (y 0).val = x1.val) :
    X (ix2 x0 x1) = X (ix2 (y 1 : Fin 512) (y 0 : Fin 2048)) := by
  have e0 : (y 1 : Fin 512) = x0 := Fin.ext h0
  have e1 : (y 0 : Fin 2048) = x1 := Fin.ext h1
  rw [e0, e1]

theorem keep_A0 (t : Fin cfg0.N) (ht : t.val % 16 = 0) (y : S2048x512.Idx) :
    (outsAt0 m c t.val t.isLt).2.1 y = iblk m c 3 t (ix2 (y 1 : Fin 512) (y 0 : Fin 2048)) := by
  rw [outsAt0_A m c t ht]
  frame_out
  generalize iblk m c 3 t = X
  canon_tiles x h
  all_goals idx_vars x; open_payloads; pointwise []
  all_goals exact stage3 X y _ _ (by omega) (by rw [h0])

theorem keep_A1 (t : Fin cfg0.N) (ht : t.val % 16 = 0) (y : S2048x512.Idx) :
    (outsAt0 m c t.val t.isLt).2.2.1 y = iblk m c 4 t (ix2 (y 1 : Fin 512) (y 0 : Fin 2048)) := by
  rw [outsAt0_A m c t ht]
  frame_out
  generalize iblk m c 4 t = X
  canon_tiles x h
  all_goals idx_vars x; open_payloads; pointwise []
  all_goals exact stage3 X y _ _ (by omega) (by rw [h0])

theorem keep_A2 (t : Fin cfg0.N) (ht : t.val % 16 = 0) (y : S1024x512.Idx) :
    (outsAt0 m c t.val t.isLt).2.2.2.1 y = iblk m c 5 t y := by
  rw [outsAt0_A m c t ht]
  frame_out
  exact pay4_at _ _

theorem keep_A3 (t : Fin cfg0.N) (ht : t.val % 16 = 0) (y : S1024x512.Idx) :
    (outsAt0 m c t.val t.isLt).2.2.2.2 y = iblk m c 6 t y := by
  rw [outsAt0_A m c t ht]
  frame_out
  exact pay5_at _ _

/-- The four staged weights of a grid point. -/
def STAGED (W : FVec Ideal S2048x10656 .f32) (U N : FVec Ideal S1024x2048 .f32) (t : ℕ) (h : t < 64) :
    Vec Ideal S2048x512 .bf16 × Vec Ideal S2048x512 .bf16 × Vec Ideal S1024x512 .bf16 × Vec Ideal S1024x512 .bf16 :=
  (WG 6560 (by omega) W t h, WG 8608 (by omega) W t h, WU U t h, WU N t h)

theorem keep_A (t : Fin cfg0.N) (ht : t.val % 16 = 0) :
    (outsAt0 m c t.val t.isLt).2 = STAGED (A3 m c) (A4 m c) (A5 m c) t (lt64 t) := by
  refine Prod.ext (funext fun y => ?_) (Prod.ext (funext fun y => ?_) (Prod.ext (funext fun y => ?_) (funext fun y => ?_)))
  · exact (keep_A0 m c t ht y).trans (iblk3 m c t (y 1) (y 0))
  · exact (keep_A1 m c t ht y).trans (iblk4 m c t (y 1) (y 0))
  · exact (keep_A2 m c t ht y).trans (iblk5 m c t y)
  · exact (keep_A3 m c t ht y).trans (iblk6 m c t y)

theorem whole_at (G : S2048x512.Idx → EReal) (inb) : (fun j => G ((Rect.unit (s := S2048x512) ![0, 0] ![2048, 512] inb).idx j)) = G := by
  funext j
  refine congrArg G (funext fun a => Fin.ext ?_)
  fin_cases a <;> simp

theorem out_A (t : Fin cfg0.N) (ht : t.val % 16 = 0) (S : Vec Ideal S2048x512 .bf16 × Vec Ideal S2048x512 .bf16 × Vec Ideal S1024x512 .bf16 × Vec Ideal S1024x512 .bf16)
    (hS : (outsAt0 m c t.val t.isLt).2 = S) :
    (outsAt0 m c t.val t.isLt).1 = k0_pay6 (iblk m c 0 t) S.1 (iblk m c 1 t) S.2.2.1 S.2.1 (iblk m c 2 t) S.2.2.2 := by
  have hG := congrArg (fun p => p.1) hS
  have hH := congrArg (fun p => p.2.1) hS
  have hU := congrArg (fun p => p.2.2.1) hS
  have hN := congrArg (fun p => p.2.2.2) hS
  clear hS
  rw [outsAt0_A m c t ht] at hG hH hU hN ⊢
  frame_out at hG hH hU hN ⊢
  simp only [View.readCov_eq_canon', hG, hH, hU, hN]
  rw [whole_at, whole_at]

theorem out_B (t : Fin cfg0.N) (ht : ¬t.val % 16 = 0) (S : Vec Ideal S2048x512 .bf16 × Vec Ideal S2048x512 .bf16 × Vec Ideal S1024x512 .bf16 × Vec Ideal S1024x512 .bf16)
    (hS : (outsAt0 m c (t.val - 1) (Nat.lt_of_le_of_lt (Nat.sub_le _ _) t.isLt)).2 = S) :
    (outsAt0 m c t.val t.isLt).1 = k0_pay6 (iblk m c 0 t) S.1 (iblk m c 1 t) S.2.2.1 S.2.1 (iblk m c 2 t) S.2.2.2 := by
  rw [outsAt0_B m c t ht]
  frame_out
  simp only [hS, read_unread_whole]

theorem keep_B (t : Fin cfg0.N) (ht : ¬t.val % 16 = 0) :
    (outsAt0 m c t.val t.isLt).2 = (outsAt0 m c (t.val - 1) (Nat.lt_of_le_of_lt (Nat.sub_le _ _) t.isLt)).2 := by
  rw [outsAt0_B m c t ht]
  rfl

theorem read (t : Fin cfg0.N) (S : Vec Ideal S2048x512 .bf16 × Vec Ideal S2048x512 .bf16 × Vec Ideal S1024x512 .bf16 × Vec Ideal S1024x512 .bf16)
    (hS : (outsAt0 m c t.val t.isLt).2 = S) :
    (outsAt0 m c t.val t.isLt).1 = k0_pay6 (iblk m c 0 t) S.1 (iblk m c 1 t) S.2.2.1 S.2.1 (iblk m c 2 t) S.2.2.2 := by
  by_cases h0 : t.val % 16 = 0
  · exact out_A m c t h0 S hS
  · exact out_B m c t h0 S ((keep_B m c t h0).symm.trans hS)

theorem WU_prev (U : FVec Ideal S1024x2048 .f32) (k : ℕ) (hk : k < 64) (h0 : ¬k % 16 = 0) : WU U (k - 1) (by omega) = WU U k hk := by
  funext y
  have e : ucol (k - 1) (by omega) (y 1) = ucol k hk (y 1) := Fin.ext (by change 512 * ((k - 1) / 16) + _ = 512 * (k / 16) + _; omega)
  exact congrArg (fun j => U (ix2 (y 0) j)) e

theorem WG_prev (o : ℕ) (ho : o ≤ 8608) (W : FVec Ideal S2048x10656 .f32) (k : ℕ) (hk : k < 64) (h0 : ¬k % 16 = 0) :
    WG o ho W (k - 1) (by omega) = WG o ho W k hk := by
  funext y
  have e : gcol o ho (k - 1) (by omega) (y 1) = gcol o ho k hk (y 1) :=
    Fin.ext (by change o + (512 * ((k - 1) / 16) + _) = o + (512 * (k / 16) + _); omega)
  exact congrArg (fun j => W (ix2 (y 0) j)) e

/-- The scratches of a grid point: the weight columns of its column tile. -/
theorem scratch (k : ℕ) : ∀ hk : k < cfg0.N, (outsAt0 m c k hk).2 = STAGED (A3 m c) (A4 m c) (A5 m c) k hk := by
  induction k using Nat.strong_induction_on with
  | _ k ih =>
    intro hk
    by_cases h0 : k % 16 = 0
    · exact keep_A m c ⟨k, hk⟩ h0
    · have hk' : k < 64 := hk
      refine (keep_B m c ⟨k, hk⟩ h0).trans ?_
      rw [ih (k - 1) (by omega) (Nat.lt_of_le_of_lt (Nat.sub_le _ _) hk)]
      exact congrArg₂ Prod.mk (WG_prev _ _ _ k hk' h0) (congrArg₂ Prod.mk (WG_prev _ _ _ k hk' h0)
        (congrArg₂ Prod.mk (WU_prev _ k hk' h0) (WU_prev _ k hk' h0)))

theorem written (t : Fin cfg0.N) (a0 a1 : Fin 512) :
    (outsAt0 m c t.val t.isLt).1 (ix2 a0 a1) = OUT (A0 m c) (A1 m c) (A2 m c) (A3 m c) (A4 m c) (A5 m c)
      (ix2 ⟨512 * (t.val % 16) + a0, by omega⟩ (ucol t (lt64 t) a1)) := by
  have e := read m c t (STAGED (A3 m c) (A4 m c) (A5 m c) t (lt64 t)) (scratch m c t.val t.isLt)
  refine (congrFun e (ix2 a0 a1)).trans ((pay6_at _ _ _ _ _ _ _ _ _).trans ?_)
  exact gated_congr (Finset.sum_congr rfl fun k _ => congrArg (· * _) (iblk0 m c t a0 k)) (Finset.sum_congr rfl fun k _ => congrArg (· * _) (iblk1 m c t a0 k))
    (Finset.sum_congr rfl fun k _ => congrArg (· * _) (iblk0 m c t a0 k)) (Finset.sum_congr rfl fun k _ => congrArg (· * _) (iblk2 m c t a0 k))

theorem final : (dats m 0 c).arrAt 7 cfg0.N = OUT (A0 m c) (A1 m c) (A2 m c) (A3 m c) (A4 m c) (A5 m c) := by
  refine (dats m 0 c).arrAt_eq_of_covers 7 (OUT (A0 m c) (A1 m c) (A2 m c) (A3 m c) (A4 m c) (A5 m c)) (by decide +kernel) fun t hf y => ?_
  blk_simp
  rw [after0_7]
  idx_vars y
  refine (written m c t y0 y1).trans ?_
  blk_ext [idx t, ucol]

end Cert.Kernel2Ideal.Merge

namespace Cert.Reference2Ideal.Refer
open Cert.Reference2Ideal Cert.Reference2Ideal.Gen

/-- The reference's result is the two gated products' sum. -/
theorem ref (A : FVec Ideal S4x2048x2048 .f32) (O P : FVec Ideal S4x2048x1024 .f32) (W : FVec Ideal S2048x10656 .f32)
    (U N : FVec Ideal S1024x2048 .f32) :
    (truncf .bf16 (shapeCast S8192x2048 (addf (mulf (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 0, 6560] (Host.dotGeneral dot_S4x2048x2048_S2048x10656_S4x2048x10656_2_0_01_1_n_n none A W) slices_S4x2048x10656_S4x2048x2048_0_0_6560))))) (Host.dotGeneral dot_S4x2048x1024_S1024x2048_S4x2048x2048_2_0_01_1_n_n none O U)) (mulf (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 0, 8608] (Host.dotGeneral dot_S4x2048x2048_S2048x10656_S4x2048x10656_2_0_01_1_n_n none A W) slices_S4x2048x10656_S4x2048x2048_0_0_8608))))) (Host.dotGeneral dot_S4x2048x1024_S1024x2048_S4x2048x2048_2_0_01_1_n_n none P N))) shapeCasts_S4x2048x2048_S8192x2048) bitsLt_bf16_f32 : FVec Ideal S8192x2048 .bf16)
      = Cert.Kernel2Ideal.Merge.OUT A O P W U N := by
  funext y
  idx_vars y
  refine Eq.trans ?_ (show Cert.Kernel2Ideal.Merge.out A O P W U N y0 y1 = Cert.Kernel2Ideal.Merge.OUT A O P W U N (ix2 y0 y1) from rfl)
  rw [Cert.Kernel2Ideal.Merge.out, Cert.Kernel2Ideal.Merge.gated, Cert.Kernel2Ideal.Merge.gate, Cert.Kernel2Ideal.Merge.gate,
    Cert.Kernel2Ideal.Merge.up, Cert.Kernel2Ideal.Merge.up]
  pointwise [Ideal.logistic]

end Cert.Reference2Ideal.Refer
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Rows
public import proofs.«01_k».proof.Proof.Finite
public import proofs.«01_k».proof.Proof.Final
public import proofs.«01_k».proof.Proof.First
public import proofs.«01_k».proof.Proof.Queries
public import proofs.«01_k».proof.Proof.Heads
public import proofs.«01_k».proof.Proof.Norm
public import proofs.«01_k».proof.Proof.Down
public import proofs.«01_k».proof.Proof.Gate
public import proofs.«01_k».proof.Proof.Merge
public import Idealize.ShloMosaic.Adequacy
public import Idealize.ShloMosaic.Init

@[expose] public section

noncomputable section

namespace Cert.Proof

open Idealize.ShloMosaic Idealize.SL.Sem Cert.Kernel

/-- The mask's named constant is minus infinity. -/
theorem preserves : Cert.preserves_Kernel_KernelIdeal :=
  IdealRules.named_const.statement Cert.KernelIdeal.κ "mask" .f32 0xF149F2CA#32 ⊥ rfl

theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The call's result is the reference's, wherever the cumulative decay is finite. -/
theorem algebraic : Cert.algebraic_KernelIdeal_ReferenceIdeal_pre_finite (hPre_finite := Cert.Pre_finite.facts) := by
  intro m g m' g' hpre hargs
  refine ⟨fun c => Cert.ReferenceIdeal.Refer.OUT (Cert.KernelIdeal.Final.AQ m c) (Cert.KernelIdeal.Final.AK m c)
    (Cert.KernelIdeal.Final.AW m c) (Cert.KernelIdeal.Final.AC m c), ?_, ?_⟩
  · refine (θ_run Cert.KernelIdeal.defs _ _).mono (fun r h c => ?_) (Cert.KernelIdeal.Value.run_blocks m g)
    refine ⟨(h c).1.trans ?_, (h c).2⟩
    exact Cert.KernelIdeal.Final.final m c (Cert.Pre_finite.finite_of _ _ _ _ Cert.Pre_finite.facts (hpre c))
  · refine (θ_run Cert.ReferenceIdeal.defs _ _).mono (fun r h c => ?_) (Cert.ReferenceIdeal.Value.run (F := Ideal) m' g')
    refine ⟨(h c).1.trans ?_, (h c).2⟩
    obtain ⟨e0, e1, e2, e3⟩ := hargs c
    rw [Cert.ReferenceIdeal.Refer.res_eq, e0, e1, e2, e3]

/-- The programs beside the attention. Of the gated merge: the reference's run. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Of the gated merge: the value claim. -/
theorem algebraic2 : Cert.algebraic_Kernel2Ideal_Reference2Ideal := by
  intro m g m' g' hpre hargs
  refine ⟨fun c => Cert.Kernel2Ideal.Merge.OUT (Cert.Kernel2Ideal.Merge.A0 m c) (Cert.Kernel2Ideal.Merge.A1 m c) (Cert.Kernel2Ideal.Merge.A2 m c) (Cert.Kernel2Ideal.Merge.A3 m c) (Cert.Kernel2Ideal.Merge.A4 m c) (Cert.Kernel2Ideal.Merge.A5 m c), ?_, ?_⟩
  · refine (θ_run Cert.Kernel2Ideal.defs _ _).mono (fun r h c => ?_) (Cert.Kernel2Ideal.Value.run_blocks m g)
    exact ⟨(h c).1.trans (Cert.Kernel2Ideal.Merge.final m c), (h c).2⟩
  · refine (θ_run Cert.Reference2Ideal.defs _ _).mono (fun r h c => ?_) (Cert.Reference2Ideal.Value.run (F := Ideal) m' g')
    refine ⟨(h c).1.trans ?_, (h c).2⟩
    obtain ⟨e0, e1, e2, e3, e4, e5⟩ := hargs c
    rw [e0, e1, e2, e3, e4, e5]
    exact Cert.Reference2Ideal.Refer.ref _ _ _ _ _ _

/-- Of the gate and up product of the feed-forward block: the reference's run. -/
theorem frame_ri3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Of the gate and up product of the feed-forward block: the value claim. -/
theorem algebraic3 : Cert.algebraic_Kernel3Ideal_Reference3Ideal := by
  intro m g m' g' hpre hargs
  refine ⟨fun c => Cert.Kernel3Ideal.Gate.OUT (Cert.Kernel3Ideal.Gate.A0 m c) (Cert.Kernel3Ideal.Gate.A1 m c) (Cert.Kernel3Ideal.Gate.A2 m c), ?_, ?_⟩
  · refine (θ_run Cert.Kernel3Ideal.defs _ _).mono (fun r h c => ?_) (Cert.Kernel3Ideal.Value.run_blocks m g)
    exact ⟨(h c).1.trans (Cert.Kernel3Ideal.Gate.final m c), (h c).2⟩
  · refine (θ_run Cert.Reference3Ideal.defs _ _).mono (fun r h c => ?_) (Cert.Reference3Ideal.Value.run (F := Ideal) m' g')
    refine ⟨(h c).1.trans ?_, (h c).2⟩
    obtain ⟨e0, e1, e2⟩ := hargs c
    rw [e0, e1, e2]
    exact Cert.Reference3Ideal.Refer.ref _ _ _

/-- Of the product back down and its residual: the reference's run. -/
theorem frame_ri4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Of the product back down and its residual: the value claim. -/
theorem algebraic4 : Cert.algebraic_Kernel4Ideal_Reference4Ideal := by
  intro m g m' g' hpre hargs
  refine ⟨fun c => Cert.Kernel4Ideal.Down.OUT (Cert.Kernel4Ideal.Down.A0 m c) (Cert.Kernel4Ideal.Down.A1 m c) (Cert.Kernel4Ideal.Down.A2 m c), ?_, ?_⟩
  · refine (θ_run Cert.Kernel4Ideal.defs _ _).mono (fun r h c => ?_) (Cert.Kernel4Ideal.Value.run_blocks m g)
    exact ⟨(h c).1.trans (Cert.Kernel4Ideal.Down.final m c), (h c).2⟩
  · refine (θ_run Cert.Reference4Ideal.defs _ _).mono (fun r h c => ?_) (Cert.Reference4Ideal.Value.run (F := Ideal) m' g')
    refine ⟨(h c).1.trans ?_, (h c).2⟩
    obtain ⟨e0, e1, e2⟩ := hargs c
    rw [e0, e1, e2]
    exact Cert.Reference4Ideal.Refer.ref _ _ _

/-- Of the output projection, its residual and its norm: the reference's run. -/
theorem frame_ri5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- Of the output projection, its residual and its norm: the value claim. -/
theorem algebraic5 : Cert.algebraic_Kernel5Ideal_Reference5Ideal := by
  intro m g m' g' hpre hargs
  refine ⟨fun c => Cert.Kernel5Ideal.Norm.RES (Cert.Kernel5Ideal.Norm.A0 m c) (Cert.Kernel5Ideal.Norm.A1 m c) (Cert.Kernel5Ideal.Norm.A2 m c), fun c => Cert.Kernel5Ideal.Norm.RMS (Cert.Kernel5Ideal.Norm.A0 m c) (Cert.Kernel5Ideal.Norm.A1 m c) (Cert.Kernel5Ideal.Norm.A2 m c) (Cert.Kernel5Ideal.Norm.A3 m c), ?_, ?_⟩
  · refine (θ_run Cert.Kernel5Ideal.defs _ _).mono (fun r h c => ?_) (Cert.Kernel5Ideal.Value.run_blocks m g)
    exact ⟨(h c).1.trans (Cert.Kernel5Ideal.Norm.final0 m c), (h c).2.1.trans (Cert.Kernel5Ideal.Norm.final1 m c), (h c).2.2⟩
  · refine (θ_run Cert.Reference5Ideal.defs _ _).mono (fun r h c => ?_) (Cert.Reference5Ideal.Value.run (F := Ideal) m' g')
    obtain ⟨e0, e1, e2, e3⟩ := hargs c
    refine ⟨(h c).1.trans ?_, (h c).2.1.trans ?_, (h c).2.2⟩
    · rw [e0, e1, e2]
      exact Cert.Reference5Ideal.Refer.ref0 _ _ _
    · rw [e0, e1, e2, e3]
      exact Cert.Reference5Ideal.Refer.ref1 _ _ _ _

/-- Of the queries, keys and values: the reference's run. -/
theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- Of the queries, keys and values: the value claim. -/
theorem algebraic6 : Cert.algebraic_Kernel6Ideal_Reference6Ideal := by
  intro m g m' g' hpre hargs
  refine ⟨fun c => Cert.Kernel6Ideal.Heads.OUT (Cert.Kernel6Ideal.Heads.A0 m c) (Cert.Kernel6Ideal.Heads.A1 m c) (Cert.Kernel6Ideal.Heads.A2 m c) (Cert.Kernel6Ideal.Heads.A3 m c), ?_, ?_⟩
  · refine (θ_run Cert.Kernel6Ideal.defs _ _).mono (fun r h c => ?_) (Cert.Kernel6Ideal.Value.run_blocks m g)
    exact ⟨(h c).1.trans (Cert.Kernel6Ideal.Heads.final m c), (h c).2⟩
  · refine (θ_run Cert.Reference6Ideal.defs _ _).mono (fun r h c => ?_) (Cert.Reference6Ideal.Value.run (F := Ideal) m' g')
    refine ⟨(h c).1.trans ?_, (h c).2⟩
    obtain ⟨e0, e1, e2, e3⟩ := hargs c
    rw [e0, e1, e2, e3]
    exact Cert.Reference6Ideal.Refer.ref _ _ _ _

/-- Of the first norm and the small projections: the reference's run. -/
theorem frame_ri7 : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- Of the first norm and the small projections: the value claim. -/
theorem algebraic7 : Cert.algebraic_Kernel7Ideal_Reference7Ideal := by
  intro m g m' g' hpre hargs
  refine ⟨fun c => Cert.Kernel7Ideal.First.XN (Cert.Kernel7Ideal.First.A0 m c) (Cert.Kernel7Ideal.First.A1 m c), fun c => Cert.Kernel7Ideal.First.P3 (Cert.Kernel7Ideal.First.A0 m c) (Cert.Kernel7Ideal.First.A1 m c) (Cert.Kernel7Ideal.First.A2 m c), ?_, ?_⟩
  · refine (θ_run Cert.Kernel7Ideal.defs _ _).mono (fun r h c => ?_) (Cert.Kernel7Ideal.Value.run_blocks m g)
    exact ⟨(h c).1.trans (Cert.Kernel7Ideal.First.final0 m c), (h c).2.1.trans (Cert.Kernel7Ideal.First.final1 m c), (h c).2.2⟩
  · refine (θ_run Cert.Reference7Ideal.defs _ _).mono (fun r h c => ?_) (Cert.Reference7Ideal.Value.run (F := Ideal) m' g')
    obtain ⟨e0, e1, e2⟩ := hargs c
    refine ⟨(h c).1.trans ?_, (h c).2.1.trans ?_, (h c).2.2⟩
    · rw [e0, e1]
      exact Cert.Reference7Ideal.Refer.ref0 _ _
    · rw [Cert.Reference7Ideal.Value.res_main_v23, e0, e1, e2]
      exact Cert.Reference7Ideal.Refer.ref1 _ _ _

/-- Of the sparse attention's queries: the reference's run. -/
theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- Of the sparse attention's queries: the value claim. -/
theorem algebraic8 : Cert.algebraic_Kernel8Ideal_Reference8Ideal_pre_finite_slope (hPre_finite_slope := Cert.Pre_finite_slope.facts) := by
  intro m g m' g' hpre hargs
  refine ⟨fun c => Cert.Kernel8Ideal.Queries.OUT (Cert.Kernel8Ideal.Queries.A0 m c) (Cert.Kernel8Ideal.Queries.A1 m c) (Cert.Kernel8Ideal.Queries.A2 m c) (Cert.Kernel8Ideal.Queries.A3 m c), ?_, ?_⟩
  · refine (θ_run Cert.Kernel8Ideal.defs _ _).mono (fun r h c => ?_) (Cert.Kernel8Ideal.Value.run_blocks m g)
    exact ⟨(h c).1.trans (Cert.Kernel8Ideal.Queries.final m c fun x => Cert.Pre_finite_slope.finite_of _ _ _ _ Cert.Pre_finite_slope.facts (hpre c) (ix1 x)), (h c).2⟩
  · refine (θ_run Cert.Reference8Ideal.defs _ _).mono (fun r h c => ?_) (Cert.Reference8Ideal.Value.run (F := Ideal) m' g')
    refine ⟨(h c).1.trans ?_, (h c).2⟩
    obtain ⟨e0, e1, e2, e3⟩ := hargs c
    rw [e0, e1, e2, e3]
    exact Cert.Reference8Ideal.Refer.ref _ _ _ _

/-- The reciprocal of the head's width is a named constant. -/
theorem preserves8 : Cert.preserves_Kernel8_Kernel8Ideal :=
  IdealRules.named_const.statement Cert.Kernel8Ideal.κ "inv_head" .f32 0x3BAAAAAB#32 ((1 / 192 : ℝ) : EReal) rfl

/-- Of the decay: the reference's run. -/
theorem frame_ri9 : Cert.quiescent_Reference9Ideal := fun m ρ _ =>
  (θ_run Cert.Reference9Ideal.defs _ _).mono (fun r h => ⟨fun c => (h c).2.2,
      Idealize.ShloMosaic.sem_eq_zero_of_no_sems (by decide) r.2⟩)
    (Cert.Reference9Ideal.Value.run (F := Ideal) m ρ)

/-- Of the decay: the value claim. -/
theorem algebraic9 : Cert.algebraic_Kernel9Ideal_Reference9Ideal_pre_finite_logits (hPre_finite_logits := Cert.Pre_finite_logits.facts) := by
  intro m g m' g' hpre hargs
  have hz : ∀ c n i k, Cert.Kernel9Ideal.Decay.logit (Cert.Kernel9Ideal.Decay.A0 m c) (Cert.Kernel9Ideal.Decay.A1 m c) n i k ≠ ⊥ := fun c n i k =>
    Cert.Pre_finite_logits.finite_of _ _ Cert.Pre_finite_logits.facts (hpre c) n i k
  refine ⟨fun c => Cert.Kernel9Ideal.Decay.KEYS (Cert.Kernel9Ideal.Decay.A0 m c) (Cert.Kernel9Ideal.Decay.A1 m c), fun c => Cert.Kernel9Ideal.Decay.DEC (Cert.Kernel9Ideal.Decay.A0 m c) (Cert.Kernel9Ideal.Decay.A1 m c), ?_, ?_⟩
  · refine (θ_run Cert.Kernel9Ideal.defs _ _).mono (fun r h c => ?_) (Cert.Kernel9Ideal.Value.run_blocks m g)
    exact ⟨(h c).1.trans (Cert.Kernel9Ideal.Decay.final0 m c (hz c)), (h c).2.1.trans (Cert.Kernel9Ideal.Decay.final1 m c (hz c)), (h c).2.2⟩
  · refine (θ_run Cert.Reference9Ideal.defs _ _).mono (fun r h c => ?_) (Cert.Reference9Ideal.Value.run (F := Ideal) m' g')
    obtain ⟨e0, e1⟩ := hargs c
    refine ⟨(h c).1.trans ?_, (h c).2.1.trans ?_, (h c).2.2⟩
    · rw [e0, e1]
      exact Cert.Reference9Ideal.Refer.ref0 _ _ (hz c)
    · rw [e0, e1]
      exact Cert.Reference9Ideal.Refer.ref1 _ _ (hz c)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.facts, Cert.Pre_finite_slope.facts, Cert.Pre_finite_logits.facts,
    fun m ρ _ => Cert.Kernel.Gen.frame m ρ,
    fun m ρ _ => Cert.KernelIdeal.Gen.frame m ρ,
    fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_ri6,
    fun m ρ _ => Cert.Kernel7.Gen.frame m ρ, fun m ρ _ => Cert.Kernel7Ideal.Gen.frame m ρ, frame_ri7,
    fun m ρ _ => Cert.Kernel8.Gen.frame m ρ, fun m ρ _ => Cert.Kernel8Ideal.Gen.frame m ρ, fun m ρ _ => Cert.Kernel8Ideal.Gen.frame m ρ,
    frame_ri8, fun m ρ _ => frame_ri8 m ρ trivial,
    fun m ρ _ => Cert.Kernel9.Gen.frame m ρ, fun m ρ _ => Cert.Kernel9Ideal.Gen.frame m ρ, fun m ρ _ => Cert.Kernel9Ideal.Gen.frame m ρ,
    frame_ri9, fun m ρ _ => frame_ri9 m ρ trivial,
    preserves, algebraic,
    trivial, algebraic2,
    trivial, algebraic3,
    trivial, algebraic4,
    trivial, algebraic5,
    trivial, algebraic6,
    trivial, algebraic7,
    preserves8, algebraic8,
    trivial, algebraic9⟩

end Cert.Proof

end
